-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x1024 : Shape := ⟨3, ![4, 8192, 1024]⟩
abbrev S4x8192 : Shape := ⟨2, ![4, 8192]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : IVec S4x8192 1) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4x8192x1024 : Shape := ⟨3, ![4, 8192, 1024]⟩
abbrev S4x8192 : Shape := ⟨2, ![4, 8192]⟩
abbrev S1024 : Shape := ⟨1, ![1024]⟩
abbrev S32768x1024 : Shape := ⟨2, ![32768, 1024]⟩
abbrev S32768 : Shape := ⟨1, ![32768]⟩
abbrev S32x3x1024 : Shape := ⟨3, ![32, 3, 1024]⟩
abbrev S32x1024 : Shape := ⟨2, ![32, 1024]⟩
abbrev S3x1024 : Shape := ⟨2, ![3, 1024]⟩
abbrev S_ : Shape := ⟨0, ![]⟩
abbrev S16 : Shape := ⟨1, ![16]⟩
abbrev S1x16 : Shape := ⟨2, ![1, 16]⟩
abbrev S1 : Shape := ⟨1, ![1]⟩
abbrev S1x3x1024 : Shape := ⟨3, ![1, 3, 1024]⟩
abbrev S1x1024 : Shape := ⟨2, ![1, 1024]⟩
abbrev S32x1x1024 : Shape := ⟨3, ![32, 1, 1024]⟩
abbrev S1x32x1024 : Shape := ⟨3, ![1, 32, 1024]⟩
abbrev S1x1x1 : Shape := ⟨3, ![1, 1, 1]⟩

abbrev nBuf : Table → Nat
  | .hbm => 14
  | .local .tc .vmem => 5
  | .local .scVector .vmem => 9
  | _ => 0

abbrev bufTy : (tb : Table) → Fin (nBuf tb) → BufTy
  | .hbm, ⟨0, _⟩ => ⟨S4x8192x1024, .f32⟩
  | .hbm, ⟨1, _⟩ => ⟨S4x8192, .i1⟩
  | .hbm, ⟨2, _⟩ => ⟨S1024, .f32⟩
  | .hbm, ⟨3, _⟩ => ⟨S1024, .f32⟩
  | .hbm, ⟨4, _⟩ => ⟨S32768x1024, .f32⟩
  | .hbm, ⟨5, _⟩ => ⟨S32768, .i1⟩
  | .hbm, ⟨6, _⟩ => ⟨S32768, .f32⟩
  | .hbm, ⟨7, _⟩ => ⟨S32x3x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S4x8192x1024, .f32⟩
  | .local .tc .vmem, ⟨0, _⟩ => ⟨S32x3x1024, .f32⟩
  | .local .tc .vmem, ⟨1, _⟩ => ⟨S1x1024, .f32⟩
  | .local .tc .vmem, ⟨2, _⟩ => ⟨S1x1024, .f32⟩
  | .local .tc .vmem, ⟨3, _⟩ => ⟨S1x1024, .f32⟩
  | .local .tc .vmem, ⟨4, _⟩ => ⟨S1x1024, .f32⟩
  | .local .scVector .vmem, ⟨0, _⟩ => ⟨S32x1024, .f32⟩
  | .local .scVector .vmem, ⟨1, _⟩ => ⟨S32x1024, .f32⟩
  | .local .scVector .vmem, ⟨2, _⟩ => ⟨S1024, .f32⟩
  | .local .scVector .vmem, ⟨3, _⟩ => ⟨S3x1024, .f32⟩
  | .local .scVector .vmem, ⟨4, _⟩ => ⟨S32x1024, .f32⟩
  | .local .scVector .vmem, ⟨5, _⟩ => ⟨S32x1024, .f32⟩
  | .local .scVector .vmem, ⟨6, _⟩ => ⟨S1024, .f32⟩
  | .local .scVector .vmem, ⟨7, _⟩ => ⟨S1x1024, .f32⟩
  | .local .scVector .vmem, ⟨8, _⟩ => ⟨S1x1024, .f32⟩
  | _, _ => ⟨S4x8192x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 4, rfl⟩
abbrev main_v2_scv : Ref sig .scVector := ⟨.hbm, 6, rfl⟩
abbrev main_v3_scv : Ref sig .scVector := ⟨.hbm, 7, rfl⟩
abbrev main_v6_0_scv : Ref sig .scVector := ⟨.hbm, 10, rfl⟩
abbrev main_v6_1_scv : Ref sig .scVector := ⟨.hbm, 11, rfl⟩
abbrev main_v7_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc2_scratch4 : Ref sig .scVector := ⟨.vmem, 8, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off2 (k0_t1 : Fin k0_t1_loop.trips) : Fin 2 → Nat :=
  let c0_i32_15 : BitVec 32 := 0#32
  let v14 : Index := Scalar.indexCast c0_i32_15
  let c0_i32_0 : BitVec 32 := 0#32
  let c1_i32 : BitVec 32 := 1#32
  let arg11 : BitVec 32 := Scf.iv c0_i32_0 c1_i32 k0_t1
  let c16_i32_14 : BitVec 32 := 16#32
  let v13 : BitVec 32 := Scalar.muli arg11 c16_i32_14
  let v15 : Index := Scalar.indexCast v13
  ![0, v15.toNat]
def k0_off3 (k0_t1 : Fin k0_t1_loop.trips) : Fin 2 → Nat :=
  let c1_i32_17 : BitVec 32 := 1#32
  let v20 : Index := Scalar.indexCast c1_i32_17
  let c0_i32_0 : BitVec 32 := 0#32
  let c1_i32 : BitVec 32 := 1#32
  let arg11 : BitVec 32 := Scf.iv c0_i32_0 c1_i32 k0_t1
  let c16_i32_16 : BitVec 32 := 16#32
  let v19 : BitVec 32 := Scalar.muli arg11 c16_i32_16
  let v21 : Index := Scalar.indexCast v19
  ![1, v21.toNat]
def k0_off4 (k0_t1 : Fin k0_t1_loop.trips) : Fin 2 → Nat :=
  let c2_i32_19 : BitVec 32 := 2#32
  let v26 : Index := Scalar.indexCast c2_i32_19
  let c0_i32_0 : BitVec 32 := 0#32
  let c1_i32 : BitVec 32 := 1#32
  let arg11 : BitVec 32 := Scf.iv c0_i32_0 c1_i32 k0_t1
  let c16_i32_18 : BitVec 32 := 16#32
  let v25 : BitVec 32 := Scalar.muli arg11 c16_i32_18
  let v27 : Index := Scalar.indexCast v25
  ![2, v27.toNat]
@[reducible] def k0_t2_loop : Scf.Loop 32 :=
  let c0_i32_3 : BitVec 32 := 0#32
  let c64_i32_4 : BitVec 32 := 64#32
  let v6 : BitVec 32 := Scalar.addi c0_i32_3 c64_i32_4
  let c1_i32_5 : BitVec 32 := 1#32
  ⟨c0_i32_3, v6, c1_i32_5⟩
def k0_off5 (k0_t2 : Fin k0_t2_loop.trips) : Fin 1 → Nat :=
  let c0_i32_3 : BitVec 32 := 0#32
  let c1_i32_5 : BitVec 32 := 1#32
  let arg11 : BitVec 32 := Scf.iv c0_i32_3 c1_i32_5 k0_t2
  let c16_i32_15 : BitVec 32 := 16#32
  let v16 : BitVec 32 := Scalar.muli arg11 c16_i32_15
  let v17 : Index := Scalar.indexCast v16
  ![v17.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_7 : BitVec 32 := 0#32
  let v8 : BitVec 32 := Scalar.addi v2 c0_i32_7
  let c0_i32_8 : BitVec 32 := 0#32
  ![v8.toNat, 0]
@[reducible] def k0_t3_loop : Scf.Loop 32 :=
  let c0_i32_11 : BitVec 32 := 0#32
  let c16_i32 : BitVec 32 := 16#32
  let v11 : BitVec 32 := Scalar.addi c0_i32_11 c16_i32
  let c1_i32_12 : BitVec 32 := 1#32
  ⟨c0_i32_11, v11, c1_i32_12⟩
def k0_off7 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_14 : BitVec 32 := 2#32
  let c0_i32_11 : BitVec 32 := 0#32
  let c1_i32_12 : BitVec 32 := 1#32
  let arg11 : BitVec 32 := Scf.iv c0_i32_11 c1_i32_12 k0_t3
  let v13 : BitVec 32 := Scalar.muli c2_i32_14 arg11
  let c1_i32_15 : BitVec 32 := 1#32
  let v14 : BitVec 32 := Scalar.addi v13 c1_i32_15
  let c32_i32 : BitVec 32 := 32#32
  let v15 : BitVec 32 := Scalar.muli v14 c32_i32
  let v16 : BitVec 32 := Scalar.addi v2 v15
  let c0_i32_16 : BitVec 32 := 0#32
  ![v16.toNat, 0]
def k0_off8 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_14 : BitVec 32 := 2#32
  let c0_i32_11 : BitVec 32 := 0#32
  let c1_i32_12 : BitVec 32 := 1#32
  let arg11 : BitVec 32 := Scf.iv c0_i32_11 c1_i32_12 k0_t3
  let v13 : BitVec 32 := Scalar.muli c2_i32_14 arg11
  let c32_i32_18 : BitVec 32 := 32#32
  let v19 : BitVec 32 := Scalar.muli v13 c32_i32_18
  let v20 : BitVec 32 := Scalar.addi v2 v19
  let c0_i32_19 : BitVec 32 := 0#32
  ![v20.toNat, 0]
@[reducible] def k0_t4_loop : Scf.Loop 32 :=
  let c0_i32_22 : BitVec 32 := 0#32
  let c2_i32_23 : BitVec 32 := 2#32
  let v23 : BitVec 32 := Scalar.addi c0_i32_22 c2_i32_23
  let c1_i32_24 : BitVec 32 := 1#32
  ⟨c0_i32_22, v23, c1_i32_24⟩
def k0_off9 (k0_t3 : Fin k0_t3_loop.trips) (k0_t4 : Fin k0_t4_loop.trips) : Fin 1 → Nat :=
  let c2_i32_14 : BitVec 32 := 2#32
  let c0_i32_11 : BitVec 32 := 0#32
  let c1_i32_12 : BitVec 32 := 1#32
  let arg11 : BitVec 32 := Scf.iv c0_i32_11 c1_i32_12 k0_t3
  let v13 : BitVec 32 := Scalar.muli c2_i32_14 arg11
  let c32_i32_38 : BitVec 32 := 32#32
  let v36 : BitVec 32 := Scalar.muli v13 c32_i32_38
  let c0_i32_22 : BitVec 32 := 0#32
  let c1_i32_24 : BitVec 32 := 1#32
  let arg13 : BitVec 32 := Scf.iv c0_i32_22 c1_i32_24 k0_t4
  let c16_i32_39 : BitVec 32 := 16#32
  let v37 : BitVec 32 := Scalar.muli arg13 c16_i32_39
  let v38 : BitVec 32 := Scalar.addi v36 v37
  let v39 : Index := Scalar.indexCast v38
  ![v39.toNat]
@[reducible] def k0_t5_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off10 (k0_t4 : Fin k0_t4_loop.trips) (k0_t5 : Fin k0_t5_loop.trips) : Fin 2 → Nat :=
  let c0_i32_22 : BitVec 32 := 0#32
  let c1_i32_24 : BitVec 32 := 1#32
  let arg13 : BitVec 32 := Scf.iv c0_i32_22 c1_i32_24 k0_t4
  let c16_i32_40 : BitVec 32 := 16#32
  let v42 : BitVec 32 := Scalar.muli arg13 c16_i32_40
  let c0_i32_41 : BitVec 32 := 0#32
  let v43 : BitVec 32 := Scalar.addi v42 c0_i32_41
  let v157 : Index := Scalar.indexCast v43
  let c0_i32_94 : BitVec 32 := 0#32
  let c1_i32_96 : BitVec 32 := 1#32
  let arg15 : BitVec 32 := Scf.iv c0_i32_94 c1_i32_96 k0_t5
  let c16_i32_98 : BitVec 32 := 16#32
  let v156 : BitVec 32 := Scalar.muli arg15 c16_i32_98
  let v158 : Index := Scalar.indexCast v156
  ![v157.toNat, v158.toNat]
def k0_off11 (k0_t5 : Fin k0_t5_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t5
  let c16_i32_99 : BitVec 32 := 16#32
  let v161 : BitVec 32 := Scalar.muli arg15 c16_i32_99
  let v163 : Index := Scalar.indexCast v161
  ![0, v163.toNat]
def k0_off12 (k0_t5 : Fin k0_t5_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t5
  let c16_i32_103 : BitVec 32 := 16#32
  let v173 : BitVec 32 := Scalar.muli arg15 c16_i32_103
  let v175 : Index := Scalar.indexCast v173
  ![1, v175.toNat]
@[reducible] def k0_t6_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off13 (k0_t4 : Fin k0_t4_loop.trips) (k0_t6 : Fin k0_t6_loop.trips) : Fin 2 → Nat :=
  let c0_i32_22 : BitVec 32 := 0#32
  let c1_i32_24 : BitVec 32 := 1#32
  let arg13 : BitVec 32 := Scf.iv c0_i32_22 c1_i32_24 k0_t4
  let c16_i32_44 : BitVec 32 := 16#32
  let v49 : BitVec 32 := Scalar.muli arg13 c16_i32_44
  let c1_i32_45 : BitVec 32 := 1#32
  let v50 : BitVec 32 := Scalar.addi v49 c1_i32_45
  let v157 : Index := Scalar.indexCast v50
  let c0_i32_94 : BitVec 32 := 0#32
  let c1_i32_96 : BitVec 32 := 1#32
  let arg15 : BitVec 32 := Scf.iv c0_i32_94 c1_i32_96 k0_t6
  let c16_i32_98 : BitVec 32 := 16#32
  let v156 : BitVec 32 := Scalar.muli arg15 c16_i32_98
  let v158 : Index := Scalar.indexCast v156
  ![v157.toNat, v158.toNat]
def k0_off14 (k0_t6 : Fin k0_t6_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t6
  let c16_i32_99 : BitVec 32 := 16#32
  let v161 : BitVec 32 := Scalar.muli arg15 c16_i32_99
  let v163 : Index := Scalar.indexCast v161
  ![0, v163.toNat]
def k0_off15 (k0_t6 : Fin k0_t6_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t6
  let c16_i32_103 : BitVec 32 := 16#32
  let v173 : BitVec 32 := Scalar.muli arg15 c16_i32_103
  let v175 : Index := Scalar.indexCast v173
  ![1, v175.toNat]
@[reducible] def k0_t7_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off16 (k0_t4 : Fin k0_t4_loop.trips) (k0_t7 : Fin k0_t7_loop.trips) : Fin 2 → Nat :=
  let c0_i32_22 : BitVec 32 := 0#32
  let c1_i32_24 : BitVec 32 := 1#32
  let arg13 : BitVec 32 := Scf.iv c0_i32_22 c1_i32_24 k0_t4
  let c16_i32_48 : BitVec 32 := 16#32
  let v56 : BitVec 32 := Scalar.muli arg13 c16_i32_48
  let c2_i32_49 : BitVec 32 := 2#32
  let v57 : BitVec 32 := Scalar.addi v56 c2_i32_49
  let v157 : Index := Scalar.indexCast v57
  let c0_i32_94 : BitVec 32 := 0#32
  let c1_i32_96 : BitVec 32 := 1#32
  let arg15 : BitVec 32 := Scf.iv c0_i32_94 c1_i32_96 k0_t7
  let c16_i32_98 : BitVec 32 := 16#32
  let v156 : BitVec 32 := Scalar.muli arg15 c16_i32_98
  let v158 : Index := Scalar.indexCast v156
  ![v157.toNat, v158.toNat]
def k0_off17 (k0_t7 : Fin k0_t7_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t7
  let c16_i32_99 : BitVec 32 := 16#32
  let v161 : BitVec 32 := Scalar.muli arg15 c16_i32_99
  let v163 : Index := Scalar.indexCast v161
  ![0, v163.toNat]
def k0_off18 (k0_t7 : Fin k0_t7_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t7
  let c16_i32_103 : BitVec 32 := 16#32
  let v173 : BitVec 32 := Scalar.muli arg15 c16_i32_103
  let v175 : Index := Scalar.indexCast v173
  ![1, v175.toNat]
@[reducible] def k0_t8_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off19 (k0_t4 : Fin k0_t4_loop.trips) (k0_t8 : Fin k0_t8_loop.trips) : Fin 2 → Nat :=
  let c0_i32_22 : BitVec 32 := 0#32
  let c1_i32_24 : BitVec 32 := 1#32
  let arg13 : BitVec 32 := Scf.iv c0_i32_22 c1_i32_24 k0_t4
  let c16_i32_52 : BitVec 32 := 16#32
  let v63 : BitVec 32 := Scalar.muli arg13 c16_i32_52
  let c3_i32 : BitVec 32 := 3#32
  let v64 : BitVec 32 := Scalar.addi v63 c3_i32
  let v157 : Index := Scalar.indexCast v64
  let c0_i32_94 : BitVec 32 := 0#32
  let c1_i32_96 : BitVec 32 := 1#32
  let arg15 : BitVec 32 := Scf.iv c0_i32_94 c1_i32_96 k0_t8
  let c16_i32_98 : BitVec 32 := 16#32
  let v156 : BitVec 32 := Scalar.muli arg15 c16_i32_98
  let v158 : Index := Scalar.indexCast v156
  ![v157.toNat, v158.toNat]
def k0_off20 (k0_t8 : Fin k0_t8_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t8
  let c16_i32_99 : BitVec 32 := 16#32
  let v161 : BitVec 32 := Scalar.muli arg15 c16_i32_99
  let v163 : Index := Scalar.indexCast v161
  ![0, v163.toNat]
def k0_off21 (k0_t8 : Fin k0_t8_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t8
  let c16_i32_103 : BitVec 32 := 16#32
  let v173 : BitVec 32 := Scalar.muli arg15 c16_i32_103
  let v175 : Index := Scalar.indexCast v173
  ![1, v175.toNat]
@[reducible] def k0_t9_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off22 (k0_t4 : Fin k0_t4_loop.trips) (k0_t9 : Fin k0_t9_loop.trips) : Fin 2 → Nat :=
  let c0_i32_22 : BitVec 32 := 0#32
  let c1_i32_24 : BitVec 32 := 1#32
  let arg13 : BitVec 32 := Scf.iv c0_i32_22 c1_i32_24 k0_t4
  let c16_i32_55 : BitVec 32 := 16#32
  let v70 : BitVec 32 := Scalar.muli arg13 c16_i32_55
  let c4_i32 : BitVec 32 := 4#32
  let v71 : BitVec 32 := Scalar.addi v70 c4_i32
  let v157 : Index := Scalar.indexCast v71
  let c0_i32_94 : BitVec 32 := 0#32
  let c1_i32_96 : BitVec 32 := 1#32
  let arg15 : BitVec 32 := Scf.iv c0_i32_94 c1_i32_96 k0_t9
  let c16_i32_98 : BitVec 32 := 16#32
  let v156 : BitVec 32 := Scalar.muli arg15 c16_i32_98
  let v158 : Index := Scalar.indexCast v156
  ![v157.toNat, v158.toNat]
def k0_off23 (k0_t9 : Fin k0_t9_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t9
  let c16_i32_99 : BitVec 32 := 16#32
  let v161 : BitVec 32 := Scalar.muli arg15 c16_i32_99
  let v163 : Index := Scalar.indexCast v161
  ![0, v163.toNat]
def k0_off24 (k0_t9 : Fin k0_t9_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t9
  let c16_i32_103 : BitVec 32 := 16#32
  let v173 : BitVec 32 := Scalar.muli arg15 c16_i32_103
  let v175 : Index := Scalar.indexCast v173
  ![1, v175.toNat]
@[reducible] def k0_t10_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off25 (k0_t4 : Fin k0_t4_loop.trips) (k0_t10 : Fin k0_t10_loop.trips) : Fin 2 → Nat :=
  let c0_i32_22 : BitVec 32 := 0#32
  let c1_i32_24 : BitVec 32 := 1#32
  let arg13 : BitVec 32 := Scf.iv c0_i32_22 c1_i32_24 k0_t4
  let c16_i32_58 : BitVec 32 := 16#32
  let v77 : BitVec 32 := Scalar.muli arg13 c16_i32_58
  let c5_i32 : BitVec 32 := 5#32
  let v78 : BitVec 32 := Scalar.addi v77 c5_i32
  let v157 : Index := Scalar.indexCast v78
  let c0_i32_94 : BitVec 32 := 0#32
  let c1_i32_96 : BitVec 32 := 1#32
  let arg15 : BitVec 32 := Scf.iv c0_i32_94 c1_i32_96 k0_t10
  let c16_i32_98 : BitVec 32 := 16#32
  let v156 : BitVec 32 := Scalar.muli arg15 c16_i32_98
  let v158 : Index := Scalar.indexCast v156
  ![v157.toNat, v158.toNat]
def k0_off26 (k0_t10 : Fin k0_t10_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t10
  let c16_i32_99 : BitVec 32 := 16#32
  let v161 : BitVec 32 := Scalar.muli arg15 c16_i32_99
  let v163 : Index := Scalar.indexCast v161
  ![0, v163.toNat]
def k0_off27 (k0_t10 : Fin k0_t10_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t10
  let c16_i32_103 : BitVec 32 := 16#32
  let v173 : BitVec 32 := Scalar.muli arg15 c16_i32_103
  let v175 : Index := Scalar.indexCast v173
  ![1, v175.toNat]
@[reducible] def k0_t11_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off28 (k0_t4 : Fin k0_t4_loop.trips) (k0_t11 : Fin k0_t11_loop.trips) : Fin 2 → Nat :=
  let c0_i32_22 : BitVec 32 := 0#32
  let c1_i32_24 : BitVec 32 := 1#32
  let arg13 : BitVec 32 := Scf.iv c0_i32_22 c1_i32_24 k0_t4
  let c16_i32_61 : BitVec 32 := 16#32
  let v84 : BitVec 32 := Scalar.muli arg13 c16_i32_61
  let c6_i32 : BitVec 32 := 6#32
  let v85 : BitVec 32 := Scalar.addi v84 c6_i32
  let v157 : Index := Scalar.indexCast v85
  let c0_i32_94 : BitVec 32 := 0#32
  let c1_i32_96 : BitVec 32 := 1#32
  let arg15 : BitVec 32 := Scf.iv c0_i32_94 c1_i32_96 k0_t11
  let c16_i32_98 : BitVec 32 := 16#32
  let v156 : BitVec 32 := Scalar.muli arg15 c16_i32_98
  let v158 : Index := Scalar.indexCast v156
  ![v157.toNat, v158.toNat]
def k0_off29 (k0_t11 : Fin k0_t11_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t11
  let c16_i32_99 : BitVec 32 := 16#32
  let v161 : BitVec 32 := Scalar.muli arg15 c16_i32_99
  let v163 : Index := Scalar.indexCast v161
  ![0, v163.toNat]
def k0_off30 (k0_t11 : Fin k0_t11_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t11
  let c16_i32_103 : BitVec 32 := 16#32
  let v173 : BitVec 32 := Scalar.muli arg15 c16_i32_103
  let v175 : Index := Scalar.indexCast v173
  ![1, v175.toNat]
@[reducible] def k0_t12_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off31 (k0_t4 : Fin k0_t4_loop.trips) (k0_t12 : Fin k0_t12_loop.trips) : Fin 2 → Nat :=
  let c0_i32_22 : BitVec 32 := 0#32
  let c1_i32_24 : BitVec 32 := 1#32
  let arg13 : BitVec 32 := Scf.iv c0_i32_22 c1_i32_24 k0_t4
  let c16_i32_64 : BitVec 32 := 16#32
  let v91 : BitVec 32 := Scalar.muli arg13 c16_i32_64
  let c7_i32 : BitVec 32 := 7#32
  let v92 : BitVec 32 := Scalar.addi v91 c7_i32
  let v157 : Index := Scalar.indexCast v92
  let c0_i32_94 : BitVec 32 := 0#32
  let c1_i32_96 : BitVec 32 := 1#32
  let arg15 : BitVec 32 := Scf.iv c0_i32_94 c1_i32_96 k0_t12
  let c16_i32_98 : BitVec 32 := 16#32
  let v156 : BitVec 32 := Scalar.muli arg15 c16_i32_98
  let v158 : Index := Scalar.indexCast v156
  ![v157.toNat, v158.toNat]
def k0_off32 (k0_t12 : Fin k0_t12_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t12
  let c16_i32_99 : BitVec 32 := 16#32
  let v161 : BitVec 32 := Scalar.muli arg15 c16_i32_99
  let v163 : Index := Scalar.indexCast v161
  ![0, v163.toNat]
def k0_off33 (k0_t12 : Fin k0_t12_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t12
  let c16_i32_103 : BitVec 32 := 16#32
  let v173 : BitVec 32 := Scalar.muli arg15 c16_i32_103
  let v175 : Index := Scalar.indexCast v173
  ![1, v175.toNat]
@[reducible] def k0_t13_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off34 (k0_t4 : Fin k0_t4_loop.trips) (k0_t13 : Fin k0_t13_loop.trips) : Fin 2 → Nat :=
  let c0_i32_22 : BitVec 32 := 0#32
  let c1_i32_24 : BitVec 32 := 1#32
  let arg13 : BitVec 32 := Scf.iv c0_i32_22 c1_i32_24 k0_t4
  let c16_i32_67 : BitVec 32 := 16#32
  let v98 : BitVec 32 := Scalar.muli arg13 c16_i32_67
  let c8_i32 : BitVec 32 := 8#32
  let v99 : BitVec 32 := Scalar.addi v98 c8_i32
  let v157 : Index := Scalar.indexCast v99
  let c0_i32_94 : BitVec 32 := 0#32
  let c1_i32_96 : BitVec 32 := 1#32
  let arg15 : BitVec 32 := Scf.iv c0_i32_94 c1_i32_96 k0_t13
  let c16_i32_98 : BitVec 32 := 16#32
  let v156 : BitVec 32 := Scalar.muli arg15 c16_i32_98
  let v158 : Index := Scalar.indexCast v156
  ![v157.toNat, v158.toNat]
def k0_off35 (k0_t13 : Fin k0_t13_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t13
  let c16_i32_99 : BitVec 32 := 16#32
  let v161 : BitVec 32 := Scalar.muli arg15 c16_i32_99
  let v163 : Index := Scalar.indexCast v161
  ![0, v163.toNat]
def k0_off36 (k0_t13 : Fin k0_t13_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t13
  let c16_i32_103 : BitVec 32 := 16#32
  let v173 : BitVec 32 := Scalar.muli arg15 c16_i32_103
  let v175 : Index := Scalar.indexCast v173
  ![1, v175.toNat]
@[reducible] def k0_t14_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off37 (k0_t4 : Fin k0_t4_loop.trips) (k0_t14 : Fin k0_t14_loop.trips) : Fin 2 → Nat :=
  let c0_i32_22 : BitVec 32 := 0#32
  let c1_i32_24 : BitVec 32 := 1#32
  let arg13 : BitVec 32 := Scf.iv c0_i32_22 c1_i32_24 k0_t4
  let c16_i32_70 : BitVec 32 := 16#32
  let v105 : BitVec 32 := Scalar.muli arg13 c16_i32_70
  let c9_i32 : BitVec 32 := 9#32
  let v106 : BitVec 32 := Scalar.addi v105 c9_i32
  let v157 : Index := Scalar.indexCast v106
  let c0_i32_94 : BitVec 32 := 0#32
  let c1_i32_96 : BitVec 32 := 1#32
  let arg15 : BitVec 32 := Scf.iv c0_i32_94 c1_i32_96 k0_t14
  let c16_i32_98 : BitVec 32 := 16#32
  let v156 : BitVec 32 := Scalar.muli arg15 c16_i32_98
  let v158 : Index := Scalar.indexCast v156
  ![v157.toNat, v158.toNat]
def k0_off38 (k0_t14 : Fin k0_t14_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t14
  let c16_i32_99 : BitVec 32 := 16#32
  let v161 : BitVec 32 := Scalar.muli arg15 c16_i32_99
  let v163 : Index := Scalar.indexCast v161
  ![0, v163.toNat]
def k0_off39 (k0_t14 : Fin k0_t14_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t14
  let c16_i32_103 : BitVec 32 := 16#32
  let v173 : BitVec 32 := Scalar.muli arg15 c16_i32_103
  let v175 : Index := Scalar.indexCast v173
  ![1, v175.toNat]
@[reducible] def k0_t15_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off40 (k0_t4 : Fin k0_t4_loop.trips) (k0_t15 : Fin k0_t15_loop.trips) : Fin 2 → Nat :=
  let c0_i32_22 : BitVec 32 := 0#32
  let c1_i32_24 : BitVec 32 := 1#32
  let arg13 : BitVec 32 := Scf.iv c0_i32_22 c1_i32_24 k0_t4
  let c16_i32_73 : BitVec 32 := 16#32
  let v112 : BitVec 32 := Scalar.muli arg13 c16_i32_73
  let c10_i32 : BitVec 32 := 10#32
  let v113 : BitVec 32 := Scalar.addi v112 c10_i32
  let v157 : Index := Scalar.indexCast v113
  let c0_i32_94 : BitVec 32 := 0#32
  let c1_i32_96 : BitVec 32 := 1#32
  let arg15 : BitVec 32 := Scf.iv c0_i32_94 c1_i32_96 k0_t15
  let c16_i32_98 : BitVec 32 := 16#32
  let v156 : BitVec 32 := Scalar.muli arg15 c16_i32_98
  let v158 : Index := Scalar.indexCast v156
  ![v157.toNat, v158.toNat]
def k0_off41 (k0_t15 : Fin k0_t15_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t15
  let c16_i32_99 : BitVec 32 := 16#32
  let v161 : BitVec 32 := Scalar.muli arg15 c16_i32_99
  let v163 : Index := Scalar.indexCast v161
  ![0, v163.toNat]
def k0_off42 (k0_t15 : Fin k0_t15_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t15
  let c16_i32_103 : BitVec 32 := 16#32
  let v173 : BitVec 32 := Scalar.muli arg15 c16_i32_103
  let v175 : Index := Scalar.indexCast v173
  ![1, v175.toNat]
@[reducible] def k0_t16_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off43 (k0_t4 : Fin k0_t4_loop.trips) (k0_t16 : Fin k0_t16_loop.trips) : Fin 2 → Nat :=
  let c0_i32_22 : BitVec 32 := 0#32
  let c1_i32_24 : BitVec 32 := 1#32
  let arg13 : BitVec 32 := Scf.iv c0_i32_22 c1_i32_24 k0_t4
  let c16_i32_76 : BitVec 32 := 16#32
  let v119 : BitVec 32 := Scalar.muli arg13 c16_i32_76
  let c11_i32 : BitVec 32 := 11#32
  let v120 : BitVec 32 := Scalar.addi v119 c11_i32
  let v157 : Index := Scalar.indexCast v120
  let c0_i32_94 : BitVec 32 := 0#32
  let c1_i32_96 : BitVec 32 := 1#32
  let arg15 : BitVec 32 := Scf.iv c0_i32_94 c1_i32_96 k0_t16
  let c16_i32_98 : BitVec 32 := 16#32
  let v156 : BitVec 32 := Scalar.muli arg15 c16_i32_98
  let v158 : Index := Scalar.indexCast v156
  ![v157.toNat, v158.toNat]
def k0_off44 (k0_t16 : Fin k0_t16_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t16
  let c16_i32_99 : BitVec 32 := 16#32
  let v161 : BitVec 32 := Scalar.muli arg15 c16_i32_99
  let v163 : Index := Scalar.indexCast v161
  ![0, v163.toNat]
def k0_off45 (k0_t16 : Fin k0_t16_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t16
  let c16_i32_103 : BitVec 32 := 16#32
  let v173 : BitVec 32 := Scalar.muli arg15 c16_i32_103
  let v175 : Index := Scalar.indexCast v173
  ![1, v175.toNat]
@[reducible] def k0_t17_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off46 (k0_t4 : Fin k0_t4_loop.trips) (k0_t17 : Fin k0_t17_loop.trips) : Fin 2 → Nat :=
  let c0_i32_22 : BitVec 32 := 0#32
  let c1_i32_24 : BitVec 32 := 1#32
  let arg13 : BitVec 32 := Scf.iv c0_i32_22 c1_i32_24 k0_t4
  let c16_i32_79 : BitVec 32 := 16#32
  let v126 : BitVec 32 := Scalar.muli arg13 c16_i32_79
  let c12_i32 : BitVec 32 := 12#32
  let v127 : BitVec 32 := Scalar.addi v126 c12_i32
  let v157 : Index := Scalar.indexCast v127
  let c0_i32_94 : BitVec 32 := 0#32
  let c1_i32_96 : BitVec 32 := 1#32
  let arg15 : BitVec 32 := Scf.iv c0_i32_94 c1_i32_96 k0_t17
  let c16_i32_98 : BitVec 32 := 16#32
  let v156 : BitVec 32 := Scalar.muli arg15 c16_i32_98
  let v158 : Index := Scalar.indexCast v156
  ![v157.toNat, v158.toNat]
def k0_off47 (k0_t17 : Fin k0_t17_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t17
  let c16_i32_99 : BitVec 32 := 16#32
  let v161 : BitVec 32 := Scalar.muli arg15 c16_i32_99
  let v163 : Index := Scalar.indexCast v161
  ![0, v163.toNat]
def k0_off48 (k0_t17 : Fin k0_t17_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t17
  let c16_i32_103 : BitVec 32 := 16#32
  let v173 : BitVec 32 := Scalar.muli arg15 c16_i32_103
  let v175 : Index := Scalar.indexCast v173
  ![1, v175.toNat]
@[reducible] def k0_t18_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off49 (k0_t4 : Fin k0_t4_loop.trips) (k0_t18 : Fin k0_t18_loop.trips) : Fin 2 → Nat :=
  let c0_i32_22 : BitVec 32 := 0#32
  let c1_i32_24 : BitVec 32 := 1#32
  let arg13 : BitVec 32 := Scf.iv c0_i32_22 c1_i32_24 k0_t4
  let c16_i32_82 : BitVec 32 := 16#32
  let v133 : BitVec 32 := Scalar.muli arg13 c16_i32_82
  let c13_i32 : BitVec 32 := 13#32
  let v134 : BitVec 32 := Scalar.addi v133 c13_i32
  let v157 : Index := Scalar.indexCast v134
  let c0_i32_94 : BitVec 32 := 0#32
  let c1_i32_96 : BitVec 32 := 1#32
  let arg15 : BitVec 32 := Scf.iv c0_i32_94 c1_i32_96 k0_t18
  let c16_i32_98 : BitVec 32 := 16#32
  let v156 : BitVec 32 := Scalar.muli arg15 c16_i32_98
  let v158 : Index := Scalar.indexCast v156
  ![v157.toNat, v158.toNat]
def k0_off50 (k0_t18 : Fin k0_t18_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t18
  let c16_i32_99 : BitVec 32 := 16#32
  let v161 : BitVec 32 := Scalar.muli arg15 c16_i32_99
  let v163 : Index := Scalar.indexCast v161
  ![0, v163.toNat]
def k0_off51 (k0_t18 : Fin k0_t18_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t18
  let c16_i32_103 : BitVec 32 := 16#32
  let v173 : BitVec 32 := Scalar.muli arg15 c16_i32_103
  let v175 : Index := Scalar.indexCast v173
  ![1, v175.toNat]
@[reducible] def k0_t19_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off52 (k0_t4 : Fin k0_t4_loop.trips) (k0_t19 : Fin k0_t19_loop.trips) : Fin 2 → Nat :=
  let c0_i32_22 : BitVec 32 := 0#32
  let c1_i32_24 : BitVec 32 := 1#32
  let arg13 : BitVec 32 := Scf.iv c0_i32_22 c1_i32_24 k0_t4
  let c16_i32_85 : BitVec 32 := 16#32
  let v140 : BitVec 32 := Scalar.muli arg13 c16_i32_85
  let c14_i32 : BitVec 32 := 14#32
  let v141 : BitVec 32 := Scalar.addi v140 c14_i32
  let v157 : Index := Scalar.indexCast v141
  let c0_i32_94 : BitVec 32 := 0#32
  let c1_i32_96 : BitVec 32 := 1#32
  let arg15 : BitVec 32 := Scf.iv c0_i32_94 c1_i32_96 k0_t19
  let c16_i32_98 : BitVec 32 := 16#32
  let v156 : BitVec 32 := Scalar.muli arg15 c16_i32_98
  let v158 : Index := Scalar.indexCast v156
  ![v157.toNat, v158.toNat]
def k0_off53 (k0_t19 : Fin k0_t19_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t19
  let c16_i32_99 : BitVec 32 := 16#32
  let v161 : BitVec 32 := Scalar.muli arg15 c16_i32_99
  let v163 : Index := Scalar.indexCast v161
  ![0, v163.toNat]
def k0_off54 (k0_t19 : Fin k0_t19_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t19
  let c16_i32_103 : BitVec 32 := 16#32
  let v173 : BitVec 32 := Scalar.muli arg15 c16_i32_103
  let v175 : Index := Scalar.indexCast v173
  ![1, v175.toNat]
@[reducible] def k0_t20_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off55 (k0_t4 : Fin k0_t4_loop.trips) (k0_t20 : Fin k0_t20_loop.trips) : Fin 2 → Nat :=
  let c0_i32_22 : BitVec 32 := 0#32
  let c1_i32_24 : BitVec 32 := 1#32
  let arg13 : BitVec 32 := Scf.iv c0_i32_22 c1_i32_24 k0_t4
  let c16_i32_88 : BitVec 32 := 16#32
  let v147 : BitVec 32 := Scalar.muli arg13 c16_i32_88
  let c15_i32_89 : BitVec 32 := 15#32
  let v148 : BitVec 32 := Scalar.addi v147 c15_i32_89
  let v157 : Index := Scalar.indexCast v148
  let c0_i32_94 : BitVec 32 := 0#32
  let c1_i32_96 : BitVec 32 := 1#32
  let arg15 : BitVec 32 := Scf.iv c0_i32_94 c1_i32_96 k0_t20
  let c16_i32_98 : BitVec 32 := 16#32
  let v156 : BitVec 32 := Scalar.muli arg15 c16_i32_98
  let v158 : Index := Scalar.indexCast v156
  ![v157.toNat, v158.toNat]
def k0_off56 (k0_t20 : Fin k0_t20_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t20
  let c16_i32_99 : BitVec 32 := 16#32
  let v161 : BitVec 32 := Scalar.muli arg15 c16_i32_99
  let v163 : Index := Scalar.indexCast v161
  ![0, v163.toNat]
def k0_off57 (k0_t20 : Fin k0_t20_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t20
  let c16_i32_103 : BitVec 32 := 16#32
  let v173 : BitVec 32 := Scalar.muli arg15 c16_i32_103
  let v175 : Index := Scalar.indexCast v173
  ![1, v175.toNat]
def k0_cond17 (k0_t3 : Fin k0_t3_loop.trips) : BitVec 1 :=
  let c0_i32_11 : BitVec 32 := 0#32
  let c1_i32_12 : BitVec 32 := 1#32
  let arg11 : BitVec 32 := Scf.iv c0_i32_11 c1_i32_12 k0_t3
  let c15_i32 : BitVec 32 := 15#32
  let v25 : BitVec 1 := Scalar.cmpi .slt arg11 c15_i32
  let v26 : BitVec 32 := Scalar.extui v25
  let c0_i32_26 : BitVec 32 := 0#32
  let v27 : BitVec 1 := Scalar.cmpi .ne v26 c0_i32_26
  v27

def k0_off58 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_14 : BitVec 32 := 2#32
  let c0_i32_11 : BitVec 32 := 0#32
  let c1_i32_12 : BitVec 32 := 1#32
  let arg11 : BitVec 32 := Scf.iv c0_i32_11 c1_i32_12 k0_t3
  let v13 : BitVec 32 := Scalar.muli c2_i32_14 arg11
  let c2_i32_38 : BitVec 32 := 2#32
  let v36 : BitVec 32 := Scalar.addi v13 c2_i32_38
  let c32_i32_39 : BitVec 32 := 32#32
  let v37 : BitVec 32 := Scalar.muli v36 c32_i32_39
  let v38 : BitVec 32 := Scalar.addi v2 v37
  let c0_i32_40 : BitVec 32 := 0#32
  ![v38.toNat, 0]
@[reducible] def k0_t21_loop : Scf.Loop 32 :=
  let c0_i32_33 : BitVec 32 := 0#32
  let c2_i32_34 : BitVec 32 := 2#32
  let v34 : BitVec 32 := Scalar.addi c0_i32_33 c2_i32_34
  let c1_i32_35 : BitVec 32 := 1#32
  ⟨c0_i32_33, v34, c1_i32_35⟩
def k0_off59 (k0_t3 : Fin k0_t3_loop.trips) (k0_t21 : Fin k0_t21_loop.trips) : Fin 1 → Nat :=
  let c2_i32_14 : BitVec 32 := 2#32
  let c0_i32_11 : BitVec 32 := 0#32
  let c1_i32_12 : BitVec 32 := 1#32
  let arg11 : BitVec 32 := Scf.iv c0_i32_11 c1_i32_12 k0_t3
  let v13 : BitVec 32 := Scalar.muli c2_i32_14 arg11
  let c1_i32_31 : BitVec 32 := 1#32
  let v33 : BitVec 32 := Scalar.addi v13 c1_i32_31
  let c32_i32_38 : BitVec 32 := 32#32
  let v36 : BitVec 32 := Scalar.muli v33 c32_i32_38
  let c0_i32_33 : BitVec 32 := 0#32
  let c1_i32_35 : BitVec 32 := 1#32
  let arg13 : BitVec 32 := Scf.iv c0_i32_33 c1_i32_35 k0_t21
  let c16_i32_39 : BitVec 32 := 16#32
  let v37 : BitVec 32 := Scalar.muli arg13 c16_i32_39
  let v38 : BitVec 32 := Scalar.addi v36 v37
  let v39 : Index := Scalar.indexCast v38
  ![v39.toNat]
@[reducible] def k0_t22_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off60 (k0_t21 : Fin k0_t21_loop.trips) (k0_t22 : Fin k0_t22_loop.trips) : Fin 2 → Nat :=
  let c0_i32_33 : BitVec 32 := 0#32
  let c1_i32_35 : BitVec 32 := 1#32
  let arg13 : BitVec 32 := Scf.iv c0_i32_33 c1_i32_35 k0_t21
  let c16_i32_40 : BitVec 32 := 16#32
  let v42 : BitVec 32 := Scalar.muli arg13 c16_i32_40
  let c0_i32_41 : BitVec 32 := 0#32
  let v43 : BitVec 32 := Scalar.addi v42 c0_i32_41
  let v157 : Index := Scalar.indexCast v43
  let c0_i32_94 : BitVec 32 := 0#32
  let c1_i32_96 : BitVec 32 := 1#32
  let arg15 : BitVec 32 := Scf.iv c0_i32_94 c1_i32_96 k0_t22
  let c16_i32_98 : BitVec 32 := 16#32
  let v156 : BitVec 32 := Scalar.muli arg15 c16_i32_98
  let v158 : Index := Scalar.indexCast v156
  ![v157.toNat, v158.toNat]
def k0_off61 (k0_t22 : Fin k0_t22_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t22
  let c16_i32_99 : BitVec 32 := 16#32
  let v161 : BitVec 32 := Scalar.muli arg15 c16_i32_99
  let v163 : Index := Scalar.indexCast v161
  ![0, v163.toNat]
def k0_off62 (k0_t22 : Fin k0_t22_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t22
  let c16_i32_103 : BitVec 32 := 16#32
  let v173 : BitVec 32 := Scalar.muli arg15 c16_i32_103
  let v175 : Index := Scalar.indexCast v173
  ![1, v175.toNat]
@[reducible] def k0_t23_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off63 (k0_t21 : Fin k0_t21_loop.trips) (k0_t23 : Fin k0_t23_loop.trips) : Fin 2 → Nat :=
  let c0_i32_33 : BitVec 32 := 0#32
  let c1_i32_35 : BitVec 32 := 1#32
  let arg13 : BitVec 32 := Scf.iv c0_i32_33 c1_i32_35 k0_t21
  let c16_i32_44 : BitVec 32 := 16#32
  let v49 : BitVec 32 := Scalar.muli arg13 c16_i32_44
  let c1_i32_45 : BitVec 32 := 1#32
  let v50 : BitVec 32 := Scalar.addi v49 c1_i32_45
  let v157 : Index := Scalar.indexCast v50
  let c0_i32_94 : BitVec 32 := 0#32
  let c1_i32_96 : BitVec 32 := 1#32
  let arg15 : BitVec 32 := Scf.iv c0_i32_94 c1_i32_96 k0_t23
  let c16_i32_98 : BitVec 32 := 16#32
  let v156 : BitVec 32 := Scalar.muli arg15 c16_i32_98
  let v158 : Index := Scalar.indexCast v156
  ![v157.toNat, v158.toNat]
def k0_off64 (k0_t23 : Fin k0_t23_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t23
  let c16_i32_99 : BitVec 32 := 16#32
  let v161 : BitVec 32 := Scalar.muli arg15 c16_i32_99
  let v163 : Index := Scalar.indexCast v161
  ![0, v163.toNat]
def k0_off65 (k0_t23 : Fin k0_t23_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t23
  let c16_i32_103 : BitVec 32 := 16#32
  let v173 : BitVec 32 := Scalar.muli arg15 c16_i32_103
  let v175 : Index := Scalar.indexCast v173
  ![1, v175.toNat]
@[reducible] def k0_t24_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off66 (k0_t21 : Fin k0_t21_loop.trips) (k0_t24 : Fin k0_t24_loop.trips) : Fin 2 → Nat :=
  let c0_i32_33 : BitVec 32 := 0#32
  let c1_i32_35 : BitVec 32 := 1#32
  let arg13 : BitVec 32 := Scf.iv c0_i32_33 c1_i32_35 k0_t21
  let c16_i32_48 : BitVec 32 := 16#32
  let v56 : BitVec 32 := Scalar.muli arg13 c16_i32_48
  let c2_i32_49 : BitVec 32 := 2#32
  let v57 : BitVec 32 := Scalar.addi v56 c2_i32_49
  let v157 : Index := Scalar.indexCast v57
  let c0_i32_94 : BitVec 32 := 0#32
  let c1_i32_96 : BitVec 32 := 1#32
  let arg15 : BitVec 32 := Scf.iv c0_i32_94 c1_i32_96 k0_t24
  let c16_i32_98 : BitVec 32 := 16#32
  let v156 : BitVec 32 := Scalar.muli arg15 c16_i32_98
  let v158 : Index := Scalar.indexCast v156
  ![v157.toNat, v158.toNat]
def k0_off67 (k0_t24 : Fin k0_t24_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t24
  let c16_i32_99 : BitVec 32 := 16#32
  let v161 : BitVec 32 := Scalar.muli arg15 c16_i32_99
  let v163 : Index := Scalar.indexCast v161
  ![0, v163.toNat]
def k0_off68 (k0_t24 : Fin k0_t24_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t24
  let c16_i32_103 : BitVec 32 := 16#32
  let v173 : BitVec 32 := Scalar.muli arg15 c16_i32_103
  let v175 : Index := Scalar.indexCast v173
  ![1, v175.toNat]
@[reducible] def k0_t25_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off69 (k0_t21 : Fin k0_t21_loop.trips) (k0_t25 : Fin k0_t25_loop.trips) : Fin 2 → Nat :=
  let c0_i32_33 : BitVec 32 := 0#32
  let c1_i32_35 : BitVec 32 := 1#32
  let arg13 : BitVec 32 := Scf.iv c0_i32_33 c1_i32_35 k0_t21
  let c16_i32_52 : BitVec 32 := 16#32
  let v63 : BitVec 32 := Scalar.muli arg13 c16_i32_52
  let c3_i32 : BitVec 32 := 3#32
  let v64 : BitVec 32 := Scalar.addi v63 c3_i32
  let v157 : Index := Scalar.indexCast v64
  let c0_i32_94 : BitVec 32 := 0#32
  let c1_i32_96 : BitVec 32 := 1#32
  let arg15 : BitVec 32 := Scf.iv c0_i32_94 c1_i32_96 k0_t25
  let c16_i32_98 : BitVec 32 := 16#32
  let v156 : BitVec 32 := Scalar.muli arg15 c16_i32_98
  let v158 : Index := Scalar.indexCast v156
  ![v157.toNat, v158.toNat]
def k0_off70 (k0_t25 : Fin k0_t25_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t25
  let c16_i32_99 : BitVec 32 := 16#32
  let v161 : BitVec 32 := Scalar.muli arg15 c16_i32_99
  let v163 : Index := Scalar.indexCast v161
  ![0, v163.toNat]
def k0_off71 (k0_t25 : Fin k0_t25_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t25
  let c16_i32_103 : BitVec 32 := 16#32
  let v173 : BitVec 32 := Scalar.muli arg15 c16_i32_103
  let v175 : Index := Scalar.indexCast v173
  ![1, v175.toNat]
@[reducible] def k0_t26_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off72 (k0_t21 : Fin k0_t21_loop.trips) (k0_t26 : Fin k0_t26_loop.trips) : Fin 2 → Nat :=
  let c0_i32_33 : BitVec 32 := 0#32
  let c1_i32_35 : BitVec 32 := 1#32
  let arg13 : BitVec 32 := Scf.iv c0_i32_33 c1_i32_35 k0_t21
  let c16_i32_55 : BitVec 32 := 16#32
  let v70 : BitVec 32 := Scalar.muli arg13 c16_i32_55
  let c4_i32 : BitVec 32 := 4#32
  let v71 : BitVec 32 := Scalar.addi v70 c4_i32
  let v157 : Index := Scalar.indexCast v71
  let c0_i32_94 : BitVec 32 := 0#32
  let c1_i32_96 : BitVec 32 := 1#32
  let arg15 : BitVec 32 := Scf.iv c0_i32_94 c1_i32_96 k0_t26
  let c16_i32_98 : BitVec 32 := 16#32
  let v156 : BitVec 32 := Scalar.muli arg15 c16_i32_98
  let v158 : Index := Scalar.indexCast v156
  ![v157.toNat, v158.toNat]
def k0_off73 (k0_t26 : Fin k0_t26_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t26
  let c16_i32_99 : BitVec 32 := 16#32
  let v161 : BitVec 32 := Scalar.muli arg15 c16_i32_99
  let v163 : Index := Scalar.indexCast v161
  ![0, v163.toNat]
def k0_off74 (k0_t26 : Fin k0_t26_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t26
  let c16_i32_103 : BitVec 32 := 16#32
  let v173 : BitVec 32 := Scalar.muli arg15 c16_i32_103
  let v175 : Index := Scalar.indexCast v173
  ![1, v175.toNat]
@[reducible] def k0_t27_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off75 (k0_t21 : Fin k0_t21_loop.trips) (k0_t27 : Fin k0_t27_loop.trips) : Fin 2 → Nat :=
  let c0_i32_33 : BitVec 32 := 0#32
  let c1_i32_35 : BitVec 32 := 1#32
  let arg13 : BitVec 32 := Scf.iv c0_i32_33 c1_i32_35 k0_t21
  let c16_i32_58 : BitVec 32 := 16#32
  let v77 : BitVec 32 := Scalar.muli arg13 c16_i32_58
  let c5_i32 : BitVec 32 := 5#32
  let v78 : BitVec 32 := Scalar.addi v77 c5_i32
  let v157 : Index := Scalar.indexCast v78
  let c0_i32_94 : BitVec 32 := 0#32
  let c1_i32_96 : BitVec 32 := 1#32
  let arg15 : BitVec 32 := Scf.iv c0_i32_94 c1_i32_96 k0_t27
  let c16_i32_98 : BitVec 32 := 16#32
  let v156 : BitVec 32 := Scalar.muli arg15 c16_i32_98
  let v158 : Index := Scalar.indexCast v156
  ![v157.toNat, v158.toNat]
def k0_off76 (k0_t27 : Fin k0_t27_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t27
  let c16_i32_99 : BitVec 32 := 16#32
  let v161 : BitVec 32 := Scalar.muli arg15 c16_i32_99
  let v163 : Index := Scalar.indexCast v161
  ![0, v163.toNat]
def k0_off77 (k0_t27 : Fin k0_t27_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t27
  let c16_i32_103 : BitVec 32 := 16#32
  let v173 : BitVec 32 := Scalar.muli arg15 c16_i32_103
  let v175 : Index := Scalar.indexCast v173
  ![1, v175.toNat]
@[reducible] def k0_t28_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off78 (k0_t21 : Fin k0_t21_loop.trips) (k0_t28 : Fin k0_t28_loop.trips) : Fin 2 → Nat :=
  let c0_i32_33 : BitVec 32 := 0#32
  let c1_i32_35 : BitVec 32 := 1#32
  let arg13 : BitVec 32 := Scf.iv c0_i32_33 c1_i32_35 k0_t21
  let c16_i32_61 : BitVec 32 := 16#32
  let v84 : BitVec 32 := Scalar.muli arg13 c16_i32_61
  let c6_i32 : BitVec 32 := 6#32
  let v85 : BitVec 32 := Scalar.addi v84 c6_i32
  let v157 : Index := Scalar.indexCast v85
  let c0_i32_94 : BitVec 32 := 0#32
  let c1_i32_96 : BitVec 32 := 1#32
  let arg15 : BitVec 32 := Scf.iv c0_i32_94 c1_i32_96 k0_t28
  let c16_i32_98 : BitVec 32 := 16#32
  let v156 : BitVec 32 := Scalar.muli arg15 c16_i32_98
  let v158 : Index := Scalar.indexCast v156
  ![v157.toNat, v158.toNat]
def k0_off79 (k0_t28 : Fin k0_t28_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t28
  let c16_i32_99 : BitVec 32 := 16#32
  let v161 : BitVec 32 := Scalar.muli arg15 c16_i32_99
  let v163 : Index := Scalar.indexCast v161
  ![0, v163.toNat]
def k0_off80 (k0_t28 : Fin k0_t28_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t28
  let c16_i32_103 : BitVec 32 := 16#32
  let v173 : BitVec 32 := Scalar.muli arg15 c16_i32_103
  let v175 : Index := Scalar.indexCast v173
  ![1, v175.toNat]
@[reducible] def k0_t29_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off81 (k0_t21 : Fin k0_t21_loop.trips) (k0_t29 : Fin k0_t29_loop.trips) : Fin 2 → Nat :=
  let c0_i32_33 : BitVec 32 := 0#32
  let c1_i32_35 : BitVec 32 := 1#32
  let arg13 : BitVec 32 := Scf.iv c0_i32_33 c1_i32_35 k0_t21
  let c16_i32_64 : BitVec 32 := 16#32
  let v91 : BitVec 32 := Scalar.muli arg13 c16_i32_64
  let c7_i32 : BitVec 32 := 7#32
  let v92 : BitVec 32 := Scalar.addi v91 c7_i32
  let v157 : Index := Scalar.indexCast v92
  let c0_i32_94 : BitVec 32 := 0#32
  let c1_i32_96 : BitVec 32 := 1#32
  let arg15 : BitVec 32 := Scf.iv c0_i32_94 c1_i32_96 k0_t29
  let c16_i32_98 : BitVec 32 := 16#32
  let v156 : BitVec 32 := Scalar.muli arg15 c16_i32_98
  let v158 : Index := Scalar.indexCast v156
  ![v157.toNat, v158.toNat]
def k0_off82 (k0_t29 : Fin k0_t29_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t29
  let c16_i32_99 : BitVec 32 := 16#32
  let v161 : BitVec 32 := Scalar.muli arg15 c16_i32_99
  let v163 : Index := Scalar.indexCast v161
  ![0, v163.toNat]
def k0_off83 (k0_t29 : Fin k0_t29_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t29
  let c16_i32_103 : BitVec 32 := 16#32
  let v173 : BitVec 32 := Scalar.muli arg15 c16_i32_103
  let v175 : Index := Scalar.indexCast v173
  ![1, v175.toNat]
@[reducible] def k0_t30_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off84 (k0_t21 : Fin k0_t21_loop.trips) (k0_t30 : Fin k0_t30_loop.trips) : Fin 2 → Nat :=
  let c0_i32_33 : BitVec 32 := 0#32
  let c1_i32_35 : BitVec 32 := 1#32
  let arg13 : BitVec 32 := Scf.iv c0_i32_33 c1_i32_35 k0_t21
  let c16_i32_67 : BitVec 32 := 16#32
  let v98 : BitVec 32 := Scalar.muli arg13 c16_i32_67
  let c8_i32 : BitVec 32 := 8#32
  let v99 : BitVec 32 := Scalar.addi v98 c8_i32
  let v157 : Index := Scalar.indexCast v99
  let c0_i32_94 : BitVec 32 := 0#32
  let c1_i32_96 : BitVec 32 := 1#32
  let arg15 : BitVec 32 := Scf.iv c0_i32_94 c1_i32_96 k0_t30
  let c16_i32_98 : BitVec 32 := 16#32
  let v156 : BitVec 32 := Scalar.muli arg15 c16_i32_98
  let v158 : Index := Scalar.indexCast v156
  ![v157.toNat, v158.toNat]
def k0_off85 (k0_t30 : Fin k0_t30_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t30
  let c16_i32_99 : BitVec 32 := 16#32
  let v161 : BitVec 32 := Scalar.muli arg15 c16_i32_99
  let v163 : Index := Scalar.indexCast v161
  ![0, v163.toNat]
def k0_off86 (k0_t30 : Fin k0_t30_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t30
  let c16_i32_103 : BitVec 32 := 16#32
  let v173 : BitVec 32 := Scalar.muli arg15 c16_i32_103
  let v175 : Index := Scalar.indexCast v173
  ![1, v175.toNat]
@[reducible] def k0_t31_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off87 (k0_t21 : Fin k0_t21_loop.trips) (k0_t31 : Fin k0_t31_loop.trips) : Fin 2 → Nat :=
  let c0_i32_33 : BitVec 32 := 0#32
  let c1_i32_35 : BitVec 32 := 1#32
  let arg13 : BitVec 32 := Scf.iv c0_i32_33 c1_i32_35 k0_t21
  let c16_i32_70 : BitVec 32 := 16#32
  let v105 : BitVec 32 := Scalar.muli arg13 c16_i32_70
  let c9_i32 : BitVec 32 := 9#32
  let v106 : BitVec 32 := Scalar.addi v105 c9_i32
  let v157 : Index := Scalar.indexCast v106
  let c0_i32_94 : BitVec 32 := 0#32
  let c1_i32_96 : BitVec 32 := 1#32
  let arg15 : BitVec 32 := Scf.iv c0_i32_94 c1_i32_96 k0_t31
  let c16_i32_98 : BitVec 32 := 16#32
  let v156 : BitVec 32 := Scalar.muli arg15 c16_i32_98
  let v158 : Index := Scalar.indexCast v156
  ![v157.toNat, v158.toNat]
def k0_off88 (k0_t31 : Fin k0_t31_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t31
  let c16_i32_99 : BitVec 32 := 16#32
  let v161 : BitVec 32 := Scalar.muli arg15 c16_i32_99
  let v163 : Index := Scalar.indexCast v161
  ![0, v163.toNat]
def k0_off89 (k0_t31 : Fin k0_t31_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t31
  let c16_i32_103 : BitVec 32 := 16#32
  let v173 : BitVec 32 := Scalar.muli arg15 c16_i32_103
  let v175 : Index := Scalar.indexCast v173
  ![1, v175.toNat]
@[reducible] def k0_t32_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off90 (k0_t21 : Fin k0_t21_loop.trips) (k0_t32 : Fin k0_t32_loop.trips) : Fin 2 → Nat :=
  let c0_i32_33 : BitVec 32 := 0#32
  let c1_i32_35 : BitVec 32 := 1#32
  let arg13 : BitVec 32 := Scf.iv c0_i32_33 c1_i32_35 k0_t21
  let c16_i32_73 : BitVec 32 := 16#32
  let v112 : BitVec 32 := Scalar.muli arg13 c16_i32_73
  let c10_i32 : BitVec 32 := 10#32
  let v113 : BitVec 32 := Scalar.addi v112 c10_i32
  let v157 : Index := Scalar.indexCast v113
  let c0_i32_94 : BitVec 32 := 0#32
  let c1_i32_96 : BitVec 32 := 1#32
  let arg15 : BitVec 32 := Scf.iv c0_i32_94 c1_i32_96 k0_t32
  let c16_i32_98 : BitVec 32 := 16#32
  let v156 : BitVec 32 := Scalar.muli arg15 c16_i32_98
  let v158 : Index := Scalar.indexCast v156
  ![v157.toNat, v158.toNat]
def k0_off91 (k0_t32 : Fin k0_t32_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t32
  let c16_i32_99 : BitVec 32 := 16#32
  let v161 : BitVec 32 := Scalar.muli arg15 c16_i32_99
  let v163 : Index := Scalar.indexCast v161
  ![0, v163.toNat]
def k0_off92 (k0_t32 : Fin k0_t32_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t32
  let c16_i32_103 : BitVec 32 := 16#32
  let v173 : BitVec 32 := Scalar.muli arg15 c16_i32_103
  let v175 : Index := Scalar.indexCast v173
  ![1, v175.toNat]
@[reducible] def k0_t33_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off93 (k0_t21 : Fin k0_t21_loop.trips) (k0_t33 : Fin k0_t33_loop.trips) : Fin 2 → Nat :=
  let c0_i32_33 : BitVec 32 := 0#32
  let c1_i32_35 : BitVec 32 := 1#32
  let arg13 : BitVec 32 := Scf.iv c0_i32_33 c1_i32_35 k0_t21
  let c16_i32_76 : BitVec 32 := 16#32
  let v119 : BitVec 32 := Scalar.muli arg13 c16_i32_76
  let c11_i32 : BitVec 32 := 11#32
  let v120 : BitVec 32 := Scalar.addi v119 c11_i32
  let v157 : Index := Scalar.indexCast v120
  let c0_i32_94 : BitVec 32 := 0#32
  let c1_i32_96 : BitVec 32 := 1#32
  let arg15 : BitVec 32 := Scf.iv c0_i32_94 c1_i32_96 k0_t33
  let c16_i32_98 : BitVec 32 := 16#32
  let v156 : BitVec 32 := Scalar.muli arg15 c16_i32_98
  let v158 : Index := Scalar.indexCast v156
  ![v157.toNat, v158.toNat]
def k0_off94 (k0_t33 : Fin k0_t33_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t33
  let c16_i32_99 : BitVec 32 := 16#32
  let v161 : BitVec 32 := Scalar.muli arg15 c16_i32_99
  let v163 : Index := Scalar.indexCast v161
  ![0, v163.toNat]
def k0_off95 (k0_t33 : Fin k0_t33_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t33
  let c16_i32_103 : BitVec 32 := 16#32
  let v173 : BitVec 32 := Scalar.muli arg15 c16_i32_103
  let v175 : Index := Scalar.indexCast v173
  ![1, v175.toNat]
@[reducible] def k0_t34_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off96 (k0_t21 : Fin k0_t21_loop.trips) (k0_t34 : Fin k0_t34_loop.trips) : Fin 2 → Nat :=
  let c0_i32_33 : BitVec 32 := 0#32
  let c1_i32_35 : BitVec 32 := 1#32
  let arg13 : BitVec 32 := Scf.iv c0_i32_33 c1_i32_35 k0_t21
  let c16_i32_79 : BitVec 32 := 16#32
  let v126 : BitVec 32 := Scalar.muli arg13 c16_i32_79
  let c12_i32 : BitVec 32 := 12#32
  let v127 : BitVec 32 := Scalar.addi v126 c12_i32
  let v157 : Index := Scalar.indexCast v127
  let c0_i32_94 : BitVec 32 := 0#32
  let c1_i32_96 : BitVec 32 := 1#32
  let arg15 : BitVec 32 := Scf.iv c0_i32_94 c1_i32_96 k0_t34
  let c16_i32_98 : BitVec 32 := 16#32
  let v156 : BitVec 32 := Scalar.muli arg15 c16_i32_98
  let v158 : Index := Scalar.indexCast v156
  ![v157.toNat, v158.toNat]
def k0_off97 (k0_t34 : Fin k0_t34_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t34
  let c16_i32_99 : BitVec 32 := 16#32
  let v161 : BitVec 32 := Scalar.muli arg15 c16_i32_99
  let v163 : Index := Scalar.indexCast v161
  ![0, v163.toNat]
def k0_off98 (k0_t34 : Fin k0_t34_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t34
  let c16_i32_103 : BitVec 32 := 16#32
  let v173 : BitVec 32 := Scalar.muli arg15 c16_i32_103
  let v175 : Index := Scalar.indexCast v173
  ![1, v175.toNat]
@[reducible] def k0_t35_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off99 (k0_t21 : Fin k0_t21_loop.trips) (k0_t35 : Fin k0_t35_loop.trips) : Fin 2 → Nat :=
  let c0_i32_33 : BitVec 32 := 0#32
  let c1_i32_35 : BitVec 32 := 1#32
  let arg13 : BitVec 32 := Scf.iv c0_i32_33 c1_i32_35 k0_t21
  let c16_i32_82 : BitVec 32 := 16#32
  let v133 : BitVec 32 := Scalar.muli arg13 c16_i32_82
  let c13_i32 : BitVec 32 := 13#32
  let v134 : BitVec 32 := Scalar.addi v133 c13_i32
  let v157 : Index := Scalar.indexCast v134
  let c0_i32_94 : BitVec 32 := 0#32
  let c1_i32_96 : BitVec 32 := 1#32
  let arg15 : BitVec 32 := Scf.iv c0_i32_94 c1_i32_96 k0_t35
  let c16_i32_98 : BitVec 32 := 16#32
  let v156 : BitVec 32 := Scalar.muli arg15 c16_i32_98
  let v158 : Index := Scalar.indexCast v156
  ![v157.toNat, v158.toNat]
def k0_off100 (k0_t35 : Fin k0_t35_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t35
  let c16_i32_99 : BitVec 32 := 16#32
  let v161 : BitVec 32 := Scalar.muli arg15 c16_i32_99
  let v163 : Index := Scalar.indexCast v161
  ![0, v163.toNat]
def k0_off101 (k0_t35 : Fin k0_t35_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t35
  let c16_i32_103 : BitVec 32 := 16#32
  let v173 : BitVec 32 := Scalar.muli arg15 c16_i32_103
  let v175 : Index := Scalar.indexCast v173
  ![1, v175.toNat]
@[reducible] def k0_t36_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off102 (k0_t21 : Fin k0_t21_loop.trips) (k0_t36 : Fin k0_t36_loop.trips) : Fin 2 → Nat :=
  let c0_i32_33 : BitVec 32 := 0#32
  let c1_i32_35 : BitVec 32 := 1#32
  let arg13 : BitVec 32 := Scf.iv c0_i32_33 c1_i32_35 k0_t21
  let c16_i32_85 : BitVec 32 := 16#32
  let v140 : BitVec 32 := Scalar.muli arg13 c16_i32_85
  let c14_i32 : BitVec 32 := 14#32
  let v141 : BitVec 32 := Scalar.addi v140 c14_i32
  let v157 : Index := Scalar.indexCast v141
  let c0_i32_94 : BitVec 32 := 0#32
  let c1_i32_96 : BitVec 32 := 1#32
  let arg15 : BitVec 32 := Scf.iv c0_i32_94 c1_i32_96 k0_t36
  let c16_i32_98 : BitVec 32 := 16#32
  let v156 : BitVec 32 := Scalar.muli arg15 c16_i32_98
  let v158 : Index := Scalar.indexCast v156
  ![v157.toNat, v158.toNat]
def k0_off103 (k0_t36 : Fin k0_t36_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t36
  let c16_i32_99 : BitVec 32 := 16#32
  let v161 : BitVec 32 := Scalar.muli arg15 c16_i32_99
  let v163 : Index := Scalar.indexCast v161
  ![0, v163.toNat]
def k0_off104 (k0_t36 : Fin k0_t36_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t36
  let c16_i32_103 : BitVec 32 := 16#32
  let v173 : BitVec 32 := Scalar.muli arg15 c16_i32_103
  let v175 : Index := Scalar.indexCast v173
  ![1, v175.toNat]
@[reducible] def k0_t37_loop : Scf.Loop 32 :=
  let c0_i32_94 : BitVec 32 := 0#32
  let c64_i32_95 : BitVec 32 := 64#32
  let v154 : BitVec 32 := Scalar.addi c0_i32_94 c64_i32_95
  let c1_i32_96 : BitVec 32 := 1#32
  ⟨c0_i32_94, v154, c1_i32_96⟩
def k0_off105 (k0_t21 : Fin k0_t21_loop.trips) (k0_t37 : Fin k0_t37_loop.trips) : Fin 2 → Nat :=
  let c0_i32_33 : BitVec 32 := 0#32
  let c1_i32_35 : BitVec 32 := 1#32
  let arg13 : BitVec 32 := Scf.iv c0_i32_33 c1_i32_35 k0_t21
  let c16_i32_88 : BitVec 32 := 16#32
  let v147 : BitVec 32 := Scalar.muli arg13 c16_i32_88
  let c15_i32_89 : BitVec 32 := 15#32
  let v148 : BitVec 32 := Scalar.addi v147 c15_i32_89
  let v157 : Index := Scalar.indexCast v148
  let c0_i32_94 : BitVec 32 := 0#32
  let c1_i32_96 : BitVec 32 := 1#32
  let arg15 : BitVec 32 := Scf.iv c0_i32_94 c1_i32_96 k0_t37
  let c16_i32_98 : BitVec 32 := 16#32
  let v156 : BitVec 32 := Scalar.muli arg15 c16_i32_98
  let v158 : Index := Scalar.indexCast v156
  ![v157.toNat, v158.toNat]
def k0_off106 (k0_t37 : Fin k0_t37_loop.trips) : Fin 2 → Nat :=
  let c0_i32_100 : BitVec 32 := 0#32
  let v162 : Index := Scalar.indexCast c0_i32_100
  let c0_i32_94 : BitVec 32 := 0#32
  let c1_i32_96 : BitVec 32 := 1#32
  let arg15 : BitVec 32 := Scf.iv c0_i32_94 c1_i32_96 k0_t37
  let c16_i32_99 : BitVec 32 := 16#32
  let v161 : BitVec 32 := Scalar.muli arg15 c16_i32_99
  let v163 : Index := Scalar.indexCast v161
  ![0, v163.toNat]
def k0_off107 (k0_t37 : Fin k0_t37_loop.trips) : Fin 2 → Nat :=
  let c1_i32_104 : BitVec 32 := 1#32
  let v174 : Index := Scalar.indexCast c1_i32_104
  let c0_i32_94 : BitVec 32 := 0#32
  let c1_i32_96 : BitVec 32 := 1#32
  let arg15 : BitVec 32 := Scf.iv c0_i32_94 c1_i32_96 k0_t37
  let c16_i32_103 : BitVec 32 := 16#32
  let v173 : BitVec 32 := Scalar.muli arg15 c16_i32_103
  let v175 : Index := Scalar.indexCast v173
  ![1, v175.toNat]
def k0_off108 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r1 : BitVec 32 := 0#32
  let c0_i32_15_r1 : BitVec 32 := 0#32
  ![v1.toNat, 0, 0]
abbrev grid1 : Pipeline.Grid := .none

abbrev stage1_0 : Fin 1 → Memref sig .tc .vmem S32x3x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k2_off2 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_0 : BitVec 32 := 0#32
  ![v3.toNat, 0]
def k2_off2_at (r : Fin 3) : BitVec 32 :=
  if r.val < 1 then
    0#32
  else
    if r.val < 2 then
      960#32
    else
      992#32
@[reducible] def k2_t1_loop : Scf.Loop 32 :=
  let c0_i32_3 : BitVec 32 := 0#32
  let c16_i32 : BitVec 32 := 16#32
  let v6 : BitVec 32 := Scalar.addi c0_i32_3 c16_i32
  let c1_i32 : BitVec 32 := 1#32
  ⟨c0_i32_3, v6, c1_i32⟩
def k2_cond1 (k2_t1 : Fin k2_t1_loop.trips) : BitVec 1 :=
  let c0_i32_3 : BitVec 32 := 0#32
  let c1_i32 : BitVec 32 := 1#32
  let arg16 : BitVec 32 := Scf.iv c0_i32_3 c1_i32 k2_t1
  let c0_i32_10 : BitVec 32 := 0#32
  let v15 : BitVec 1 := Scalar.cmpi .sgt arg16 c0_i32_10
  let v16 : BitVec 32 := Scalar.extui v15
  let c0_i32_11 : BitVec 32 := 0#32
  let v17 : BitVec 1 := Scalar.cmpi .ne v16 c0_i32_11
  v17

def k2_off3 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c1_i32_42 : BitVec 32 := 1#32
  let v49 : BitVec 32 := Scalar.subi v14 c1_i32_42
  let c32_i32_43 : BitVec 32 := 32#32
  let v50 : BitVec 32 := Scalar.muli v49 c32_i32_43
  let v51 : BitVec 32 := Scalar.addi v2 v50
  let c0_i32_44 : BitVec 32 := 0#32
  ![v51.toNat, 0]
def k2_off4 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c1_i32_12 : BitVec 32 := 1#32
  let v18 : BitVec 32 := Scalar.addi v14 c1_i32_12
  let c32_i32 : BitVec 32 := 32#32
  let v19 : BitVec 32 := Scalar.muli v18 c32_i32
  let v20 : BitVec 32 := Scalar.addi v2 v19
  let c0_i32_13 : BitVec 32 := 0#32
  ![v20.toNat, 0]
def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c32_i32_15 : BitVec 32 := 32#32
  let v23 : BitVec 32 := Scalar.muli v14 c32_i32_15
  let v24 : BitVec 32 := Scalar.addi v2 v23
  let c0_i32_16 : BitVec 32 := 0#32
  ![v24.toNat, 0]
@[reducible] def k2_t2_loop : Scf.Loop 32 :=
  let c0_i32_19 : BitVec 32 := 0#32
  let c2_i32_20 : BitVec 32 := 2#32
  let v27 : BitVec 32 := Scalar.addi c0_i32_19 c2_i32_20
  let c1_i32_21 : BitVec 32 := 1#32
  ⟨c0_i32_19, v27, c1_i32_21⟩
def k2_off6 (k2_t1 : Fin k2_t1_loop.trips) (k2_t2 : Fin k2_t2_loop.trips) : Fin 1 → Nat :=
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c32_i32_42 : BitVec 32 := 32#32
  let v49 : BitVec 32 := Scalar.muli v14 c32_i32_42
  let c0_i32_19 : BitVec 32 := 0#32
  let c1_i32_21 : BitVec 32 := 1#32
  let arg18 : BitVec 32 := Scf.iv c0_i32_19 c1_i32_21 k2_t2
  let c16_i32_43 : BitVec 32 := 16#32
  let v50 : BitVec 32 := Scalar.muli arg18 c16_i32_43
  let v51 : BitVec 32 := Scalar.addi v49 v50
  let v52 : Index := Scalar.indexCast v51
  ![v52.toNat]
@[reducible] def k2_t3_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off7 (k2_t2 : Fin k2_t2_loop.trips) (k2_t3 : Fin k2_t3_loop.trips) : Fin 2 → Nat :=
  let c0_i32_19 : BitVec 32 := 0#32
  let c1_i32_21 : BitVec 32 := 1#32
  let arg18 : BitVec 32 := Scf.iv c0_i32_19 c1_i32_21 k2_t2
  let c16_i32_44 : BitVec 32 := 16#32
  let v55 : BitVec 32 := Scalar.muli arg18 c16_i32_44
  let c0_i32_45 : BitVec 32 := 0#32
  let v56 : BitVec 32 := Scalar.addi v55 c0_i32_45
  let v170 : Index := Scalar.indexCast v56
  let c0_i32_97 : BitVec 32 := 0#32
  let c1_i32_98 : BitVec 32 := 1#32
  let arg20 : BitVec 32 := Scf.iv c0_i32_97 c1_i32_98 k2_t3
  let c16_i32_100 : BitVec 32 := 16#32
  let v169 : BitVec 32 := Scalar.muli arg20 c16_i32_100
  let v171 : Index := Scalar.indexCast v169
  ![v170.toNat, v171.toNat]
def k2_off8 (k2_t3 : Fin k2_t3_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t3
  let c16_i32_100 : BitVec 32 := 16#32
  let v169 : BitVec 32 := Scalar.muli arg20 c16_i32_100
  let v175 : Index := Scalar.indexCast v169
  ![0, v175.toNat]
@[reducible] def k2_t4_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off9 (k2_t2 : Fin k2_t2_loop.trips) (k2_t4 : Fin k2_t4_loop.trips) : Fin 2 → Nat :=
  let c0_i32_19 : BitVec 32 := 0#32
  let c1_i32_21 : BitVec 32 := 1#32
  let arg18 : BitVec 32 := Scf.iv c0_i32_19 c1_i32_21 k2_t2
  let c16_i32_47 : BitVec 32 := 16#32
  let v62 : BitVec 32 := Scalar.muli arg18 c16_i32_47
  let c1_i32_48 : BitVec 32 := 1#32
  let v63 : BitVec 32 := Scalar.addi v62 c1_i32_48
  let v170 : Index := Scalar.indexCast v63
  let c0_i32_97 : BitVec 32 := 0#32
  let c1_i32_98 : BitVec 32 := 1#32
  let arg20 : BitVec 32 := Scf.iv c0_i32_97 c1_i32_98 k2_t4
  let c16_i32_100 : BitVec 32 := 16#32
  let v169 : BitVec 32 := Scalar.muli arg20 c16_i32_100
  let v171 : Index := Scalar.indexCast v169
  ![v170.toNat, v171.toNat]
def k2_off10 (k2_t4 : Fin k2_t4_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t4
  let c16_i32_100 : BitVec 32 := 16#32
  let v169 : BitVec 32 := Scalar.muli arg20 c16_i32_100
  let v175 : Index := Scalar.indexCast v169
  ![0, v175.toNat]
@[reducible] def k2_t5_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off11 (k2_t2 : Fin k2_t2_loop.trips) (k2_t5 : Fin k2_t5_loop.trips) : Fin 2 → Nat :=
  let c0_i32_19 : BitVec 32 := 0#32
  let c1_i32_21 : BitVec 32 := 1#32
  let arg18 : BitVec 32 := Scf.iv c0_i32_19 c1_i32_21 k2_t2
  let c16_i32_51 : BitVec 32 := 16#32
  let v69 : BitVec 32 := Scalar.muli arg18 c16_i32_51
  let c2_i32_52 : BitVec 32 := 2#32
  let v70 : BitVec 32 := Scalar.addi v69 c2_i32_52
  let v170 : Index := Scalar.indexCast v70
  let c0_i32_97 : BitVec 32 := 0#32
  let c1_i32_98 : BitVec 32 := 1#32
  let arg20 : BitVec 32 := Scf.iv c0_i32_97 c1_i32_98 k2_t5
  let c16_i32_100 : BitVec 32 := 16#32
  let v169 : BitVec 32 := Scalar.muli arg20 c16_i32_100
  let v171 : Index := Scalar.indexCast v169
  ![v170.toNat, v171.toNat]
def k2_off12 (k2_t5 : Fin k2_t5_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t5
  let c16_i32_100 : BitVec 32 := 16#32
  let v169 : BitVec 32 := Scalar.muli arg20 c16_i32_100
  let v175 : Index := Scalar.indexCast v169
  ![0, v175.toNat]
@[reducible] def k2_t6_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off13 (k2_t2 : Fin k2_t2_loop.trips) (k2_t6 : Fin k2_t6_loop.trips) : Fin 2 → Nat :=
  let c0_i32_19 : BitVec 32 := 0#32
  let c1_i32_21 : BitVec 32 := 1#32
  let arg18 : BitVec 32 := Scf.iv c0_i32_19 c1_i32_21 k2_t2
  let c16_i32_55 : BitVec 32 := 16#32
  let v76 : BitVec 32 := Scalar.muli arg18 c16_i32_55
  let c3_i32 : BitVec 32 := 3#32
  let v77 : BitVec 32 := Scalar.addi v76 c3_i32
  let v170 : Index := Scalar.indexCast v77
  let c0_i32_97 : BitVec 32 := 0#32
  let c1_i32_98 : BitVec 32 := 1#32
  let arg20 : BitVec 32 := Scf.iv c0_i32_97 c1_i32_98 k2_t6
  let c16_i32_100 : BitVec 32 := 16#32
  let v169 : BitVec 32 := Scalar.muli arg20 c16_i32_100
  let v171 : Index := Scalar.indexCast v169
  ![v170.toNat, v171.toNat]
def k2_off14 (k2_t6 : Fin k2_t6_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t6
  let c16_i32_100 : BitVec 32 := 16#32
  let v169 : BitVec 32 := Scalar.muli arg20 c16_i32_100
  let v175 : Index := Scalar.indexCast v169
  ![0, v175.toNat]
@[reducible] def k2_t7_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off15 (k2_t2 : Fin k2_t2_loop.trips) (k2_t7 : Fin k2_t7_loop.trips) : Fin 2 → Nat :=
  let c0_i32_19 : BitVec 32 := 0#32
  let c1_i32_21 : BitVec 32 := 1#32
  let arg18 : BitVec 32 := Scf.iv c0_i32_19 c1_i32_21 k2_t2
  let c16_i32_58 : BitVec 32 := 16#32
  let v83 : BitVec 32 := Scalar.muli arg18 c16_i32_58
  let c4_i32 : BitVec 32 := 4#32
  let v84 : BitVec 32 := Scalar.addi v83 c4_i32
  let v170 : Index := Scalar.indexCast v84
  let c0_i32_97 : BitVec 32 := 0#32
  let c1_i32_98 : BitVec 32 := 1#32
  let arg20 : BitVec 32 := Scf.iv c0_i32_97 c1_i32_98 k2_t7
  let c16_i32_100 : BitVec 32 := 16#32
  let v169 : BitVec 32 := Scalar.muli arg20 c16_i32_100
  let v171 : Index := Scalar.indexCast v169
  ![v170.toNat, v171.toNat]
def k2_off16 (k2_t7 : Fin k2_t7_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t7
  let c16_i32_100 : BitVec 32 := 16#32
  let v169 : BitVec 32 := Scalar.muli arg20 c16_i32_100
  let v175 : Index := Scalar.indexCast v169
  ![0, v175.toNat]
@[reducible] def k2_t8_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off17 (k2_t2 : Fin k2_t2_loop.trips) (k2_t8 : Fin k2_t8_loop.trips) : Fin 2 → Nat :=
  let c0_i32_19 : BitVec 32 := 0#32
  let c1_i32_21 : BitVec 32 := 1#32
  let arg18 : BitVec 32 := Scf.iv c0_i32_19 c1_i32_21 k2_t2
  let c16_i32_61 : BitVec 32 := 16#32
  let v90 : BitVec 32 := Scalar.muli arg18 c16_i32_61
  let c5_i32 : BitVec 32 := 5#32
  let v91 : BitVec 32 := Scalar.addi v90 c5_i32
  let v170 : Index := Scalar.indexCast v91
  let c0_i32_97 : BitVec 32 := 0#32
  let c1_i32_98 : BitVec 32 := 1#32
  let arg20 : BitVec 32 := Scf.iv c0_i32_97 c1_i32_98 k2_t8
  let c16_i32_100 : BitVec 32 := 16#32
  let v169 : BitVec 32 := Scalar.muli arg20 c16_i32_100
  let v171 : Index := Scalar.indexCast v169
  ![v170.toNat, v171.toNat]
def k2_off18 (k2_t8 : Fin k2_t8_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t8
  let c16_i32_100 : BitVec 32 := 16#32
  let v169 : BitVec 32 := Scalar.muli arg20 c16_i32_100
  let v175 : Index := Scalar.indexCast v169
  ![0, v175.toNat]
@[reducible] def k2_t9_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off19 (k2_t2 : Fin k2_t2_loop.trips) (k2_t9 : Fin k2_t9_loop.trips) : Fin 2 → Nat :=
  let c0_i32_19 : BitVec 32 := 0#32
  let c1_i32_21 : BitVec 32 := 1#32
  let arg18 : BitVec 32 := Scf.iv c0_i32_19 c1_i32_21 k2_t2
  let c16_i32_64 : BitVec 32 := 16#32
  let v97 : BitVec 32 := Scalar.muli arg18 c16_i32_64
  let c6_i32 : BitVec 32 := 6#32
  let v98 : BitVec 32 := Scalar.addi v97 c6_i32
  let v170 : Index := Scalar.indexCast v98
  let c0_i32_97 : BitVec 32 := 0#32
  let c1_i32_98 : BitVec 32 := 1#32
  let arg20 : BitVec 32 := Scf.iv c0_i32_97 c1_i32_98 k2_t9
  let c16_i32_100 : BitVec 32 := 16#32
  let v169 : BitVec 32 := Scalar.muli arg20 c16_i32_100
  let v171 : Index := Scalar.indexCast v169
  ![v170.toNat, v171.toNat]
def k2_off20 (k2_t9 : Fin k2_t9_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t9
  let c16_i32_100 : BitVec 32 := 16#32
  let v169 : BitVec 32 := Scalar.muli arg20 c16_i32_100
  let v175 : Index := Scalar.indexCast v169
  ![0, v175.toNat]
@[reducible] def k2_t10_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off21 (k2_t2 : Fin k2_t2_loop.trips) (k2_t10 : Fin k2_t10_loop.trips) : Fin 2 → Nat :=
  let c0_i32_19 : BitVec 32 := 0#32
  let c1_i32_21 : BitVec 32 := 1#32
  let arg18 : BitVec 32 := Scf.iv c0_i32_19 c1_i32_21 k2_t2
  let c16_i32_67 : BitVec 32 := 16#32
  let v104 : BitVec 32 := Scalar.muli arg18 c16_i32_67
  let c7_i32 : BitVec 32 := 7#32
  let v105 : BitVec 32 := Scalar.addi v104 c7_i32
  let v170 : Index := Scalar.indexCast v105
  let c0_i32_97 : BitVec 32 := 0#32
  let c1_i32_98 : BitVec 32 := 1#32
  let arg20 : BitVec 32 := Scf.iv c0_i32_97 c1_i32_98 k2_t10
  let c16_i32_100 : BitVec 32 := 16#32
  let v169 : BitVec 32 := Scalar.muli arg20 c16_i32_100
  let v171 : Index := Scalar.indexCast v169
  ![v170.toNat, v171.toNat]
def k2_off22 (k2_t10 : Fin k2_t10_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t10
  let c16_i32_100 : BitVec 32 := 16#32
  let v169 : BitVec 32 := Scalar.muli arg20 c16_i32_100
  let v175 : Index := Scalar.indexCast v169
  ![0, v175.toNat]
@[reducible] def k2_t11_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off23 (k2_t2 : Fin k2_t2_loop.trips) (k2_t11 : Fin k2_t11_loop.trips) : Fin 2 → Nat :=
  let c0_i32_19 : BitVec 32 := 0#32
  let c1_i32_21 : BitVec 32 := 1#32
  let arg18 : BitVec 32 := Scf.iv c0_i32_19 c1_i32_21 k2_t2
  let c16_i32_70 : BitVec 32 := 16#32
  let v111 : BitVec 32 := Scalar.muli arg18 c16_i32_70
  let c8_i32 : BitVec 32 := 8#32
  let v112 : BitVec 32 := Scalar.addi v111 c8_i32
  let v170 : Index := Scalar.indexCast v112
  let c0_i32_97 : BitVec 32 := 0#32
  let c1_i32_98 : BitVec 32 := 1#32
  let arg20 : BitVec 32 := Scf.iv c0_i32_97 c1_i32_98 k2_t11
  let c16_i32_100 : BitVec 32 := 16#32
  let v169 : BitVec 32 := Scalar.muli arg20 c16_i32_100
  let v171 : Index := Scalar.indexCast v169
  ![v170.toNat, v171.toNat]
def k2_off24 (k2_t11 : Fin k2_t11_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t11
  let c16_i32_100 : BitVec 32 := 16#32
  let v169 : BitVec 32 := Scalar.muli arg20 c16_i32_100
  let v175 : Index := Scalar.indexCast v169
  ![0, v175.toNat]
@[reducible] def k2_t12_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off25 (k2_t2 : Fin k2_t2_loop.trips) (k2_t12 : Fin k2_t12_loop.trips) : Fin 2 → Nat :=
  let c0_i32_19 : BitVec 32 := 0#32
  let c1_i32_21 : BitVec 32 := 1#32
  let arg18 : BitVec 32 := Scf.iv c0_i32_19 c1_i32_21 k2_t2
  let c16_i32_73 : BitVec 32 := 16#32
  let v118 : BitVec 32 := Scalar.muli arg18 c16_i32_73
  let c9_i32 : BitVec 32 := 9#32
  let v119 : BitVec 32 := Scalar.addi v118 c9_i32
  let v170 : Index := Scalar.indexCast v119
  let c0_i32_97 : BitVec 32 := 0#32
  let c1_i32_98 : BitVec 32 := 1#32
  let arg20 : BitVec 32 := Scf.iv c0_i32_97 c1_i32_98 k2_t12
  let c16_i32_100 : BitVec 32 := 16#32
  let v169 : BitVec 32 := Scalar.muli arg20 c16_i32_100
  let v171 : Index := Scalar.indexCast v169
  ![v170.toNat, v171.toNat]
def k2_off26 (k2_t12 : Fin k2_t12_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t12
  let c16_i32_100 : BitVec 32 := 16#32
  let v169 : BitVec 32 := Scalar.muli arg20 c16_i32_100
  let v175 : Index := Scalar.indexCast v169
  ![0, v175.toNat]
@[reducible] def k2_t13_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off27 (k2_t2 : Fin k2_t2_loop.trips) (k2_t13 : Fin k2_t13_loop.trips) : Fin 2 → Nat :=
  let c0_i32_19 : BitVec 32 := 0#32
  let c1_i32_21 : BitVec 32 := 1#32
  let arg18 : BitVec 32 := Scf.iv c0_i32_19 c1_i32_21 k2_t2
  let c16_i32_76 : BitVec 32 := 16#32
  let v125 : BitVec 32 := Scalar.muli arg18 c16_i32_76
  let c10_i32 : BitVec 32 := 10#32
  let v126 : BitVec 32 := Scalar.addi v125 c10_i32
  let v170 : Index := Scalar.indexCast v126
  let c0_i32_97 : BitVec 32 := 0#32
  let c1_i32_98 : BitVec 32 := 1#32
  let arg20 : BitVec 32 := Scf.iv c0_i32_97 c1_i32_98 k2_t13
  let c16_i32_100 : BitVec 32 := 16#32
  let v169 : BitVec 32 := Scalar.muli arg20 c16_i32_100
  let v171 : Index := Scalar.indexCast v169
  ![v170.toNat, v171.toNat]
def k2_off28 (k2_t13 : Fin k2_t13_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t13
  let c16_i32_100 : BitVec 32 := 16#32
  let v169 : BitVec 32 := Scalar.muli arg20 c16_i32_100
  let v175 : Index := Scalar.indexCast v169
  ![0, v175.toNat]
@[reducible] def k2_t14_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off29 (k2_t2 : Fin k2_t2_loop.trips) (k2_t14 : Fin k2_t14_loop.trips) : Fin 2 → Nat :=
  let c0_i32_19 : BitVec 32 := 0#32
  let c1_i32_21 : BitVec 32 := 1#32
  let arg18 : BitVec 32 := Scf.iv c0_i32_19 c1_i32_21 k2_t2
  let c16_i32_79 : BitVec 32 := 16#32
  let v132 : BitVec 32 := Scalar.muli arg18 c16_i32_79
  let c11_i32 : BitVec 32 := 11#32
  let v133 : BitVec 32 := Scalar.addi v132 c11_i32
  let v170 : Index := Scalar.indexCast v133
  let c0_i32_97 : BitVec 32 := 0#32
  let c1_i32_98 : BitVec 32 := 1#32
  let arg20 : BitVec 32 := Scf.iv c0_i32_97 c1_i32_98 k2_t14
  let c16_i32_100 : BitVec 32 := 16#32
  let v169 : BitVec 32 := Scalar.muli arg20 c16_i32_100
  let v171 : Index := Scalar.indexCast v169
  ![v170.toNat, v171.toNat]
def k2_off30 (k2_t14 : Fin k2_t14_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t14
  let c16_i32_100 : BitVec 32 := 16#32
  let v169 : BitVec 32 := Scalar.muli arg20 c16_i32_100
  let v175 : Index := Scalar.indexCast v169
  ![0, v175.toNat]
@[reducible] def k2_t15_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off31 (k2_t2 : Fin k2_t2_loop.trips) (k2_t15 : Fin k2_t15_loop.trips) : Fin 2 → Nat :=
  let c0_i32_19 : BitVec 32 := 0#32
  let c1_i32_21 : BitVec 32 := 1#32
  let arg18 : BitVec 32 := Scf.iv c0_i32_19 c1_i32_21 k2_t2
  let c16_i32_82 : BitVec 32 := 16#32
  let v139 : BitVec 32 := Scalar.muli arg18 c16_i32_82
  let c12_i32 : BitVec 32 := 12#32
  let v140 : BitVec 32 := Scalar.addi v139 c12_i32
  let v170 : Index := Scalar.indexCast v140
  let c0_i32_97 : BitVec 32 := 0#32
  let c1_i32_98 : BitVec 32 := 1#32
  let arg20 : BitVec 32 := Scf.iv c0_i32_97 c1_i32_98 k2_t15
  let c16_i32_100 : BitVec 32 := 16#32
  let v169 : BitVec 32 := Scalar.muli arg20 c16_i32_100
  let v171 : Index := Scalar.indexCast v169
  ![v170.toNat, v171.toNat]
def k2_off32 (k2_t15 : Fin k2_t15_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t15
  let c16_i32_100 : BitVec 32 := 16#32
  let v169 : BitVec 32 := Scalar.muli arg20 c16_i32_100
  let v175 : Index := Scalar.indexCast v169
  ![0, v175.toNat]
@[reducible] def k2_t16_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off33 (k2_t2 : Fin k2_t2_loop.trips) (k2_t16 : Fin k2_t16_loop.trips) : Fin 2 → Nat :=
  let c0_i32_19 : BitVec 32 := 0#32
  let c1_i32_21 : BitVec 32 := 1#32
  let arg18 : BitVec 32 := Scf.iv c0_i32_19 c1_i32_21 k2_t2
  let c16_i32_85 : BitVec 32 := 16#32
  let v146 : BitVec 32 := Scalar.muli arg18 c16_i32_85
  let c13_i32 : BitVec 32 := 13#32
  let v147 : BitVec 32 := Scalar.addi v146 c13_i32
  let v170 : Index := Scalar.indexCast v147
  let c0_i32_97 : BitVec 32 := 0#32
  let c1_i32_98 : BitVec 32 := 1#32
  let arg20 : BitVec 32 := Scf.iv c0_i32_97 c1_i32_98 k2_t16
  let c16_i32_100 : BitVec 32 := 16#32
  let v169 : BitVec 32 := Scalar.muli arg20 c16_i32_100
  let v171 : Index := Scalar.indexCast v169
  ![v170.toNat, v171.toNat]
def k2_off34 (k2_t16 : Fin k2_t16_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t16
  let c16_i32_100 : BitVec 32 := 16#32
  let v169 : BitVec 32 := Scalar.muli arg20 c16_i32_100
  let v175 : Index := Scalar.indexCast v169
  ![0, v175.toNat]
@[reducible] def k2_t17_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off35 (k2_t2 : Fin k2_t2_loop.trips) (k2_t17 : Fin k2_t17_loop.trips) : Fin 2 → Nat :=
  let c0_i32_19 : BitVec 32 := 0#32
  let c1_i32_21 : BitVec 32 := 1#32
  let arg18 : BitVec 32 := Scf.iv c0_i32_19 c1_i32_21 k2_t2
  let c16_i32_88 : BitVec 32 := 16#32
  let v153 : BitVec 32 := Scalar.muli arg18 c16_i32_88
  let c14_i32 : BitVec 32 := 14#32
  let v154 : BitVec 32 := Scalar.addi v153 c14_i32
  let v170 : Index := Scalar.indexCast v154
  let c0_i32_97 : BitVec 32 := 0#32
  let c1_i32_98 : BitVec 32 := 1#32
  let arg20 : BitVec 32 := Scf.iv c0_i32_97 c1_i32_98 k2_t17
  let c16_i32_100 : BitVec 32 := 16#32
  let v169 : BitVec 32 := Scalar.muli arg20 c16_i32_100
  let v171 : Index := Scalar.indexCast v169
  ![v170.toNat, v171.toNat]
def k2_off36 (k2_t17 : Fin k2_t17_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t17
  let c16_i32_100 : BitVec 32 := 16#32
  let v169 : BitVec 32 := Scalar.muli arg20 c16_i32_100
  let v175 : Index := Scalar.indexCast v169
  ![0, v175.toNat]
@[reducible] def k2_t18_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off37 (k2_t2 : Fin k2_t2_loop.trips) (k2_t18 : Fin k2_t18_loop.trips) : Fin 2 → Nat :=
  let c0_i32_19 : BitVec 32 := 0#32
  let c1_i32_21 : BitVec 32 := 1#32
  let arg18 : BitVec 32 := Scf.iv c0_i32_19 c1_i32_21 k2_t2
  let c16_i32_91 : BitVec 32 := 16#32
  let v160 : BitVec 32 := Scalar.muli arg18 c16_i32_91
  let c15_i32_92 : BitVec 32 := 15#32
  let v161 : BitVec 32 := Scalar.addi v160 c15_i32_92
  let v170 : Index := Scalar.indexCast v161
  let c0_i32_97 : BitVec 32 := 0#32
  let c1_i32_98 : BitVec 32 := 1#32
  let arg20 : BitVec 32 := Scf.iv c0_i32_97 c1_i32_98 k2_t18
  let c16_i32_100 : BitVec 32 := 16#32
  let v169 : BitVec 32 := Scalar.muli arg20 c16_i32_100
  let v171 : Index := Scalar.indexCast v169
  ![v170.toNat, v171.toNat]
def k2_off38 (k2_t18 : Fin k2_t18_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t18
  let c16_i32_100 : BitVec 32 := 16#32
  let v169 : BitVec 32 := Scalar.muli arg20 c16_i32_100
  let v175 : Index := Scalar.indexCast v169
  ![0, v175.toNat]
@[reducible] def k2_t19_loop : Scf.Loop 32 :=
  let c0_i32_32 : BitVec 32 := 0#32
  let c2_i32_33 : BitVec 32 := 2#32
  let v39 : BitVec 32 := Scalar.addi c0_i32_32 c2_i32_33
  let c1_i32_34 : BitVec 32 := 1#32
  ⟨c0_i32_32, v39, c1_i32_34⟩
def k2_off39 (k2_t1 : Fin k2_t1_loop.trips) (k2_t19 : Fin k2_t19_loop.trips) : Fin 1 → Nat :=
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c1_i32_30 : BitVec 32 := 1#32
  let v38 : BitVec 32 := Scalar.addi v14 c1_i32_30
  let c32_i32_42 : BitVec 32 := 32#32
  let v49 : BitVec 32 := Scalar.muli v38 c32_i32_42
  let c0_i32_32 : BitVec 32 := 0#32
  let c1_i32_34 : BitVec 32 := 1#32
  let arg18 : BitVec 32 := Scf.iv c0_i32_32 c1_i32_34 k2_t19
  let c16_i32_43 : BitVec 32 := 16#32
  let v50 : BitVec 32 := Scalar.muli arg18 c16_i32_43
  let v51 : BitVec 32 := Scalar.addi v49 v50
  let v52 : Index := Scalar.indexCast v51
  ![v52.toNat]
@[reducible] def k2_t20_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off40 (k2_t19 : Fin k2_t19_loop.trips) (k2_t20 : Fin k2_t20_loop.trips) : Fin 2 → Nat :=
  let c0_i32_32 : BitVec 32 := 0#32
  let c1_i32_34 : BitVec 32 := 1#32
  let arg18 : BitVec 32 := Scf.iv c0_i32_32 c1_i32_34 k2_t19
  let c16_i32_44 : BitVec 32 := 16#32
  let v55 : BitVec 32 := Scalar.muli arg18 c16_i32_44
  let c0_i32_45 : BitVec 32 := 0#32
  let v56 : BitVec 32 := Scalar.addi v55 c0_i32_45
  let v170 : Index := Scalar.indexCast v56
  let c0_i32_97 : BitVec 32 := 0#32
  let c1_i32_98 : BitVec 32 := 1#32
  let arg20 : BitVec 32 := Scf.iv c0_i32_97 c1_i32_98 k2_t20
  let c16_i32_100 : BitVec 32 := 16#32
  let v169 : BitVec 32 := Scalar.muli arg20 c16_i32_100
  let v171 : Index := Scalar.indexCast v169
  ![v170.toNat, v171.toNat]
def k2_off41 (k2_t20 : Fin k2_t20_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t20
  let c16_i32_100 : BitVec 32 := 16#32
  let v169 : BitVec 32 := Scalar.muli arg20 c16_i32_100
  let v175 : Index := Scalar.indexCast v169
  ![0, v175.toNat]
@[reducible] def k2_t21_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off42 (k2_t19 : Fin k2_t19_loop.trips) (k2_t21 : Fin k2_t21_loop.trips) : Fin 2 → Nat :=
  let c0_i32_32 : BitVec 32 := 0#32
  let c1_i32_34 : BitVec 32 := 1#32
  let arg18 : BitVec 32 := Scf.iv c0_i32_32 c1_i32_34 k2_t19
  let c16_i32_47 : BitVec 32 := 16#32
  let v62 : BitVec 32 := Scalar.muli arg18 c16_i32_47
  let c1_i32_48 : BitVec 32 := 1#32
  let v63 : BitVec 32 := Scalar.addi v62 c1_i32_48
  let v170 : Index := Scalar.indexCast v63
  let c0_i32_97 : BitVec 32 := 0#32
  let c1_i32_98 : BitVec 32 := 1#32
  let arg20 : BitVec 32 := Scf.iv c0_i32_97 c1_i32_98 k2_t21
  let c16_i32_100 : BitVec 32 := 16#32
  let v169 : BitVec 32 := Scalar.muli arg20 c16_i32_100
  let v171 : Index := Scalar.indexCast v169
  ![v170.toNat, v171.toNat]
def k2_off43 (k2_t21 : Fin k2_t21_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t21
  let c16_i32_100 : BitVec 32 := 16#32
  let v169 : BitVec 32 := Scalar.muli arg20 c16_i32_100
  let v175 : Index := Scalar.indexCast v169
  ![0, v175.toNat]
@[reducible] def k2_t22_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off44 (k2_t19 : Fin k2_t19_loop.trips) (k2_t22 : Fin k2_t22_loop.trips) : Fin 2 → Nat :=
  let c0_i32_32 : BitVec 32 := 0#32
  let c1_i32_34 : BitVec 32 := 1#32
  let arg18 : BitVec 32 := Scf.iv c0_i32_32 c1_i32_34 k2_t19
  let c16_i32_51 : BitVec 32 := 16#32
  let v69 : BitVec 32 := Scalar.muli arg18 c16_i32_51
  let c2_i32_52 : BitVec 32 := 2#32
  let v70 : BitVec 32 := Scalar.addi v69 c2_i32_52
  let v170 : Index := Scalar.indexCast v70
  let c0_i32_97 : BitVec 32 := 0#32
  let c1_i32_98 : BitVec 32 := 1#32
  let arg20 : BitVec 32 := Scf.iv c0_i32_97 c1_i32_98 k2_t22
  let c16_i32_100 : BitVec 32 := 16#32
  let v169 : BitVec 32 := Scalar.muli arg20 c16_i32_100
  let v171 : Index := Scalar.indexCast v169
  ![v170.toNat, v171.toNat]
def k2_off45 (k2_t22 : Fin k2_t22_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t22
  let c16_i32_100 : BitVec 32 := 16#32
  let v169 : BitVec 32 := Scalar.muli arg20 c16_i32_100
  let v175 : Index := Scalar.indexCast v169
  ![0, v175.toNat]
@[reducible] def k2_t23_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off46 (k2_t19 : Fin k2_t19_loop.trips) (k2_t23 : Fin k2_t23_loop.trips) : Fin 2 → Nat :=
  let c0_i32_32 : BitVec 32 := 0#32
  let c1_i32_34 : BitVec 32 := 1#32
  let arg18 : BitVec 32 := Scf.iv c0_i32_32 c1_i32_34 k2_t19
  let c16_i32_55 : BitVec 32 := 16#32
  let v76 : BitVec 32 := Scalar.muli arg18 c16_i32_55
  let c3_i32 : BitVec 32 := 3#32
  let v77 : BitVec 32 := Scalar.addi v76 c3_i32
  let v170 : Index := Scalar.indexCast v77
  let c0_i32_97 : BitVec 32 := 0#32
  let c1_i32_98 : BitVec 32 := 1#32
  let arg20 : BitVec 32 := Scf.iv c0_i32_97 c1_i32_98 k2_t23
  let c16_i32_100 : BitVec 32 := 16#32
  let v169 : BitVec 32 := Scalar.muli arg20 c16_i32_100
  let v171 : Index := Scalar.indexCast v169
  ![v170.toNat, v171.toNat]
def k2_off47 (k2_t23 : Fin k2_t23_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t23
  let c16_i32_100 : BitVec 32 := 16#32
  let v169 : BitVec 32 := Scalar.muli arg20 c16_i32_100
  let v175 : Index := Scalar.indexCast v169
  ![0, v175.toNat]
@[reducible] def k2_t24_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off48 (k2_t19 : Fin k2_t19_loop.trips) (k2_t24 : Fin k2_t24_loop.trips) : Fin 2 → Nat :=
  let c0_i32_32 : BitVec 32 := 0#32
  let c1_i32_34 : BitVec 32 := 1#32
  let arg18 : BitVec 32 := Scf.iv c0_i32_32 c1_i32_34 k2_t19
  let c16_i32_58 : BitVec 32 := 16#32
  let v83 : BitVec 32 := Scalar.muli arg18 c16_i32_58
  let c4_i32 : BitVec 32 := 4#32
  let v84 : BitVec 32 := Scalar.addi v83 c4_i32
  let v170 : Index := Scalar.indexCast v84
  let c0_i32_97 : BitVec 32 := 0#32
  let c1_i32_98 : BitVec 32 := 1#32
  let arg20 : BitVec 32 := Scf.iv c0_i32_97 c1_i32_98 k2_t24
  let c16_i32_100 : BitVec 32 := 16#32
  let v169 : BitVec 32 := Scalar.muli arg20 c16_i32_100
  let v171 : Index := Scalar.indexCast v169
  ![v170.toNat, v171.toNat]
def k2_off49 (k2_t24 : Fin k2_t24_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t24
  let c16_i32_100 : BitVec 32 := 16#32
  let v169 : BitVec 32 := Scalar.muli arg20 c16_i32_100
  let v175 : Index := Scalar.indexCast v169
  ![0, v175.toNat]
@[reducible] def k2_t25_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off50 (k2_t19 : Fin k2_t19_loop.trips) (k2_t25 : Fin k2_t25_loop.trips) : Fin 2 → Nat :=
  let c0_i32_32 : BitVec 32 := 0#32
  let c1_i32_34 : BitVec 32 := 1#32
  let arg18 : BitVec 32 := Scf.iv c0_i32_32 c1_i32_34 k2_t19
  let c16_i32_61 : BitVec 32 := 16#32
  let v90 : BitVec 32 := Scalar.muli arg18 c16_i32_61
  let c5_i32 : BitVec 32 := 5#32
  let v91 : BitVec 32 := Scalar.addi v90 c5_i32
  let v170 : Index := Scalar.indexCast v91
  let c0_i32_97 : BitVec 32 := 0#32
  let c1_i32_98 : BitVec 32 := 1#32
  let arg20 : BitVec 32 := Scf.iv c0_i32_97 c1_i32_98 k2_t25
  let c16_i32_100 : BitVec 32 := 16#32
  let v169 : BitVec 32 := Scalar.muli arg20 c16_i32_100
  let v171 : Index := Scalar.indexCast v169
  ![v170.toNat, v171.toNat]
def k2_off51 (k2_t25 : Fin k2_t25_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t25
  let c16_i32_100 : BitVec 32 := 16#32
  let v169 : BitVec 32 := Scalar.muli arg20 c16_i32_100
  let v175 : Index := Scalar.indexCast v169
  ![0, v175.toNat]
@[reducible] def k2_t26_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off52 (k2_t19 : Fin k2_t19_loop.trips) (k2_t26 : Fin k2_t26_loop.trips) : Fin 2 → Nat :=
  let c0_i32_32 : BitVec 32 := 0#32
  let c1_i32_34 : BitVec 32 := 1#32
  let arg18 : BitVec 32 := Scf.iv c0_i32_32 c1_i32_34 k2_t19
  let c16_i32_64 : BitVec 32 := 16#32
  let v97 : BitVec 32 := Scalar.muli arg18 c16_i32_64
  let c6_i32 : BitVec 32 := 6#32
  let v98 : BitVec 32 := Scalar.addi v97 c6_i32
  let v170 : Index := Scalar.indexCast v98
  let c0_i32_97 : BitVec 32 := 0#32
  let c1_i32_98 : BitVec 32 := 1#32
  let arg20 : BitVec 32 := Scf.iv c0_i32_97 c1_i32_98 k2_t26
  let c16_i32_100 : BitVec 32 := 16#32
  let v169 : BitVec 32 := Scalar.muli arg20 c16_i32_100
  let v171 : Index := Scalar.indexCast v169
  ![v170.toNat, v171.toNat]
def k2_off53 (k2_t26 : Fin k2_t26_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t26
  let c16_i32_100 : BitVec 32 := 16#32
  let v169 : BitVec 32 := Scalar.muli arg20 c16_i32_100
  let v175 : Index := Scalar.indexCast v169
  ![0, v175.toNat]
@[reducible] def k2_t27_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off54 (k2_t19 : Fin k2_t19_loop.trips) (k2_t27 : Fin k2_t27_loop.trips) : Fin 2 → Nat :=
  let c0_i32_32 : BitVec 32 := 0#32
  let c1_i32_34 : BitVec 32 := 1#32
  let arg18 : BitVec 32 := Scf.iv c0_i32_32 c1_i32_34 k2_t19
  let c16_i32_67 : BitVec 32 := 16#32
  let v104 : BitVec 32 := Scalar.muli arg18 c16_i32_67
  let c7_i32 : BitVec 32 := 7#32
  let v105 : BitVec 32 := Scalar.addi v104 c7_i32
  let v170 : Index := Scalar.indexCast v105
  let c0_i32_97 : BitVec 32 := 0#32
  let c1_i32_98 : BitVec 32 := 1#32
  let arg20 : BitVec 32 := Scf.iv c0_i32_97 c1_i32_98 k2_t27
  let c16_i32_100 : BitVec 32 := 16#32
  let v169 : BitVec 32 := Scalar.muli arg20 c16_i32_100
  let v171 : Index := Scalar.indexCast v169
  ![v170.toNat, v171.toNat]
def k2_off55 (k2_t27 : Fin k2_t27_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t27
  let c16_i32_100 : BitVec 32 := 16#32
  let v169 : BitVec 32 := Scalar.muli arg20 c16_i32_100
  let v175 : Index := Scalar.indexCast v169
  ![0, v175.toNat]
@[reducible] def k2_t28_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off56 (k2_t19 : Fin k2_t19_loop.trips) (k2_t28 : Fin k2_t28_loop.trips) : Fin 2 → Nat :=
  let c0_i32_32 : BitVec 32 := 0#32
  let c1_i32_34 : BitVec 32 := 1#32
  let arg18 : BitVec 32 := Scf.iv c0_i32_32 c1_i32_34 k2_t19
  let c16_i32_70 : BitVec 32 := 16#32
  let v111 : BitVec 32 := Scalar.muli arg18 c16_i32_70
  let c8_i32 : BitVec 32 := 8#32
  let v112 : BitVec 32 := Scalar.addi v111 c8_i32
  let v170 : Index := Scalar.indexCast v112
  let c0_i32_97 : BitVec 32 := 0#32
  let c1_i32_98 : BitVec 32 := 1#32
  let arg20 : BitVec 32 := Scf.iv c0_i32_97 c1_i32_98 k2_t28
  let c16_i32_100 : BitVec 32 := 16#32
  let v169 : BitVec 32 := Scalar.muli arg20 c16_i32_100
  let v171 : Index := Scalar.indexCast v169
  ![v170.toNat, v171.toNat]
def k2_off57 (k2_t28 : Fin k2_t28_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t28
  let c16_i32_100 : BitVec 32 := 16#32
  let v169 : BitVec 32 := Scalar.muli arg20 c16_i32_100
  let v175 : Index := Scalar.indexCast v169
  ![0, v175.toNat]
@[reducible] def k2_t29_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off58 (k2_t19 : Fin k2_t19_loop.trips) (k2_t29 : Fin k2_t29_loop.trips) : Fin 2 → Nat :=
  let c0_i32_32 : BitVec 32 := 0#32
  let c1_i32_34 : BitVec 32 := 1#32
  let arg18 : BitVec 32 := Scf.iv c0_i32_32 c1_i32_34 k2_t19
  let c16_i32_73 : BitVec 32 := 16#32
  let v118 : BitVec 32 := Scalar.muli arg18 c16_i32_73
  let c9_i32 : BitVec 32 := 9#32
  let v119 : BitVec 32 := Scalar.addi v118 c9_i32
  let v170 : Index := Scalar.indexCast v119
  let c0_i32_97 : BitVec 32 := 0#32
  let c1_i32_98 : BitVec 32 := 1#32
  let arg20 : BitVec 32 := Scf.iv c0_i32_97 c1_i32_98 k2_t29
  let c16_i32_100 : BitVec 32 := 16#32
  let v169 : BitVec 32 := Scalar.muli arg20 c16_i32_100
  let v171 : Index := Scalar.indexCast v169
  ![v170.toNat, v171.toNat]
def k2_off59 (k2_t29 : Fin k2_t29_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t29
  let c16_i32_100 : BitVec 32 := 16#32
  let v169 : BitVec 32 := Scalar.muli arg20 c16_i32_100
  let v175 : Index := Scalar.indexCast v169
  ![0, v175.toNat]
@[reducible] def k2_t30_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off60 (k2_t19 : Fin k2_t19_loop.trips) (k2_t30 : Fin k2_t30_loop.trips) : Fin 2 → Nat :=
  let c0_i32_32 : BitVec 32 := 0#32
  let c1_i32_34 : BitVec 32 := 1#32
  let arg18 : BitVec 32 := Scf.iv c0_i32_32 c1_i32_34 k2_t19
  let c16_i32_76 : BitVec 32 := 16#32
  let v125 : BitVec 32 := Scalar.muli arg18 c16_i32_76
  let c10_i32 : BitVec 32 := 10#32
  let v126 : BitVec 32 := Scalar.addi v125 c10_i32
  let v170 : Index := Scalar.indexCast v126
  let c0_i32_97 : BitVec 32 := 0#32
  let c1_i32_98 : BitVec 32 := 1#32
  let arg20 : BitVec 32 := Scf.iv c0_i32_97 c1_i32_98 k2_t30
  let c16_i32_100 : BitVec 32 := 16#32
  let v169 : BitVec 32 := Scalar.muli arg20 c16_i32_100
  let v171 : Index := Scalar.indexCast v169
  ![v170.toNat, v171.toNat]
def k2_off61 (k2_t30 : Fin k2_t30_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t30
  let c16_i32_100 : BitVec 32 := 16#32
  let v169 : BitVec 32 := Scalar.muli arg20 c16_i32_100
  let v175 : Index := Scalar.indexCast v169
  ![0, v175.toNat]
@[reducible] def k2_t31_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off62 (k2_t19 : Fin k2_t19_loop.trips) (k2_t31 : Fin k2_t31_loop.trips) : Fin 2 → Nat :=
  let c0_i32_32 : BitVec 32 := 0#32
  let c1_i32_34 : BitVec 32 := 1#32
  let arg18 : BitVec 32 := Scf.iv c0_i32_32 c1_i32_34 k2_t19
  let c16_i32_79 : BitVec 32 := 16#32
  let v132 : BitVec 32 := Scalar.muli arg18 c16_i32_79
  let c11_i32 : BitVec 32 := 11#32
  let v133 : BitVec 32 := Scalar.addi v132 c11_i32
  let v170 : Index := Scalar.indexCast v133
  let c0_i32_97 : BitVec 32 := 0#32
  let c1_i32_98 : BitVec 32 := 1#32
  let arg20 : BitVec 32 := Scf.iv c0_i32_97 c1_i32_98 k2_t31
  let c16_i32_100 : BitVec 32 := 16#32
  let v169 : BitVec 32 := Scalar.muli arg20 c16_i32_100
  let v171 : Index := Scalar.indexCast v169
  ![v170.toNat, v171.toNat]
def k2_off63 (k2_t31 : Fin k2_t31_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t31
  let c16_i32_100 : BitVec 32 := 16#32
  let v169 : BitVec 32 := Scalar.muli arg20 c16_i32_100
  let v175 : Index := Scalar.indexCast v169
  ![0, v175.toNat]
@[reducible] def k2_t32_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off64 (k2_t19 : Fin k2_t19_loop.trips) (k2_t32 : Fin k2_t32_loop.trips) : Fin 2 → Nat :=
  let c0_i32_32 : BitVec 32 := 0#32
  let c1_i32_34 : BitVec 32 := 1#32
  let arg18 : BitVec 32 := Scf.iv c0_i32_32 c1_i32_34 k2_t19
  let c16_i32_82 : BitVec 32 := 16#32
  let v139 : BitVec 32 := Scalar.muli arg18 c16_i32_82
  let c12_i32 : BitVec 32 := 12#32
  let v140 : BitVec 32 := Scalar.addi v139 c12_i32
  let v170 : Index := Scalar.indexCast v140
  let c0_i32_97 : BitVec 32 := 0#32
  let c1_i32_98 : BitVec 32 := 1#32
  let arg20 : BitVec 32 := Scf.iv c0_i32_97 c1_i32_98 k2_t32
  let c16_i32_100 : BitVec 32 := 16#32
  let v169 : BitVec 32 := Scalar.muli arg20 c16_i32_100
  let v171 : Index := Scalar.indexCast v169
  ![v170.toNat, v171.toNat]
def k2_off65 (k2_t32 : Fin k2_t32_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t32
  let c16_i32_100 : BitVec 32 := 16#32
  let v169 : BitVec 32 := Scalar.muli arg20 c16_i32_100
  let v175 : Index := Scalar.indexCast v169
  ![0, v175.toNat]
@[reducible] def k2_t33_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off66 (k2_t19 : Fin k2_t19_loop.trips) (k2_t33 : Fin k2_t33_loop.trips) : Fin 2 → Nat :=
  let c0_i32_32 : BitVec 32 := 0#32
  let c1_i32_34 : BitVec 32 := 1#32
  let arg18 : BitVec 32 := Scf.iv c0_i32_32 c1_i32_34 k2_t19
  let c16_i32_85 : BitVec 32 := 16#32
  let v146 : BitVec 32 := Scalar.muli arg18 c16_i32_85
  let c13_i32 : BitVec 32 := 13#32
  let v147 : BitVec 32 := Scalar.addi v146 c13_i32
  let v170 : Index := Scalar.indexCast v147
  let c0_i32_97 : BitVec 32 := 0#32
  let c1_i32_98 : BitVec 32 := 1#32
  let arg20 : BitVec 32 := Scf.iv c0_i32_97 c1_i32_98 k2_t33
  let c16_i32_100 : BitVec 32 := 16#32
  let v169 : BitVec 32 := Scalar.muli arg20 c16_i32_100
  let v171 : Index := Scalar.indexCast v169
  ![v170.toNat, v171.toNat]
def k2_off67 (k2_t33 : Fin k2_t33_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t33
  let c16_i32_100 : BitVec 32 := 16#32
  let v169 : BitVec 32 := Scalar.muli arg20 c16_i32_100
  let v175 : Index := Scalar.indexCast v169
  ![0, v175.toNat]
@[reducible] def k2_t34_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off68 (k2_t19 : Fin k2_t19_loop.trips) (k2_t34 : Fin k2_t34_loop.trips) : Fin 2 → Nat :=
  let c0_i32_32 : BitVec 32 := 0#32
  let c1_i32_34 : BitVec 32 := 1#32
  let arg18 : BitVec 32 := Scf.iv c0_i32_32 c1_i32_34 k2_t19
  let c16_i32_88 : BitVec 32 := 16#32
  let v153 : BitVec 32 := Scalar.muli arg18 c16_i32_88
  let c14_i32 : BitVec 32 := 14#32
  let v154 : BitVec 32 := Scalar.addi v153 c14_i32
  let v170 : Index := Scalar.indexCast v154
  let c0_i32_97 : BitVec 32 := 0#32
  let c1_i32_98 : BitVec 32 := 1#32
  let arg20 : BitVec 32 := Scf.iv c0_i32_97 c1_i32_98 k2_t34
  let c16_i32_100 : BitVec 32 := 16#32
  let v169 : BitVec 32 := Scalar.muli arg20 c16_i32_100
  let v171 : Index := Scalar.indexCast v169
  ![v170.toNat, v171.toNat]
def k2_off69 (k2_t34 : Fin k2_t34_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t34
  let c16_i32_100 : BitVec 32 := 16#32
  let v169 : BitVec 32 := Scalar.muli arg20 c16_i32_100
  let v175 : Index := Scalar.indexCast v169
  ![0, v175.toNat]
@[reducible] def k2_t35_loop : Scf.Loop 32 :=
  let c0_i32_97 : BitVec 32 := 0#32
  let c64_i32 : BitVec 32 := 64#32
  let v167 : BitVec 32 := Scalar.addi c0_i32_97 c64_i32
  let c1_i32_98 : BitVec 32 := 1#32
  ⟨c0_i32_97, v167, c1_i32_98⟩
def k2_off70 (k2_t19 : Fin k2_t19_loop.trips) (k2_t35 : Fin k2_t35_loop.trips) : Fin 2 → Nat :=
  let c0_i32_32 : BitVec 32 := 0#32
  let c1_i32_34 : BitVec 32 := 1#32
  let arg18 : BitVec 32 := Scf.iv c0_i32_32 c1_i32_34 k2_t19
  let c16_i32_91 : BitVec 32 := 16#32
  let v160 : BitVec 32 := Scalar.muli arg18 c16_i32_91
  let c15_i32_92 : BitVec 32 := 15#32
  let v161 : BitVec 32 := Scalar.addi v160 c15_i32_92
  let v170 : Index := Scalar.indexCast v161
  let c0_i32_97 : BitVec 32 := 0#32
  let c1_i32_98 : BitVec 32 := 1#32
  let arg20 : BitVec 32 := Scf.iv c0_i32_97 c1_i32_98 k2_t35
  let c16_i32_100 : BitVec 32 := 16#32
  let v169 : BitVec 32 := Scalar.muli arg20 c16_i32_100
  let v171 : Index := Scalar.indexCast v169
  ![v170.toNat, v171.toNat]
def k2_off71 (k2_t35 : Fin k2_t35_loop.trips) : Fin 2 → Nat :=
  let c0_i32_101 : BitVec 32 := 0#32
  let v174 : Index := Scalar.indexCast c0_i32_101
  let c0_i32_97 : BitVec 32 := 0#32
  let c1_i32_98 : BitVec 32 := 1#32
  let arg20 : BitVec 32 := Scf.iv c0_i32_97 c1_i32_98 k2_t35
  let c16_i32_100 : BitVec 32 := 16#32
  let v169 : BitVec 32 := Scalar.muli arg20 c16_i32_100
  let v175 : Index := Scalar.indexCast v169
  ![0, v175.toNat]
def k2_cond34 (k2_t1 : Fin k2_t1_loop.trips) : BitVec 1 :=
  let c0_i32_3 : BitVec 32 := 0#32
  let c1_i32 : BitVec 32 := 1#32
  let arg16 : BitVec 32 := Scf.iv c0_i32_3 c1_i32 k2_t1
  let c15_i32 : BitVec 32 := 15#32
  let v46 : BitVec 1 := Scalar.cmpi .slt arg16 c15_i32
  let v47 : BitVec 32 := Scalar.extui v46
  let c0_i32_40 : BitVec 32 := 0#32
  let v48 : BitVec 1 := Scalar.cmpi .ne v47 c0_i32_40
  v48

def k2_off72 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c32_i32_42 : BitVec 32 := 32#32
  let v49 : BitVec 32 := Scalar.muli v14 c32_i32_42
  let v50 : BitVec 32 := Scalar.addi v2 v49
  let c0_i32_43 : BitVec 32 := 0#32
  ![v50.toNat, 0]
def k2_off73 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_9 : BitVec 32 := 2#32
  let c0_i32_3 : BitVec 32 := 0#32
  let c1_i32 : BitVec 32 := 1#32
  let arg16 : BitVec 32 := Scf.iv c0_i32_3 c1_i32 k2_t1
  let v14 : BitVec 32 := Scalar.muli c2_i32_9 arg16
  let c2_i32_45 : BitVec 32 := 2#32
  let v53 : BitVec 32 := Scalar.addi v14 c2_i32_45
  let c32_i32_46 : BitVec 32 := 32#32
  let v54 : BitVec 32 := Scalar.muli v53 c32_i32_46
  let v55 : BitVec 32 := Scalar.addi v2 v54
  let c0_i32_47 : BitVec 32 := 0#32
  ![v55.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x8192x1024 : Shape := ⟨3, ![4, 8192, 1024]⟩
abbrev S4x8192 : Shape := ⟨2, ![4, 8192]⟩
abbrev S1024 : Shape := ⟨1, ![1024]⟩
abbrev S4x8192x1 : Shape := ⟨3, ![4, 8192, 1]⟩
abbrev S_ : Shape := ⟨0, ![]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i1⟩
  | .hbm, ⟨2, _⟩ => ⟨S1024, .f32⟩
  | .hbm, ⟨3, _⟩ => ⟨S1024, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S_, .f32⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S4x8192x1, .i1⟩
  | .hbm, ⟨41, _⟩ => ⟨S4x8192x1024, .i1⟩
  | .hbm, ⟨42, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.Tok.lean ====
/-
  The column loops of the two SparseCore bodies, each said once: a masked token's row added, lane by lane, to the rows of sums and of
  sums of squares, and a masked token's row replaced in place by its normalised values.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.VecWindow
public import Idealize.ShloMosaic.Lib.ValueIdxCore
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it, and the algebra of the proof's ghost state -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the window copies' rounds, and the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

/-- The thread's memref `m` holds the values `X`. -/
abbrev holds (t : Thread nD τ) {sp : Space} {s : Shape} {e : EltTy} (m : Memref sig t.2.kind sp s e) (X : s.Idx → Elt F e) : sProp 𝕄 :=
  iprop(∃ g : Buf (Elt F) (m.view.loc t), ⌜m.view.read (Elt F) g = X⌝ ∗ (m.view.loc t ↦[m.view.set]{fullShare} g : sProp 𝕄))

theorem holds_intro (t : Thread nD τ) {sp : Space} {s : Shape} {e : EltTy} (m : Memref sig t.2.kind sp s e) (X : s.Idx → Elt F e)
    (g : Buf (Elt F) (m.view.loc t)) (h : m.view.read (Elt F) g = X) :
    (m.view.loc t ↦[m.view.set]{fullShare} g : sProp 𝕄) ⊢ holds t m X := by
  iintro H
  iexists g
  isplitr
  · ipureintro; exact h
  iexact H

variable [FloatOps F]

/-! ## A token's row added to the two rows of sums -/

/-- A trip of a token's column loop: lanes `[16 j, 16 j + 16)` of the token's row are added to the sums, and their squares to the sums of squares. -/
def tokTrip {c : Fin τ.nSC} {s : Fin τ.nSub} (xb : Memref sig .scVector .vmem S32x1024 .f32) (acc : Memref sig .scVector .vmem S3x1024 .f32)
    (ox : Fin k0_t5_loop.trips → Fin 2 → ℕ) (hox : ∀ j a, ox j a + S1x16.size a ≤ S32x1024.size a)
    (oa : Fin k0_t5_loop.trips → Fin 2 → ℕ) (hoa : ∀ j a, oa j a + S1x16.size a ≤ S3x1024.size a)
    (ob : Fin k0_t5_loop.trips → Fin 2 → ℕ) (hob : ∀ j a, ob j a + S1x16.size a ≤ S3x1024.size a) :
    Fin k0_t5_loop.trips → BitVec 32 → Prog (TpuEff nD τ sig (Elt F) Λ₀ (.scVector c s)) (BitVec 32) :=
  fun j _ => do
    let v : Vec F S1x16 .f32 ← Prog.lift (.load xb (Rect.unit (s := S32x1024) (ox j) S1x16.size (hox j)).toLoadRect (View.loadsAt_vmem h_S1x16))
    let a : Vec F S1x16 .f32 ← Prog.lift (.load acc (Rect.unit (s := S3x1024) (oa j) S1x16.size (hoa j)).toLoadRect (View.loadsAt_vmem h_S1x16))
    let _ : Vec F S1x16 .f32 ← Prog.lift (.load acc (Rect.unit (s := S3x1024) (oa j) S1x16.size (hoa j)).toLoadRect (View.loadsAt_vmem h_S1x16))
    Prog.lift (.store acc (Rect.unit (s := S3x1024) (oa j) S1x16.size (hoa j)) (k0_pay4 v a) Finset.univ (View.stores_vmem_bits_univ h_S1x16 rfl) (.inl rfl))
    let b : Vec F S1x16 .f32 ← Prog.lift (.load acc (Rect.unit (s := S3x1024) (ob j) S1x16.size (hob j)).toLoadRect (View.loadsAt_vmem h_S1x16))
    let _ : Vec F S1x16 .f32 ← Prog.lift (.load acc (Rect.unit (s := S3x1024) (ob j) S1x16.size (hob j)).toLoadRect (View.loadsAt_vmem h_S1x16))
    Prog.lift (.store acc (Rect.unit (s := S3x1024) (ob j) S1x16.size (hob j)) (k0_pay5 v b) Finset.univ (View.stores_vmem_bits_univ h_S1x16 rfl) (.inl rfl))
    pure 0#32

/-- The rows of sums and of squares with the row `x` added on its first `16 j` lanes; the third row stays. -/
def addRow (j : ℕ) (x : Fin 1024 → F .f32) (A : S3x1024.Idx → F .f32) : S3x1024.Idx → F .f32 := fun p =>
  if (p 1).val < 16 * j then
    if (p 0).val = 0 then FloatOps.addf (A p) (x (p 1))
    else if (p 0).val = 1 then FloatOps.addf (A p) (FloatOps.mulf (x (p 1)) (x (p 1)))
    else A p
  else A p

theorem addRow_zero (x : Fin 1024 → F .f32) (A : S3x1024.Idx → F .f32) : addRow 0 x A = A := by
  funext p; simp [addRow]

theorem trips_t5 : k0_t5_loop.trips = 64 := by decide

theorem tokTrip_t5 (i : grid0.Coords) (arg2 harg2 arg3 harg3 arg4 harg4 arg5 harg5 arg6 harg6 arg7 harg7 arg8 harg8 arg9 arg10 v13_r0 v13_r1 t3 v13 c0 c1 t4) :
    k0_t5_body (F := F) i arg2 harg2 arg3 harg3 arg4 harg4 arg5 harg5 arg6 harg6 arg7 harg7 arg8 harg8 arg9 arg10 v13_r0 v13_r1 t3 v13 c0 c1 t4
      = tokTrip arg5 arg8 (k0_off10 t4) (k0_off10_inb t4) k0_off11 k0_off11_inb k0_off12 k0_off12_inb := rfl

theorem k0_pay4_apply (v a : Vec F S1x16 .f32) (y : S1x16.Idx) : k0_pay4 v a y = FloatOps.addf (a y) (v y) := by
  have e : k0_pay4 v a y = FloatOps.addf (shapeCast S1x16 (shapeCast S16 a shapeCasts_S1x16_S16) shapeCasts_S16_S1x16 y)
      (shapeCast S1x16 (shapeCast S16 v shapeCasts_S1x16_S16) shapeCasts_S16_S1x16 y) := rfl
  rw [e, shapeCast_shapeCast, shapeCast_shapeCast]

theorem k0_pay5_apply (v a : Vec F S1x16 .f32) (y : S1x16.Idx) : k0_pay5 v a y = FloatOps.addf (a y) (FloatOps.mulf (v y) (v y)) := by
  have e : k0_pay5 v a y = FloatOps.addf (shapeCast S1x16 (shapeCast S16 a shapeCasts_S1x16_S16) shapeCasts_S16_S1x16 y)
      (FloatOps.mulf (shapeCast S1x16 (shapeCast S16 v shapeCasts_S1x16_S16) shapeCasts_S16_S1x16 y)
        (shapeCast S1x16 (shapeCast S16 v shapeCasts_S1x16_S16) shapeCasts_S16_S1x16 y)) := rfl
  rw [e, shapeCast_shapeCast, shapeCast_shapeCast]

/-- Sixteen lanes of one row put over, read at an element. -/
theorem put_row {n : ℕ} {α : Type} (x : (⟨2, ![n, 1024]⟩ : Shape).Idx → α) (o q : ℕ) (w : S1x16.Idx → α) (p : (⟨2, ![n, 1024]⟩ : Shape).Idx) :
    VecWindow.put x ![o, q] S1x16.size w p
      = if h : (p 0).val = o ∧ (q ≤ (p 1).val ∧ (p 1).val < q + 16) then w (ix2 0 ⟨(p 1).val - q, by omega⟩) else x p := by
  have hi : (∀ a, (![o, q] : Fin 2 → ℕ) a ≤ (p a).val ∧ (p a).val < (![o, q] : Fin 2 → ℕ) a + S1x16.size a)
      ↔ ((p 0).val = o ∧ (q ≤ (p 1).val ∧ (p 1).val < q + 16)) := by
    rw [Fin.forall_fin_two]
    show ((o ≤ (p 0).val ∧ (p 0).val < o + 1) ∧ (q ≤ (p 1).val ∧ (p 1).val < q + 16)) ↔ _
    omega
  unfold VecWindow.put
  by_cases h : (p 0).val = o ∧ (q ≤ (p 1).val ∧ (p 1).val < q + 16)
  · rw [dif_pos (hi.mpr h), dif_pos h]
    refine congrArg w (funext fun a => ?_)
    match a with
    | ⟨0, _⟩ => exact Fin.ext (show (p 0).val - o = 0 by omega)
    | ⟨1, _⟩ => rfl
  · rw [dif_neg (fun h' => h (hi.mp h')), dif_neg h]

/-- What one trip's two stores leave in the sums. -/
theorem tok_val (xb : Memref sig .scVector .vmem S32x1024 .f32) (acc : Memref sig .scVector .vmem S3x1024 .f32)
    (ox : Fin 2 → ℕ) (hox : ∀ a, ox a + S1x16.size a ≤ S32x1024.size a) (oa : Fin 2 → ℕ) (hoa : ∀ a, oa a + S1x16.size a ≤ S3x1024.size a)
    (ob : Fin 2 → ℕ) (hob : ∀ a, ob a + S1x16.size a ≤ S3x1024.size a)
    (r : Fin 32) (j : ℕ) (hj : j < 64) (ex : ox = ![r.val, 16 * j]) (ea : oa = ![0, 16 * j]) (eb : ob = ![1, 16 * j])
    (X : S32x1024.Idx → F .f32) (A : S3x1024.Idx → F .f32) (f : xb.view.ty.Contents (Elt F)) (g : acc.view.ty.Contents (Elt F))
    (hf : xb.view.read (Elt F) f = X) (hg : acc.view.read (Elt F) g = addRow j (fun l => X (ix2 r l)) A)
    (L : List (View.Piece (Elt F) S3x1024 .f32))
    (hL : L = [⟨Rect.unit (s := S3x1024) oa S1x16.size hoa, k0_pay4 (xb.view.readAt (Elt F) (Rect.unit (s := S32x1024) ox S1x16.size hox).toLoadRect f)
        (acc.view.readAt (Elt F) (Rect.unit (s := S3x1024) oa S1x16.size hoa).toLoadRect g)⟩]) :
    acc.view.read (Elt F) (acc.view.writes (Elt F) g (⟨Rect.unit (s := S3x1024) ob S1x16.size hob,
        k0_pay5 (xb.view.readAt (Elt F) (Rect.unit (s := S32x1024) ox S1x16.size hox).toLoadRect f)
          (acc.view.readAt (Elt F) (Rect.unit (s := S3x1024) ob S1x16.size hob).toLoadRect (acc.view.writes (Elt F) g L))⟩ :: L))
      = addRow (j + 1) (fun l => X (ix2 r l)) A := by
  subst ex ea eb hL
  rw [View.read_writes_cons_put _ _ _ _ _ rfl, View.readAt_unit acc.view _ hob rfl hob, View.readAt_unit _ _ _ rfl hox, View.readAt_unit acc.view g hoa rfl hoa,
    View.read_writes_cons_put _ _ _ _ _ rfl, View.writes_nil, hf, hg, VecWindow.window_put_of_disjoint _ _ _ _ _ _ _ 0 (by right; simp [S1x16])]
  funext p
  have h0 : (p 0).val < 3 := (p 0).isLt
  have h1 : (p 1).val < 1024 := (p 1).isLt
  rw [put_row (n := 3), put_row (n := 3)]
  by_cases hw : 16 * j ≤ (p 1).val ∧ (p 1).val < 16 * j + 16
  · have hlt : (p 1).val < 16 * (j + 1) := by omega
    have hge : ¬ (p 1).val < 16 * j := by omega
    have ep : ∀ (q : S3x1024.Idx), (q 0).val = (p 0).val → (q 1).val = (p 1).val → q = p := fun q e0 e1 => by
      funext a; match a with | ⟨0, _⟩ => exact Fin.ext e0 | ⟨1, _⟩ => exact Fin.ext e1
    have ev : VecWindow.window X ![r.val, 16 * j] S1x16.size hox (ix2 0 ⟨(p 1).val - 16 * j, by omega⟩) = X (ix2 r (p 1)) := by
      refine congrArg X (funext fun a => ?_)
      match a with
      | ⟨0, _⟩ => exact Fin.ext (show r.val + 1 * 0 = r.val by omega)
      | ⟨1, _⟩ => exact Fin.ext (show 16 * j + 1 * ((p 1).val - 16 * j) = (p 1).val by omega)
    have ew : ∀ (B : S3x1024.Idx → F .f32) (o : ℕ) (ho : ∀ a, (![o, 16 * j] : Fin 2 → ℕ) a + S1x16.size a ≤ S3x1024.size a), (p 0).val = o →
        VecWindow.window B ![o, 16 * j] S1x16.size ho (ix2 0 ⟨(p 1).val - 16 * j, by omega⟩) = B p := by
      intro B o ho e
      refine congrArg B (ep _ ?_ ?_)
      · show o + 1 * 0 = _; omega
      · show 16 * j + 1 * ((p 1).val - 16 * j) = _; omega
    by_cases e1 : (p 0).val = 1
    · rw [dif_pos ⟨e1, hw⟩, k0_pay5_apply, ev, ew _ 1 _ e1]
      simp [addRow, hlt, hge, e1]
    · rw [dif_neg (fun h => e1 h.1)]
      by_cases e0 : (p 0).val = 0
      · rw [dif_pos ⟨e0, hw⟩, k0_pay4_apply, ev, ew _ 0 _ e0]
        simp [addRow, hlt, hge, e0]
      · rw [dif_neg (fun h => e0 h.1)]
        simp [addRow, hge, e0, e1]
  · rw [dif_neg (fun h => hw h.2), dif_neg (fun h => hw h.2)]
    unfold addRow
    by_cases hlt : (p 1).val < 16 * j
    · rw [if_pos hlt, if_pos (show (p 1).val < 16 * (j + 1) by omega)]
    · rw [if_neg hlt, if_neg (show ¬ (p 1).val < 16 * (j + 1) by omega)]

/-- One trip adds its sixteen lanes. -/
theorem tok_trip (d : Dev nD) (c : Fin τ.nSC) (s : Fin τ.nSub) (xb : Memref sig .scVector .vmem S32x1024 .f32) (acc : Memref sig .scVector .vmem S3x1024 .f32)
    (ox : Fin k0_t5_loop.trips → Fin 2 → ℕ) (hox) (oa : Fin k0_t5_loop.trips → Fin 2 → ℕ) (hoa) (ob : Fin k0_t5_loop.trips → Fin 2 → ℕ) (hob)
    (r : Fin 32) (ex : ∀ j, ox j = ![r.val, 16 * j.val]) (ea : ∀ j, oa j = ![0, 16 * j.val]) (eb : ∀ j, ob j = ![1, 16 * j.val])
    (X : S32x1024.Idx → F .f32) (A : S3x1024.Idx → F .f32) (j : Fin k0_t5_loop.trips) (z : BitVec 32) :
    iprop(holds (V d c s) xb X ∗ holds (V d c s) acc (addRow j.val (fun l => X (ix2 r l)) A))
      ⊢ wp frame (wpE defs₀ 𝒱₀ (V d c s) none) Set.univ (tokTrip (F := F) (c := c) (s := s) xb acc ox hox oa hoa ob hob j z)
        fun _ => iprop(holds (V d c s) xb X ∗ holds (V d c s) acc (addRow (j.val + 1) (fun l => X (ix2 r l)) A)) := by
  unfold tokTrip
  unfold holds
  iintro ⟨⟨%f, %hf, Hx⟩, ⟨%g, %hg, Ha⟩⟩
  sl_exec!
  sl_step
  isplitl [Hx]
  · iapply (holds_intro (V d c s) xb X f hf) $$ Hx
  iapply (holds_intro (V d c s) acc _ _ ?_) $$ Ha
  unfold tok_trip.sl.Ha_1
  exact tok_val xb acc (ox j) (hox j) (oa j) (hoa j) (ob j) (hob j) r j.val (lt_of_lt_of_eq j.isLt trips_t5) (ex j) (ea j) (eb j) X A f g hf hg _ rfl

/-- A token's whole column loop adds its row. -/
theorem tok_loop (d : Dev nD) (c : Fin τ.nSC) (s : Fin τ.nSub) (xb : Memref sig .scVector .vmem S32x1024 .f32) (acc : Memref sig .scVector .vmem S3x1024 .f32)
    (ox : Fin k0_t5_loop.trips → Fin 2 → ℕ) (hox) (oa : Fin k0_t5_loop.trips → Fin 2 → ℕ) (hoa) (ob : Fin k0_t5_loop.trips → Fin 2 → ℕ) (hob)
    (r : Fin 32) (ex : ∀ j, ox j = ![r.val, 16 * j.val]) (ea : ∀ j, oa j = ![0, 16 * j.val]) (eb : ∀ j, ob j = ![1, 16 * j.val])
    (X : S32x1024.Idx → F .f32) (A : S3x1024.Idx → F .f32) :
    iprop(holds (V d c s) xb X ∗ holds (V d c s) acc A)
      ⊢ wp frame (wpE defs₀ 𝒱₀ (V d c s) none) Set.univ (Scf.Loop.for k0_t5_loop k0_t5_ok 0#32 (tokTrip (F := F) (c := c) (s := s) xb acc ox hox oa hoa ob hob))
        fun _ => iprop(holds (V d c s) xb X ∗ holds (V d c s) acc (addRow 64 (fun l => X (ix2 r l)) A)) := by
  iintro ⟨Hx, Ha⟩
  sl_for (fun (k : ℕ) _ => iprop(holds (V d c s) xb X ∗ holds (V d c s) acc (addRow k (fun l => X (ix2 r l)) A))) $$ [Hx Ha]
  case region =>
    intro k z
    exact tok_trip d c s xb acc ox hox oa hoa ob hob r ex ea eb X A k z
  isplitl [Hx Ha]
  · rw [addRow_zero]
    isplitl [Hx]
    · iexact Hx
    iexact Ha
  iintro %_ HI
  rw [show Scf.trips k0_t5_loop.lb k0_t5_loop.ub k0_t5_loop.st = 64 from trips_t5]
  iexact HI

/-- A mask value is taken as set when it is above zero. -/
def hit (x : F .f32) : Prop := Scalar.cmpi .ne (Scalar.extui (Scalar.cmpf .ogt x (Scalar.ofBits .f32 0x00000000#32))) 0#32 = 1#1

open scoped Classical in
/-- The sums after the first `n` tokens of a task, whose mask values are `Mv` and whose rows are `Xs`. -/
def accN (A : S3x1024.Idx → F .f32) (Mv : ℕ → F .f32) (Xs : ℕ → Fin 1024 → F .f32) : ℕ → S3x1024.Idx → F .f32
  | 0 => A
  | n + 1 => if hit (Mv n) then addRow 64 (Xs n) (accN A Mv Xs n) else accN A Mv Xs n

/-- A token: its row is added exactly when its mask value is set. -/
theorem tok_wp (d : Dev nD) (c : Fin τ.nSC) (s : Fin τ.nSub) (xb : Memref sig .scVector .vmem S32x1024 .f32) (acc : Memref sig .scVector .vmem S3x1024 .f32)
    (ox : Fin k0_t5_loop.trips → Fin 2 → ℕ) (hox) (oa : Fin k0_t5_loop.trips → Fin 2 → ℕ) (hoa) (ob : Fin k0_t5_loop.trips → Fin 2 → ℕ) (hob)
    (r : Fin 32) (ex : ∀ j, ox j = ![r.val, 16 * j.val]) (ea : ∀ j, oa j = ![0, 16 * j.val]) (eb : ∀ j, ob j = ![1, 16 * j.val])
    (A : S3x1024.Idx → F .f32) (Mv : ℕ → F .f32) (Xs : ℕ → Fin 1024 → F .f32) (b n : ℕ) (hn : n = b + r.val)
    (mval : F .f32) (hm : mval = Mv n)
    {β : Type} (kk : Prog (TpuEff nD τ sig (Elt F) Λ₀ (.scVector c s)) β) (Q : β → sProp 𝕄) :
    holds (V d c s) xb (fun p => Xs (b + (p 0).val) (p 1))
      ⊢ iprop(holds (V d c s) acc (accN A Mv Xs n)
        -∗ ((holds (V d c s) xb (fun p => Xs (b + (p 0).val) (p 1)) ∗ holds (V d c s) acc (accN A Mv Xs (n + 1)))
          -∗ wp frame (wpE defs₀ 𝒱₀ (V d c s) none) Set.univ kk Q)
        -∗ wp frame (wpE defs₀ 𝒱₀ (V d c s) none) Set.univ
        (if Scalar.cmpi .ne (Scalar.extui (Scalar.cmpf .ogt mval (Scalar.ofBits .f32 0x00000000#32))) 0#32 = 1#1
          then (Scf.Loop.for k0_t5_loop k0_t5_ok 0#32 (tokTrip (F := F) (c := c) (s := s) xb acc ox hox oa hoa ob hob) >>= fun _ => kk) else kk) Q) := by
  subst hm hn
  by_cases h : hit (Mv (b + r.val))
  · have h' := h
    unfold hit at h'
    rw [if_pos h', wp_bind]
    iintro Hx Ha Hk
    iapply (wp_wand_r frame (wpE defs₀ 𝒱₀ (V d c s) none) Set.univ)
    isplitl [Hx Ha]
    · iapply (tok_loop d c s xb acc ox hox oa hoa ob hob r ex ea eb (fun p => Xs (b + (p 0).val) (p 1)) (accN A Mv Xs (b + r.val))) $$ [Hx Ha]
      isplitl [Hx]
      · iexact Hx
      iexact Ha
    iintro %_ HI
    iapply Hk
    simp only [accN, if_pos h]
    iexact HI
  · have h' := h
    unfold hit at h'
    rw [if_neg h']
    iintro Hx Ha Hk
    iapply Hk
    simp only [accN, if_neg h]
    isplitl [Hx]
    · iexact Hx
    iexact Ha

/-- A lane of the mask's sixteen, taken out as the programs do. -/
theorem lane_apply (v : Vec F S16 .f32) (n : Fin 16) (h : S16.Slices (![n.val] : Fin 1 → ℕ) S1) :
    extractAt ![0] (extractStridedSlice S1 ![n.val] (shapeCast S16 v shapeCasts_S16_S16) h) inpos_S1_p0 = v (ix1 n) := by
  rw [shapeCast_self]
  refine congrArg v (funext fun a => ?_)
  match a with | ⟨0, _⟩ => exact Fin.ext (by show n.val + 0 = n.val; omega)
-- ==== Proof.Trip.lean ====
/-
  The two halves of a trip of the first SparseCore body: sixteen tokens of a chunk, and both halves of a chunk.
-/
module

public import proofs.«01_k».proof.Proof.Tok
public import proofs.«01_k».proof.Proof.Gen.KernelIdeal.Points

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

/-- The vector subcore of the grid point `i`. -/
abbrev cV (i : grid0.Coords) : Fin τ.nSC := (i 0).castLE hcore0
abbrev jV (i : grid0.Coords) : Fin τ.nSub := (i 1).castLE hsub0

/-- The sixteen mask values of a load, each taken out as the programs do. -/
theorem mask_lane {c : Fin τ.nSC} {s : Fin τ.nSub} {d : Dev nD} (mb : Memref sig .scVector .vmem S1024 .f32) (fm : Buf (Elt F) (mb.view.loc (V d c s))) (Mv : ℕ → F .f32)
    (hm : mb.view.read (Elt F) fm = fun p => Mv (p 0).val) (o : Fin 1 → ℕ) (ho : ∀ a, o a + S16.size a ≤ S1024.size a) (b : ℕ) (eo : o = ![b])
    (hb : b + 16 ≤ 1024) (n : Fin 16) (h : S16.Slices (![n.val] : Fin 1 → ℕ) S1) :
    extractAt ![0] (extractStridedSlice S1 ![n.val] (shapeCast S16 (mb.view.readAt (Elt F) (Rect.unit (s := S1024) o S16.size ho).toLoadRect fm) shapeCasts_S16_S16) h) inpos_S1_p0
      = Mv (b + n.val) := by
  rw [lane_apply]
  subst eo
  rw [View.readAt_unit mb.view fm ho rfl ho, hm]
  exact congrArg Mv (by show b + 1 * n.val = _; omega)

/-- A bind is run by running its head. -/
theorem bind_intro {t : Thread nD τ} {α β : Type} (p : Prog (TpuEff nD τ sig (Elt F) Λ₀ t.2) α) (k : α → Prog (TpuEff nD τ sig (Elt F) Λ₀ t.2) β) (Q : β → sProp 𝕄) :
    wp frame (wpE defs₀ 𝒱₀ t none) Set.univ p (fun a => wp frame (wpE defs₀ 𝒱₀ t none) Set.univ (k a) Q)
      ⊢ wp frame (wpE defs₀ 𝒱₀ t none) Set.univ (p >>= k) Q := by
  rw [wp_bind]

/-- A value returned needs its post. -/
theorem pure_intro {t : Thread nD τ} {β : Type} (a : β) (Q : β → sProp 𝕄) :
    Q a ⊢ wp frame (wpE defs₀ 𝒱₀ t none) Set.univ (Pure.pure a : Prog (TpuEff nD τ sig (Elt F) Λ₀ t.2) β) Q := by
  rw [wp_pure]
  iintro H
  imodintro
  iexact H

/-- Sixteen tokens of the first chunk of a pair. -/
theorem half0 (d : Dev nD) (i : grid0.Coords) (arg2 harg2 arg3 harg3 arg4 harg4 arg5 harg5 arg6 harg6 arg7 harg7 arg8 harg8 arg9 arg10 v13_r0 v13_r1)
    (t3 : Fin k0_t3_loop.trips) (v : BitVec 32) (k : Fin k0_t4_loop.trips) (z : BitVec 32)
    (A : S3x1024.Idx → F .f32) (Mv : ℕ → F .f32) (Xs : ℕ → Fin 1024 → F .f32) :
    iprop(holds (V d (cV i) (jV i)) arg5 (fun p => Xs (64 * t3.val + (p 0).val) (p 1)) ∗ holds (V d (cV i) (jV i)) arg7 (fun p => Mv (p 0).val)
        ∗ holds (V d (cV i) (jV i)) arg8 (accN A Mv Xs (64 * t3.val + 16 * k.val)))
      ⊢ wp frame (wpE defs₀ 𝒱₀ (V d (cV i) (jV i)) none) Set.univ
        (k0_t4_body (F := F) i arg2 harg2 arg3 harg3 arg4 harg4 arg5 harg5 arg6 harg6 arg7 harg7 arg8 harg8 arg9 arg10 v13_r0 v13_r1 t3 v k z)
        fun _ => iprop(holds (V d (cV i) (jV i)) arg5 (fun p => Xs (64 * t3.val + (p 0).val) (p 1)) ∗ holds (V d (cV i) (jV i)) arg7 (fun p => Mv (p 0).val)
          ∗ holds (V d (cV i) (jV i)) arg8 (accN A Mv Xs (64 * t3.val + 16 * (k.val + 1)))) := by
  have hk : k.val < 2 := lt_of_lt_of_eq k.isLt (by decide)
  have ht : t3.val < 16 := lt_of_lt_of_eq t3.isLt (by decide)
  unfold k0_t4_body
  rw [k0_part1_eq_skeleton, k0_part2_eq_skeleton, k0_part3_eq_skeleton]
  iintro ⟨Hx, ⟨%fm, %hm, Hm⟩, Ha⟩
  have hv := mask_lane arg7 fm Mv hm (k0_off9 t3 k) (k0_off9_inb t3 k) (64 * t3.val + 16 * k.val) (k0_off9_eq t3 k) (by omega)
  rw [wp_bind]
  unfold k0_part1_skel
  sl_exec
  iapply (tok_wp d (cV i) (jV i) arg5 arg8 _ _ _ _ _ _ ⟨16 * k.val + 0, by omega⟩ (k0_off10_eq k) k0_off11_eq k0_off12_eq A Mv Xs (64 * t3.val) (64 * t3.val + 16 * k.val + 0) (Nat.add_assoc _ _ _) _ (hv 0 _) _ _) $$ Hx Ha
  iintro ⟨Hx, Ha⟩
  iapply (tok_wp d (cV i) (jV i) arg5 arg8 _ _ _ _ _ _ ⟨16 * k.val + 1, by omega⟩ (k0_off13_eq k) k0_off14_eq k0_off15_eq A Mv Xs (64 * t3.val) (64 * t3.val + 16 * k.val + 1) (Nat.add_assoc _ _ _) _ (hv 1 _) _ _) $$ Hx Ha
  iintro ⟨Hx, Ha⟩
  iapply (tok_wp d (cV i) (jV i) arg5 arg8 _ _ _ _ _ _ ⟨16 * k.val + 2, by omega⟩ (k0_off16_eq k) k0_off17_eq k0_off18_eq A Mv Xs (64 * t3.val) (64 * t3.val + 16 * k.val + 2) (Nat.add_assoc _ _ _) _ (hv 2 _) _ _) $$ Hx Ha
  iintro ⟨Hx, Ha⟩
  iapply (tok_wp d (cV i) (jV i) arg5 arg8 _ _ _ _ _ _ ⟨16 * k.val + 3, by omega⟩ (k0_off19_eq k) k0_off20_eq k0_off21_eq A Mv Xs (64 * t3.val) (64 * t3.val + 16 * k.val + 3) (Nat.add_assoc _ _ _) _ (hv 3 _) _ _) $$ Hx Ha
  iintro ⟨Hx, Ha⟩
  iapply (pure_intro (t := V d (cV i) (jV i)) _ _)
  iapply (bind_intro (t := V d (cV i) (jV i)) _ _ _)
  unfold k0_part2_skel
  iapply (tok_wp d (cV i) (jV i) arg5 arg8 _ _ _ _ _ _ ⟨16 * k.val + 4, by omega⟩ (k0_off22_eq k) k0_off23_eq k0_off24_eq A Mv Xs (64 * t3.val) (64 * t3.val + 16 * k.val + 4) (Nat.add_assoc _ _ _) _ (hv 4 _) _ _) $$ Hx Ha
  iintro ⟨Hx, Ha⟩
  iapply (tok_wp d (cV i) (jV i) arg5 arg8 _ _ _ _ _ _ ⟨16 * k.val + 5, by omega⟩ (k0_off25_eq k) k0_off26_eq k0_off27_eq A Mv Xs (64 * t3.val) (64 * t3.val + 16 * k.val + 5) (Nat.add_assoc _ _ _) _ (hv 5 _) _ _) $$ Hx Ha
  iintro ⟨Hx, Ha⟩
  iapply (tok_wp d (cV i) (jV i) arg5 arg8 _ _ _ _ _ _ ⟨16 * k.val + 6, by omega⟩ (k0_off28_eq k) k0_off29_eq k0_off30_eq A Mv Xs (64 * t3.val) (64 * t3.val + 16 * k.val + 6) (Nat.add_assoc _ _ _) _ (hv 6 _) _ _) $$ Hx Ha
  iintro ⟨Hx, Ha⟩
  iapply (tok_wp d (cV i) (jV i) arg5 arg8 _ _ _ _ _ _ ⟨16 * k.val + 7, by omega⟩ (k0_off31_eq k) k0_off32_eq k0_off33_eq A Mv Xs (64 * t3.val) (64 * t3.val + 16 * k.val + 7) (Nat.add_assoc _ _ _) _ (hv 7 _) _ _) $$ Hx Ha
  iintro ⟨Hx, Ha⟩
  iapply (tok_wp d (cV i) (jV i) arg5 arg8 _ _ _ _ _ _ ⟨16 * k.val + 8, by omega⟩ (k0_off34_eq k) k0_off35_eq k0_off36_eq A Mv Xs (64 * t3.val) (64 * t3.val + 16 * k.val + 8) (Nat.add_assoc _ _ _) _ (hv 8 _) _ _) $$ Hx Ha
  iintro ⟨Hx, Ha⟩
  iapply (pure_intro (t := V d (cV i) (jV i)) _ _)
  iapply (bind_intro (t := V d (cV i) (jV i)) _ _ _)
  unfold k0_part3_skel
  iapply (tok_wp d (cV i) (jV i) arg5 arg8 _ _ _ _ _ _ ⟨16 * k.val + 9, by omega⟩ (k0_off37_eq k) k0_off38_eq k0_off39_eq A Mv Xs (64 * t3.val) (64 * t3.val + 16 * k.val + 9) (Nat.add_assoc _ _ _) _ (hv 9 _) _ _) $$ Hx Ha
  iintro ⟨Hx, Ha⟩
  iapply (tok_wp d (cV i) (jV i) arg5 arg8 _ _ _ _ _ _ ⟨16 * k.val + 10, by omega⟩ (k0_off40_eq k) k0_off41_eq k0_off42_eq A Mv Xs (64 * t3.val) (64 * t3.val + 16 * k.val + 10) (Nat.add_assoc _ _ _) _ (hv 10 _) _ _) $$ Hx Ha
  iintro ⟨Hx, Ha⟩
  iapply (tok_wp d (cV i) (jV i) arg5 arg8 _ _ _ _ _ _ ⟨16 * k.val + 11, by omega⟩ (k0_off43_eq k) k0_off44_eq k0_off45_eq A Mv Xs (64 * t3.val) (64 * t3.val + 16 * k.val + 11) (Nat.add_assoc _ _ _) _ (hv 11 _) _ _) $$ Hx Ha
  iintro ⟨Hx, Ha⟩
  iapply (tok_wp d (cV i) (jV i) arg5 arg8 _ _ _ _ _ _ ⟨16 * k.val + 12, by omega⟩ (k0_off46_eq k) k0_off47_eq k0_off48_eq A Mv Xs (64 * t3.val) (64 * t3.val + 16 * k.val + 12) (Nat.add_assoc _ _ _) _ (hv 12 _) _ _) $$ Hx Ha
  iintro ⟨Hx, Ha⟩
  iapply (tok_wp d (cV i) (jV i) arg5 arg8 _ _ _ _ _ _ ⟨16 * k.val + 13, by omega⟩ (k0_off49_eq k) k0_off50_eq k0_off51_eq A Mv Xs (64 * t3.val) (64 * t3.val + 16 * k.val + 13) (Nat.add_assoc _ _ _) _ (hv 13 _) _ _) $$ Hx Ha
  iintro ⟨Hx, Ha⟩
  iapply (pure_intro (t := V d (cV i) (jV i)) _ _)
  iapply (tok_wp d (cV i) (jV i) arg5 arg8 _ _ _ _ _ _ ⟨16 * k.val + 14, by omega⟩ (k0_off52_eq k) k0_off53_eq k0_off54_eq A Mv Xs (64 * t3.val) (64 * t3.val + 16 * k.val + 14) (Nat.add_assoc _ _ _) _ (hv 14 _) _ _) $$ Hx Ha
  iintro ⟨Hx, Ha⟩
  iapply (tok_wp d (cV i) (jV i) arg5 arg8 _ _ _ _ _ _ ⟨16 * k.val + 15, by omega⟩ (k0_off55_eq k) k0_off56_eq k0_off57_eq A Mv Xs (64 * t3.val) (64 * t3.val + 16 * k.val + 15) (Nat.add_assoc _ _ _) _ (hv 15 _) _ _) $$ Hx Ha
  iintro ⟨Hx, Ha⟩
  sl_step
  isplitl [Hx]
  · iexact Hx
  isplitl [Hm]
  · iapply (holds_intro (V d (cV i) (jV i)) arg7 _ fm hm) $$ Hm
  iexact Ha

/-- Sixteen tokens of the second chunk of a pair. -/
theorem half1 (d : Dev nD) (i : grid0.Coords) (arg2 harg2 arg3 harg3 arg4 harg4 arg5 harg5 arg6 harg6 arg7 harg7 arg8 harg8 arg9 arg10 v13_r0 v13_r1)
    (t3 : Fin k0_t3_loop.trips) (v : BitVec 32) (k : Fin k0_t21_loop.trips) (z : BitVec 32)
    (A : S3x1024.Idx → F .f32) (Mv : ℕ → F .f32) (Xs : ℕ → Fin 1024 → F .f32) :
    iprop(holds (V d (cV i) (jV i)) arg6 (fun p => Xs (64 * t3.val + 32 + (p 0).val) (p 1)) ∗ holds (V d (cV i) (jV i)) arg7 (fun p => Mv (p 0).val)
        ∗ holds (V d (cV i) (jV i)) arg8 (accN A Mv Xs (64 * t3.val + 32 + 16 * k.val)))
      ⊢ wp frame (wpE defs₀ 𝒱₀ (V d (cV i) (jV i)) none) Set.univ
        (k0_t21_body (F := F) i arg2 harg2 arg3 harg3 arg4 harg4 arg5 harg5 arg6 harg6 arg7 harg7 arg8 harg8 arg9 arg10 v13_r0 v13_r1 t3 v k z)
        fun _ => iprop(holds (V d (cV i) (jV i)) arg6 (fun p => Xs (64 * t3.val + 32 + (p 0).val) (p 1)) ∗ holds (V d (cV i) (jV i)) arg7 (fun p => Mv (p 0).val)
          ∗ holds (V d (cV i) (jV i)) arg8 (accN A Mv Xs (64 * t3.val + 32 + 16 * (k.val + 1)))) := by
  have hk : k.val < 2 := lt_of_lt_of_eq k.isLt (by decide)
  have ht : t3.val < 16 := lt_of_lt_of_eq t3.isLt (by decide)
  unfold k0_t21_body
  rw [k0_part4_eq_skeleton, k0_part5_eq_skeleton, k0_part6_eq_skeleton]
  iintro ⟨Hx, ⟨%fm, %hm, Hm⟩, Ha⟩
  have hv := mask_lane arg7 fm Mv hm (k0_off59 t3 k) (k0_off59_inb t3 k) (64 * t3.val + 32 + 16 * k.val) ((k0_off59_eq t3 k).trans (by rw [Nat.add_right_comm])) (by omega)
  rw [wp_bind]
  unfold k0_part4_skel
  sl_exec
  iapply (tok_wp d (cV i) (jV i) arg6 arg8 _ _ _ _ _ _ ⟨16 * k.val + 0, by omega⟩ (k0_off60_eq k) k0_off61_eq k0_off62_eq A Mv Xs (64 * t3.val + 32) (64 * t3.val + 32 + 16 * k.val + 0) (Nat.add_assoc _ _ _) _ (hv 0 _) _ _) $$ Hx Ha
  iintro ⟨Hx, Ha⟩
  iapply (tok_wp d (cV i) (jV i) arg6 arg8 _ _ _ _ _ _ ⟨16 * k.val + 1, by omega⟩ (k0_off63_eq k) k0_off64_eq k0_off65_eq A Mv Xs (64 * t3.val + 32) (64 * t3.val + 32 + 16 * k.val + 1) (Nat.add_assoc _ _ _) _ (hv 1 _) _ _) $$ Hx Ha
  iintro ⟨Hx, Ha⟩
  iapply (tok_wp d (cV i) (jV i) arg6 arg8 _ _ _ _ _ _ ⟨16 * k.val + 2, by omega⟩ (k0_off66_eq k) k0_off67_eq k0_off68_eq A Mv Xs (64 * t3.val + 32) (64 * t3.val + 32 + 16 * k.val + 2) (Nat.add_assoc _ _ _) _ (hv 2 _) _ _) $$ Hx Ha
  iintro ⟨Hx, Ha⟩
  iapply (tok_wp d (cV i) (jV i) arg6 arg8 _ _ _ _ _ _ ⟨16 * k.val + 3, by omega⟩ (k0_off69_eq k) k0_off70_eq k0_off71_eq A Mv Xs (64 * t3.val + 32) (64 * t3.val + 32 + 16 * k.val + 3) (Nat.add_assoc _ _ _) _ (hv 3 _) _ _) $$ Hx Ha
  iintro ⟨Hx, Ha⟩
  iapply (pure_intro (t := V d (cV i) (jV i)) _ _)
  iapply (bind_intro (t := V d (cV i) (jV i)) _ _ _)
  unfold k0_part5_skel
  iapply (tok_wp d (cV i) (jV i) arg6 arg8 _ _ _ _ _ _ ⟨16 * k.val + 4, by omega⟩ (k0_off72_eq k) k0_off73_eq k0_off74_eq A Mv Xs (64 * t3.val + 32) (64 * t3.val + 32 + 16 * k.val + 4) (Nat.add_assoc _ _ _) _ (hv 4 _) _ _) $$ Hx Ha
  iintro ⟨Hx, Ha⟩
  iapply (tok_wp d (cV i) (jV i) arg6 arg8 _ _ _ _ _ _ ⟨16 * k.val + 5, by omega⟩ (k0_off75_eq k) k0_off76_eq k0_off77_eq A Mv Xs (64 * t3.val + 32) (64 * t3.val + 32 + 16 * k.val + 5) (Nat.add_assoc _ _ _) _ (hv 5 _) _ _) $$ Hx Ha
  iintro ⟨Hx, Ha⟩
  iapply (tok_wp d (cV i) (jV i) arg6 arg8 _ _ _ _ _ _ ⟨16 * k.val + 6, by omega⟩ (k0_off78_eq k) k0_off79_eq k0_off80_eq A Mv Xs (64 * t3.val + 32) (64 * t3.val + 32 + 16 * k.val + 6) (Nat.add_assoc _ _ _) _ (hv 6 _) _ _) $$ Hx Ha
  iintro ⟨Hx, Ha⟩
  iapply (tok_wp d (cV i) (jV i) arg6 arg8 _ _ _ _ _ _ ⟨16 * k.val + 7, by omega⟩ (k0_off81_eq k) k0_off82_eq k0_off83_eq A Mv Xs (64 * t3.val + 32) (64 * t3.val + 32 + 16 * k.val + 7) (Nat.add_assoc _ _ _) _ (hv 7 _) _ _) $$ Hx Ha
  iintro ⟨Hx, Ha⟩
  iapply (tok_wp d (cV i) (jV i) arg6 arg8 _ _ _ _ _ _ ⟨16 * k.val + 8, by omega⟩ (k0_off84_eq k) k0_off85_eq k0_off86_eq A Mv Xs (64 * t3.val + 32) (64 * t3.val + 32 + 16 * k.val + 8) (Nat.add_assoc _ _ _) _ (hv 8 _) _ _) $$ Hx Ha
  iintro ⟨Hx, Ha⟩
  iapply (pure_intro (t := V d (cV i) (jV i)) _ _)
  iapply (bind_intro (t := V d (cV i) (jV i)) _ _ _)
  unfold k0_part6_skel
  iapply (tok_wp d (cV i) (jV i) arg6 arg8 _ _ _ _ _ _ ⟨16 * k.val + 9, by omega⟩ (k0_off87_eq k) k0_off88_eq k0_off89_eq A Mv Xs (64 * t3.val + 32) (64 * t3.val + 32 + 16 * k.val + 9) (Nat.add_assoc _ _ _) _ (hv 9 _) _ _) $$ Hx Ha
  iintro ⟨Hx, Ha⟩
  iapply (tok_wp d (cV i) (jV i) arg6 arg8 _ _ _ _ _ _ ⟨16 * k.val + 10, by omega⟩ (k0_off90_eq k) k0_off91_eq k0_off92_eq A Mv Xs (64 * t3.val + 32) (64 * t3.val + 32 + 16 * k.val + 10) (Nat.add_assoc _ _ _) _ (hv 10 _) _ _) $$ Hx Ha
  iintro ⟨Hx, Ha⟩
  iapply (tok_wp d (cV i) (jV i) arg6 arg8 _ _ _ _ _ _ ⟨16 * k.val + 11, by omega⟩ (k0_off93_eq k) k0_off94_eq k0_off95_eq A Mv Xs (64 * t3.val + 32) (64 * t3.val + 32 + 16 * k.val + 11) (Nat.add_assoc _ _ _) _ (hv 11 _) _ _) $$ Hx Ha
  iintro ⟨Hx, Ha⟩
  iapply (tok_wp d (cV i) (jV i) arg6 arg8 _ _ _ _ _ _ ⟨16 * k.val + 12, by omega⟩ (k0_off96_eq k) k0_off97_eq k0_off98_eq A Mv Xs (64 * t3.val + 32) (64 * t3.val + 32 + 16 * k.val + 12) (Nat.add_assoc _ _ _) _ (hv 12 _) _ _) $$ Hx Ha
  iintro ⟨Hx, Ha⟩
  iapply (tok_wp d (cV i) (jV i) arg6 arg8 _ _ _ _ _ _ ⟨16 * k.val + 13, by omega⟩ (k0_off99_eq k) k0_off100_eq k0_off101_eq A Mv Xs (64 * t3.val + 32) (64 * t3.val + 32 + 16 * k.val + 13) (Nat.add_assoc _ _ _) _ (hv 13 _) _ _) $$ Hx Ha
  iintro ⟨Hx, Ha⟩
  iapply (pure_intro (t := V d (cV i) (jV i)) _ _)
  iapply (tok_wp d (cV i) (jV i) arg6 arg8 _ _ _ _ _ _ ⟨16 * k.val + 14, by omega⟩ (k0_off102_eq k) k0_off103_eq k0_off104_eq A Mv Xs (64 * t3.val + 32) (64 * t3.val + 32 + 16 * k.val + 14) (Nat.add_assoc _ _ _) _ (hv 14 _) _ _) $$ Hx Ha
  iintro ⟨Hx, Ha⟩
  iapply (tok_wp d (cV i) (jV i) arg6 arg8 _ _ _ _ _ _ ⟨16 * k.val + 15, by omega⟩ (k0_off105_eq k) k0_off106_eq k0_off107_eq A Mv Xs (64 * t3.val + 32) (64 * t3.val + 32 + 16 * k.val + 15) (Nat.add_assoc _ _ _) _ (hv 15 _) _ _) $$ Hx Ha
  iintro ⟨Hx, Ha⟩
  sl_step
  isplitl [Hx]
  · iexact Hx
  isplitl [Hm]
  · iapply (holds_intro (V d (cV i) (jV i)) arg7 _ fm hm) $$ Hm
  iexact Ha
-- ==== Proof.Copy.lean ====
/-
  Copies of a task between the arrays and its own buffers, said once: a copy started, and its wait.
-/
module

public import proofs.«01_k».proof.Proof.Trip
public import Idealize.ShloMosaic.Lib.Transfers

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

/-- What the thread owes, its waits grown by none but the kernel's own. -/
abbrev owed (t : Thread nD τ) (O : CellTallies nD τ sig (HIx 2)) (W : Waits sig (HIx 2)) : sProp 𝕄 :=
  iprop(∃ W', ⌜∀ p ∈ W', p ∈ W ∨ p.2 = none⌝ ∗ owes t O W')

/-- A copy in flight on the cell `sem` that will leave `X` in `dst`, reading elements of the array at `ℓ`, held at the share `q`. -/
abbrev inFl (t : Thread nD τ) (sem : DmaSem sig) {sp : Space} {s : Shape} {e : EltTy} (dst : Memref sig t.2.kind sp s e) (X : s.Idx → Elt F e)
    (ℓ : Loc nD τ sig) (q : PosShare TreeShare) (f : Buf (Elt F) ℓ) : sProp 𝕄 :=
  iprop(∃ R : Finset (Idx ℓ), Flight EC t (.dma sem) none dst.view.dmaCredit iprop(holds t dst X ∗ (ℓ ↦[R]{q} f)) ∗ (ℓ ↦[Finset.univ \ R]{q} f))

/-- A copy from an array held at a share starts. -/
theorem start_read (t : Thread nD τ) {sp sp' : Space} {s : Shape} {e : EltTy} (src : Memref sig t.2.kind sp' s e) (dst : Memref sig t.2.kind sp s e)
    (sem : DmaSem sig) {h1 : src.view.WordExact} {h2 : dst.view.WordExact} {h3 : DmaTarget.Typed (nD := nD) sp' (.dma sem) (.here dst)}
    (hs : 0 < s.numel) (q : PosShare TreeShare) (f : Buf (Elt F) (src.view.loc t)) (X Y : s.Idx → Elt F e) (hX : src.view.read (Elt F) f = X)
    {β : Type} (k : PUnit → Prog (TpuEff nD τ sig (Elt F) Λ₀ t.2) β) (Q : β → sProp 𝕄) :
    (src.view.loc t ↦{q} f : sProp 𝕄)
      ⊢ iprop(holds t dst Y -∗ semVal (t, .dma sem) 0
        -∗ (inFl t sem dst X (src.view.loc t) q f -∗ wp frame (wpE defs₀ 𝒱₀ t none) Set.univ (k ⟨⟩) Q)
        -∗ wp frame (wpE defs₀ 𝒱₀ t none) Set.univ (Prog.lift (.enqueueDma src (.here dst) (.dma sem) h1 h2 h3) >>= k) Q) := by
  iintro Hx ⟨%g, %hg, Hd⟩ Hv Hk
  ihave Hxs := (pointsTo_split_subset (q := q) (f := f) (S := Finset.univ) (Finset.subset_univ src.view.set)).1 $$ Hx
  icases Hxs with ⟨Hxs, Hxr⟩
  iapply (Transfers.wp_dmaLocal EC 𝒱₀ t none none dst.view.dmaCredit rfl (dst.view.amount_pos (.dma sem) hs) (Finset.Subset.refl _)) $$ [Hxs Hd Hv]
  · isplitl [Hxs]; · iexact Hxs
    isplitl [Hd]; · iexact Hd
    iexact Hv
  iintro HF
  iapply Hk
  iexists src.view.set
  isplitl [HF]
  · iapply (Transfers.Flight_mono EC t (D := _) ?_) $$ HF
    iintro ⟨Hd, Hs⟩
    isplitl [Hd]
    · iapply (holds_intro t dst X _ ?_) $$ Hd
      rw [View.read_write_univ]
      exact hX
    iexact Hs
  iexact Hxr

/-- A copy of a held buffer into a held buffer starts. -/
theorem start_write (t : Thread nD τ) {sp sp' : Space} {s : Shape} {e : EltTy} (src : Memref sig t.2.kind sp' s e) (dst : Memref sig t.2.kind sp s e)
    (sem : DmaSem sig) {h1 : src.view.WordExact} {h2 : dst.view.WordExact} {h3 : DmaTarget.Typed (nD := nD) sp' (.dma sem) (.here dst)}
    (hs : 0 < s.numel) (X Y : s.Idx → Elt F e)
    {β : Type} (k : PUnit → Prog (TpuEff nD τ sig (Elt F) Λ₀ t.2) β) (Q : β → sProp 𝕄) :
    (holds t src X : sProp 𝕄)
      ⊢ iprop(holds t dst Y -∗ semVal (t, .dma sem) 0
        -∗ (Flight EC t (.dma sem) none dst.view.dmaCredit iprop(holds t dst X ∗ holds t src X) -∗ wp frame (wpE defs₀ 𝒱₀ t none) Set.univ (k ⟨⟩) Q)
        -∗ wp frame (wpE defs₀ 𝒱₀ t none) Set.univ (Prog.lift (.enqueueDma src (.here dst) (.dma sem) h1 h2 h3) >>= k) Q) := by
  iintro ⟨%f, %hf, Hs⟩ ⟨%g, %hg, Hd⟩ Hv Hk
  iapply (Transfers.wp_dmaLocal EC 𝒱₀ t none none dst.view.dmaCredit rfl (dst.view.amount_pos (.dma sem) hs) (Finset.Subset.refl _)) $$ [Hs Hd Hv]
  · isplitl [Hs]; · iexact Hs
    isplitl [Hd]; · iexact Hd
    iexact Hv
  iintro HF
  iapply Hk
  iapply (Transfers.Flight_mono EC t (D := _) ?_) $$ HF
  iintro ⟨Hd, Hs⟩
  isplitl [Hd]
  · iapply (holds_intro t dst X _ ?_) $$ Hd
    rw [View.read_write_univ]
    exact hf
  iapply (holds_intro t src X f hf) $$ Hs

/-- The wait for a copy: what it delivers, and the cell free again. -/
theorem wait_flight (t : Thread nD τ) {sp sp' : Space} {s s' : Shape} {e e' : EltTy} (src : Memref sig t.2.kind sp' s' e') (dst : Memref sig t.2.kind sp s e)
    (sem : DmaSem sig) {h1 : src.view.WordExact} {h2 : dst.view.WordExact} (N : ℕ) (hN : dst.view.dmaCredit = N) (P : sProp 𝕄)
    (O : CellTallies nD τ sig (HIx 2)) (W : Waits sig (HIx 2))
    {β : Type} (k : PUnit → Prog (TpuEff nD τ sig (Elt F) Λ₀ t.2) β) (Q : β → sProp 𝕄) :
    (MayWaits t none O : sProp 𝕄)
      ⊢ iprop(Flight EC t (.dma sem) none N P -∗ owed t O W
        -∗ ((P ∗ semVal (t, .dma sem) 0 ∗ owed t O W) -∗ wp frame (wpE defs₀ 𝒱₀ t none) Set.univ (k ⟨⟩) Q)
        -∗ wp frame (wpE defs₀ 𝒱₀ t none) Set.univ (Prog.lift (.waitDma2 sem src dst h1 h2) >>= k) Q) := by
  iintro Hmw HF ⟨%W', %hW, HO⟩ Hk
  iapply (Transfers.wp_waitLocalO EC 𝒱₀ t none none hN) $$ [HF HO Hmw]
  · isplitl [HF]; · iexact HF
    isplitl [HO]; · iexact HO
    iapply (Transfers.MayWaits.elim (SemLoc.dma sem)) $$ Hmw
  iintro ⟨HP, Hv, HO⟩
  iapply Hk
  isplitl [HP]; · iexact HP
  isplitl [Hv]; · iexact Hv
  iexists (insert (SemLoc.dma sem, none) W')
  isplitr
  · ipureintro
    intro p hp
    rcases Finset.mem_insert.mp hp with rfl | h
    · exact .inr rfl
    · exact hW p h
  iexact HO

/-- The wait for a copy from an array held at a share: the array's share whole again. -/
theorem wait_read (t : Thread nD τ) {sp sp' : Space} {s s' : Shape} {e e' : EltTy} (src : Memref sig t.2.kind sp' s' e') (dst : Memref sig t.2.kind sp s e)
    (sem : DmaSem sig) {h1 : src.view.WordExact} {h2 : dst.view.WordExact} (X : s.Idx → Elt F e) (ℓ : Loc nD τ sig) (q : PosShare TreeShare) (f : Buf (Elt F) ℓ)
    (O : CellTallies nD τ sig (HIx 2)) (W : Waits sig (HIx 2))
    {β : Type} (k : PUnit → Prog (TpuEff nD τ sig (Elt F) Λ₀ t.2) β) (Q : β → sProp 𝕄) :
    (MayWaits t none O : sProp 𝕄)
      ⊢ iprop(inFl t sem dst X ℓ q f -∗ owed t O W
        -∗ ((holds t dst X ∗ (ℓ ↦{q} f) ∗ semVal (t, .dma sem) 0 ∗ owed t O W) -∗ wp frame (wpE defs₀ 𝒱₀ t none) Set.univ (k ⟨⟩) Q)
        -∗ wp frame (wpE defs₀ 𝒱₀ t none) Set.univ (Prog.lift (.waitDma2 sem src dst h1 h2) >>= k) Q) := by
  iintro Hmw ⟨%R, HF, Hr⟩ HO Hk
  iapply (wait_flight t src dst sem _ rfl _ O W k Q) $$ Hmw HF HO
  iintro ⟨⟨Hd, Hs⟩, Hv, HO⟩
  iapply Hk
  isplitl [Hd]; · iexact Hd
  isplitl [Hs Hr]
  · iapply (pointsTo_split_subset (q := q) (f := f) (S := Finset.univ) (Finset.subset_univ R)).2
    isplitl [Hs]; · iexact Hs
    iexact Hr
  isplitl [Hv]; · iexact Hv
  iexact HO

/-- A chunk of rows of an array, read. -/
theorem chunk_read (t : Thread nD τ) {sp : Space} (x : Memref sig t.2.kind sp S32768x1024 .f32) (f : Buf (Elt F) (x.view.loc t)) (G : S32768x1024.Idx → F .f32)
    (hf : x.view.read (Elt F) f = G) (off : Fin 2 → ℕ) (inb : ∀ a, off a + S32x1024.size a ≤ S32768x1024.size a) (hstr) (b n : ℕ) (ho : off = ![b + n, 0]) :
    (x.slice (Rect.unit (s := S32768x1024) off S32x1024.size inb) hstr).view.read (Elt F) f
      = fun p : S32x1024.Idx => G (ix2 (Fin.ofNat 32768 (b + (n + (p 0).val))) (p 1)) := by
  subst ho
  funext p
  have hb : b + n + 32 ≤ 32768 := inb 0
  have hp : (p 0).val < 32 := (p 0).isLt
  show x.view.read (Elt F) f _ = _
  rw [hf]
  refine congrArg G (funext fun a => ?_)
  match a with
  | ⟨0, _⟩ => exact Fin.ext (by show b + n + 1 * (p 0).val = (b + (n + (p 0).val)) % 32768; omega)
  | ⟨1, _⟩ => exact Fin.ext (by show 0 + 1 * (p 1).val = (p 1).val; omega)

/-- A task's mask values, read. -/
theorem mask_read (t : Thread nD τ) {sp : Space} (x : Memref sig t.2.kind sp S32768 .f32) (f : Buf (Elt F) (x.view.loc t)) (G : S32768.Idx → F .f32)
    (hf : x.view.read (Elt F) f = G) (off : Fin 1 → ℕ) (inb : ∀ a, off a + S1024.size a ≤ S32768.size a) (hstr) (b : ℕ) (ho : off = ![b]) :
    (x.slice (Rect.unit (s := S32768) off S1024.size inb) hstr).view.read (Elt F) f
      = fun p : S1024.Idx => G (ix1 (Fin.ofNat 32768 (b + (p 0).val))) := by
  subst ho
  funext p
  have hb : b + 1024 ≤ 32768 := inb 0
  have hp : (p 0).val < 1024 := (p 0).isLt
  show x.view.read (Elt F) f _ = _
  rw [hf]
  refine congrArg G (funext fun a => ?_)
  match a with
  | ⟨0, _⟩ => exact Fin.ext (by show b + 1 * (p 0).val = (b + (p 0).val) % 32768; omega)

/-- A chunk of rows starts on its way into a buffer. -/
theorem start_chunk (t : Thread nD τ) {sp sp' : Space} (x : Memref sig t.2.kind sp' S32768x1024 .f32) (dst : Memref sig t.2.kind sp S32x1024 .f32)
    (sem : DmaSem sig) (off : Fin 2 → ℕ) (inb : ∀ a, off a + S32x1024.size a ≤ S32768x1024.size a) {hstr}
    {h1 : (x.slice (Rect.unit (s := S32768x1024) off S32x1024.size inb) hstr).view.WordExact} {h2 : dst.view.WordExact}
    {h3 : DmaTarget.Typed (nD := nD) sp' (.dma sem) (.here dst)}
    (q : PosShare TreeShare) (f : Buf (Elt F) (x.view.loc t)) (G : S32768x1024.Idx → F .f32) (hf : x.view.read (Elt F) f = G) (b n : ℕ) (ho : off = ![b + n, 0])
    (Y : S32x1024.Idx → F .f32) {β : Type} (k : PUnit → Prog (TpuEff nD τ sig (Elt F) Λ₀ t.2) β) (Q : β → sProp 𝕄) :
    (x.view.loc t ↦{q} f : sProp 𝕄)
      ⊢ iprop(holds t dst Y -∗ semVal (t, .dma sem) 0
        -∗ (inFl t sem dst (fun p : S32x1024.Idx => G (ix2 (Fin.ofNat 32768 (b + (n + (p 0).val))) (p 1))) (x.view.loc t) q f
          -∗ wp frame (wpE defs₀ 𝒱₀ t none) Set.univ (k ⟨⟩) Q)
        -∗ wp frame (wpE defs₀ 𝒱₀ t none) Set.univ
          (Prog.lift (.enqueueDma (x.slice (Rect.unit (s := S32768x1024) off S32x1024.size inb) hstr) (.here dst) (.dma sem) h1 h2 h3) >>= k) Q) :=
  start_read t (x.slice (Rect.unit (s := S32768x1024) off S32x1024.size inb) hstr) dst sem (show 0 < S32x1024.numel by decide) q f _ Y (chunk_read t x f G hf off inb hstr b n ho) k Q

end Cert.Proof.Bn
-- ==== Proof.Stats.lean ====
/-
  The first SparseCore body, run at a symbolic task: the mask's lanes counted, the masked rows and their squares added up.
-/
module

public import proofs.«01_k».proof.Proof.Copy

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

/-! ## The sums cleared -/

/-- The float zero the programs name. -/
def zf : F .f32 := Scalar.ofBits .f32 0x00000000#32

/-- The sums with their first `16 k` lanes zero. -/
def zeroTo (k : ℕ) (Y : S3x1024.Idx → F .f32) : S3x1024.Idx → F .f32 := fun p => if (p 1).val < 16 * k then zf else Y p

/-- What the three stores of a clearing trip leave. -/
theorem zero_val (acc : Memref sig .scVector .vmem S3x1024 .f32) (o0 o1 o2 : Fin 2 → ℕ) (h0 : ∀ a, o0 a + S1x16.size a ≤ S3x1024.size a)
    (h1 : ∀ a, o1 a + S1x16.size a ≤ S3x1024.size a) (h2 : ∀ a, o2 a + S1x16.size a ≤ S3x1024.size a)
    (k : ℕ) (e0 : o0 = ![0, 16 * k]) (e1 : o1 = ![1, 16 * k]) (e2 : o2 = ![2, 16 * k])
    (Y : S3x1024.Idx → F .f32) (g : acc.view.ty.Contents (Elt F)) (hg : acc.view.read (Elt F) g = zeroTo k Y) :
    acc.view.read (Elt F) (acc.view.writes (Elt F) g [⟨Rect.unit (s := S3x1024) o2 S1x16.size h2, k0_pay118⟩,
        ⟨Rect.unit (s := S3x1024) o1 S1x16.size h1, k0_pay117⟩, ⟨Rect.unit (s := S3x1024) o0 S1x16.size h0, k0_pay116⟩])
      = zeroTo (k + 1) Y := by
  subst e0 e1 e2
  rw [View.read_writes_cons_put _ _ _ _ _ rfl, View.read_writes_cons_put _ _ _ _ _ rfl, View.read_writes_cons_put _ _ _ _ _ rfl, View.writes_nil, hg]
  funext p
  have hp : (p 0).val < 3 := (p 0).isLt
  rw [put_row (n := 3), put_row (n := 3), put_row (n := 3)]
  unfold zeroTo
  by_cases hw : 16 * k ≤ (p 1).val ∧ (p 1).val < 16 * k + 16
  · rw [if_pos (show (p 1).val < 16 * (k + 1) by omega)]
    rcases (show (p 0).val = 0 ∨ (p 0).val = 1 ∨ (p 0).val = 2 by omega) with e | e | e
    · rw [dif_neg (fun h => by omega), dif_neg (fun h => by omega), dif_pos ⟨e, hw⟩]; rfl
    · rw [dif_neg (fun h => by omega), dif_pos ⟨e, hw⟩]; rfl
    · rw [dif_pos ⟨e, hw⟩]; rfl
  · rw [dif_neg (fun h => hw h.2), dif_neg (fun h => hw h.2), dif_neg (fun h => hw h.2)]
    by_cases hlt : (p 1).val < 16 * k
    · rw [if_pos hlt, if_pos (show (p 1).val < 16 * (k + 1) by omega)]
    · rw [if_neg hlt, if_neg (show ¬ (p 1).val < 16 * (k + 1) by omega)]

/-- A clearing trip. -/
theorem zero_trip (d : Dev nD) (i : grid0.Coords) arg2 harg2 arg3 harg3 arg4 harg4 arg5 harg5 arg6 harg6 arg7 harg7 arg8 harg8 arg9 arg10 v13_r0 v13_r1
    (k : Fin k0_t1_loop.trips) (z : BitVec 32) (Y : S3x1024.Idx → F .f32) :
    holds (V d (cV i) (jV i)) arg8 (zeroTo k.val Y)
      ⊢ wp frame (wpE defs₀ 𝒱₀ (V d (cV i) (jV i)) none) Set.univ (k0_t1_body (F := F) i arg2 harg2 arg3 harg3 arg4 harg4 arg5 harg5 arg6 harg6 arg7 harg7 arg8 harg8 arg9 arg10 v13_r0 v13_r1 k z)
        fun _ => (holds (V d (cV i) (jV i)) arg8 (zeroTo (k.val + 1) Y) : sProp 𝕄) := by
  unfold k0_t1_body holds
  iintro ⟨%g, %hg, Ha⟩
  sl_exec!
  sl_step
  iapply (holds_intro (V d (cV i) (jV i)) arg8 _ _ ?_) $$ Ha
  exact zero_val arg8 _ _ _ _ _ _ k.val (k0_off2_eq k) (k0_off3_eq k) (k0_off4_eq k) Y g hg

/-- The clearing loop: the sums are all zero. -/
theorem zero_loop (d : Dev nD) (i : grid0.Coords) arg2 harg2 arg3 harg3 arg4 harg4 arg5 harg5 arg6 harg6 arg7 harg7 arg8 harg8 arg9 arg10 v13_r0 v13_r1 (Y : S3x1024.Idx → F .f32) :
    holds (V d (cV i) (jV i)) arg8 Y
      ⊢ wp frame (wpE defs₀ 𝒱₀ (V d (cV i) (jV i)) none) Set.univ (Scf.Loop.for k0_t1_loop k0_t1_ok 0#32 (k0_t1_body (F := F) i arg2 harg2 arg3 harg3 arg4 harg4 arg5 harg5 arg6 harg6 arg7 harg7 arg8 harg8 arg9 arg10 v13_r0 v13_r1))
        fun _ => (holds (V d (cV i) (jV i)) arg8 (fun _ => zf) : sProp 𝕄) := by
  iintro Ha
  sl_for (fun (k : ℕ) _ => (holds (V d (cV i) (jV i)) arg8 (zeroTo k Y) : sProp 𝕄)) $$ [Ha]
  case region => intro k z; exact zero_trip d i arg2 harg2 arg3 harg3 arg4 harg4 arg5 harg5 arg6 harg6 arg7 harg7 arg8 harg8 arg9 arg10 v13_r0 v13_r1 k z Y
  isplitl [Ha]
  · rw [show zeroTo 0 Y = Y from funext fun p => by simp [zeroTo]]
    iexact Ha
  iintro %_ HI
  rw [show Scf.trips k0_t1_loop.lb k0_t1_loop.ub k0_t1_loop.st = 64 by decide,
    show zeroTo 64 Y = fun _ => zf from funext fun p => if_pos (show (p 1).val < 16 * 64 from (p 1).isLt)]
  iexact HI

/-! ## The mask's lanes counted -/

/-- Lane `l`'s sum of the first `k` sixteens of mask values. -/
def cnt (Mv : ℕ → F .f32) : ℕ → ℕ → F .f32
  | 0, _ => zf
  | k + 1, l => FloatOps.addf (cnt Mv k l) (Mv (16 * k + l))

/-- The sums after `k` sixteens of mask values: the third row's first sixteen lanes count them. -/
def cntN (Mv : ℕ → F .f32) (k : ℕ) : S3x1024.Idx → F .f32 := fun p => if (p 0).val = 2 ∧ (p 1).val < 16 then cnt Mv k (p 1).val else zf

theorem lane_reshape : ∀ l : Fin 16, Shape.reshapeEquiv shapeCasts_S16_S1x16 (ix2 0 l) = ix1 l := by decide +kernel

theorem k0_pay119_apply (a : Vec F S1x16 .f32) (v : Vec F S16 .f32) (l : Fin 16) : k0_pay119 a v (ix2 0 l) = FloatOps.addf (a (ix2 0 l)) (v (ix1 l)) := by
  have e : k0_pay119 a v (ix2 0 l) = FloatOps.addf (shapeCast S1x16 (shapeCast S16 a shapeCasts_S1x16_S16) shapeCasts_S16_S1x16 (ix2 0 l))
      (shapeCast S1x16 (shapeCast S16 v shapeCasts_S16_S16) shapeCasts_S16_S1x16 (ix2 0 l)) := rfl
  rw [e, shapeCast_shapeCast, shapeCast_self]
  congr 1
  exact congrArg v (lane_reshape l)

/-- What a counting trip's store leaves. -/
theorem cnt_val (acc : Memref sig .scVector .vmem S3x1024 .f32) (mb : Memref sig .scVector .vmem S1024 .f32) (o : Fin 1 → ℕ)
    (ho : ∀ a, o a + S16.size a ≤ S1024.size a) (hi : ∀ a, (![2, 0] : Fin 2 → ℕ) a + S1x16.size a ≤ S3x1024.size a) (k : ℕ) (eo : o = ![16 * k]) (Mv : ℕ → F .f32)
    (g : acc.view.ty.Contents (Elt F)) (hg : acc.view.read (Elt F) g = cntN Mv k) (f : mb.view.ty.Contents (Elt F)) (hf : mb.view.read (Elt F) f = fun p => Mv (p 0).val) :
    acc.view.read (Elt F) (acc.view.writes (Elt F) g [⟨Rect.unit (s := S3x1024) ![2, 0] S1x16.size hi,
        k0_pay119 (acc.view.readAt (Elt F) (Rect.unit (s := S3x1024) ![2, 0] S1x16.size hi).toLoadRect g)
          (mb.view.readAt (Elt F) (Rect.unit (s := S1024) o S16.size ho).toLoadRect f)⟩])
      = cntN Mv (k + 1) := by
  subst eo
  rw [View.read_writes_cons_put _ _ _ _ _ rfl, View.writes_nil, View.readAt_unit acc.view g hi rfl hi, View.readAt_unit mb.view f ho rfl ho, hg, hf]
  funext p
  rw [put_row (n := 3)]
  unfold cntN
  by_cases h : (p 0).val = 2 ∧ (0 ≤ (p 1).val ∧ (p 1).val < 0 + 16)
  · have h' : (p 0).val = 2 ∧ (p 1).val < 16 := ⟨h.1, by omega⟩
    rw [dif_pos h, if_pos h', k0_pay119_apply, cnt]
    congr 1
    · show (if _ then _ else _) = _
      rw [if_pos ⟨rfl, show 0 + 1 * ((p 1).val - 0) < 16 by omega⟩]
      exact congrArg (cnt Mv k) (show 0 + 1 * ((p 1).val - 0) = (p 1).val by omega)
    · exact congrArg Mv (show 16 * k + 1 * ((p 1).val - 0) = 16 * k + (p 1).val by omega)
  · rw [dif_neg h, if_neg (fun h' => h ⟨h'.1, by omega⟩), if_neg (fun h' => h ⟨h'.1, by omega⟩)]

/-- A counting trip. -/
theorem cnt_trip (d : Dev nD) (i : grid0.Coords) arg2 harg2 arg3 harg3 arg4 harg4 arg5 harg5 arg6 harg6 arg7 harg7 arg8 harg8 arg9 arg10 v13_r0 v13_r1
    (k : Fin k0_t2_loop.trips) (z : BitVec 32) (Mv : ℕ → F .f32) :
    iprop(holds (V d (cV i) (jV i)) arg7 (fun p => Mv (p 0).val) ∗ holds (V d (cV i) (jV i)) arg8 (cntN Mv k.val))
      ⊢ wp frame (wpE defs₀ 𝒱₀ (V d (cV i) (jV i)) none) Set.univ (k0_t2_body (F := F) i arg2 harg2 arg3 harg3 arg4 harg4 arg5 harg5 arg6 harg6 arg7 harg7 arg8 harg8 arg9 arg10 v13_r0 v13_r1 k z)
        fun _ => (iprop(holds (V d (cV i) (jV i)) arg7 (fun p => Mv (p 0).val) ∗ holds (V d (cV i) (jV i)) arg8 (cntN Mv (k.val + 1))) : sProp 𝕄) := by
  unfold k0_t2_body holds
  iintro ⟨⟨%f, %hf, Hm⟩, ⟨%g, %hg, Ha⟩⟩
  sl_exec!
  sl_step
  isplitl [Hm]
  · iapply (holds_intro (V d (cV i) (jV i)) arg7 _ f hf) $$ Hm
  iapply (holds_intro (V d (cV i) (jV i)) arg8 _ _ ?_) $$ Ha
  exact cnt_val arg8 arg7 _ _ _ k.val (k0_off5_eq k) Mv g hg f hf

/-- The counting loop. -/
theorem cnt_loop (d : Dev nD) (i : grid0.Coords) arg2 harg2 arg3 harg3 arg4 harg4 arg5 harg5 arg6 harg6 arg7 harg7 arg8 harg8 arg9 arg10 v13_r0 v13_r1 (Mv : ℕ → F .f32) :
    iprop(holds (V d (cV i) (jV i)) arg7 (fun p => Mv (p 0).val) ∗ holds (V d (cV i) (jV i)) arg8 (fun _ => zf))
      ⊢ wp frame (wpE defs₀ 𝒱₀ (V d (cV i) (jV i)) none) Set.univ (Scf.Loop.for k0_t2_loop k0_t2_ok 0#32 (k0_t2_body (F := F) i arg2 harg2 arg3 harg3 arg4 harg4 arg5 harg5 arg6 harg6 arg7 harg7 arg8 harg8 arg9 arg10 v13_r0 v13_r1))
        fun _ => (iprop(holds (V d (cV i) (jV i)) arg7 (fun p => Mv (p 0).val) ∗ holds (V d (cV i) (jV i)) arg8 (cntN Mv 64)) : sProp 𝕄) := by
  iintro ⟨Hm, Ha⟩
  sl_for (fun (k : ℕ) _ => (iprop(holds (V d (cV i) (jV i)) arg7 (fun p => Mv (p 0).val) ∗ holds (V d (cV i) (jV i)) arg8 (cntN Mv k)) : sProp 𝕄)) $$ [Hm Ha]
  case region => intro k z; exact cnt_trip d i arg2 harg2 arg3 harg3 arg4 harg4 arg5 harg5 arg6 harg6 arg7 harg7 arg8 harg8 arg9 arg10 v13_r0 v13_r1 k z Mv
  isplitl [Hm Ha]
  · rw [show cntN Mv 0 = fun _ => zf from funext fun p => by simp [cntN, cnt]]
    isplitl [Hm]
    · iexact Hm
    iexact Ha
  iintro %_ HI
  rw [show Scf.trips k0_t2_loop.lb k0_t2_loop.ub k0_t2_loop.st = 64 by decide]
  iexact HI

/-! ## A pair of chunks -/

/-- The first chunk of a pair: its thirty-two tokens. -/
theorem chunk0 (d : Dev nD) (i : grid0.Coords) arg2 harg2 arg3 harg3 arg4 harg4 arg5 harg5 arg6 harg6 arg7 harg7 arg8 harg8 arg9 arg10 v13_r0 v13_r1 (t3 : Fin k0_t3_loop.trips) (v : BitVec 32)
    (A : S3x1024.Idx → F .f32) (Mv : ℕ → F .f32) (Xs : ℕ → Fin 1024 → F .f32) :
    iprop(holds (V d (cV i) (jV i)) arg5 (fun p => Xs (64 * t3.val + (p 0).val) (p 1)) ∗ holds (V d (cV i) (jV i)) arg7 (fun p => Mv (p 0).val)
        ∗ holds (V d (cV i) (jV i)) arg8 (accN A Mv Xs (64 * t3.val)))
      ⊢ wp frame (wpE defs₀ 𝒱₀ (V d (cV i) (jV i)) none) Set.univ
        (Scf.Loop.for k0_t4_loop k0_t4_ok 0#32 (k0_t4_body (F := F) i arg2 harg2 arg3 harg3 arg4 harg4 arg5 harg5 arg6 harg6 arg7 harg7 arg8 harg8 arg9 arg10 v13_r0 v13_r1 t3 v))
        fun _ => (iprop(holds (V d (cV i) (jV i)) arg5 (fun p => Xs (64 * t3.val + (p 0).val) (p 1)) ∗ holds (V d (cV i) (jV i)) arg7 (fun p => Mv (p 0).val)
          ∗ holds (V d (cV i) (jV i)) arg8 (accN A Mv Xs (64 * t3.val + 32))) : sProp 𝕄) := by
  iintro ⟨Hx, Hm, Ha⟩
  sl_for (fun (k : ℕ) _ => (iprop(holds (V d (cV i) (jV i)) arg5 (fun p => Xs (64 * t3.val + (p 0).val) (p 1)) ∗ holds (V d (cV i) (jV i)) arg7 (fun p => Mv (p 0).val)
    ∗ holds (V d (cV i) (jV i)) arg8 (accN A Mv Xs (64 * t3.val + 16 * k))) : sProp 𝕄)) $$ [Hx Hm Ha]
  case region => intro k z; exact half0 d i arg2 harg2 arg3 harg3 arg4 harg4 arg5 harg5 arg6 harg6 arg7 harg7 arg8 harg8 arg9 arg10 v13_r0 v13_r1 t3 v k z A Mv Xs
  isplitl [Hx Hm Ha]
  · isplitl [Hx]
    · iexact Hx
    isplitl [Hm]
    · iexact Hm
    iexact Ha
  iintro %_ HI
  rw [show Scf.trips k0_t4_loop.lb k0_t4_loop.ub k0_t4_loop.st = 2 by decide]
  iexact HI

/-- The second chunk of a pair. -/
theorem chunk1 (d : Dev nD) (i : grid0.Coords) arg2 harg2 arg3 harg3 arg4 harg4 arg5 harg5 arg6 harg6 arg7 harg7 arg8 harg8 arg9 arg10 v13_r0 v13_r1 (t3 : Fin k0_t3_loop.trips) (v : BitVec 32)
    (A : S3x1024.Idx → F .f32) (Mv : ℕ → F .f32) (Xs : ℕ → Fin 1024 → F .f32) :
    iprop(holds (V d (cV i) (jV i)) arg6 (fun p => Xs (64 * t3.val + 32 + (p 0).val) (p 1)) ∗ holds (V d (cV i) (jV i)) arg7 (fun p => Mv (p 0).val)
        ∗ holds (V d (cV i) (jV i)) arg8 (accN A Mv Xs (64 * t3.val + 32)))
      ⊢ wp frame (wpE defs₀ 𝒱₀ (V d (cV i) (jV i)) none) Set.univ
        (Scf.Loop.for k0_t21_loop k0_t21_ok 0#32 (k0_t21_body (F := F) i arg2 harg2 arg3 harg3 arg4 harg4 arg5 harg5 arg6 harg6 arg7 harg7 arg8 harg8 arg9 arg10 v13_r0 v13_r1 t3 v))
        fun _ => (iprop(holds (V d (cV i) (jV i)) arg6 (fun p => Xs (64 * t3.val + 32 + (p 0).val) (p 1)) ∗ holds (V d (cV i) (jV i)) arg7 (fun p => Mv (p 0).val)
          ∗ holds (V d (cV i) (jV i)) arg8 (accN A Mv Xs (64 * (t3.val + 1)))) : sProp 𝕄) := by
  iintro ⟨Hx, Hm, Ha⟩
  sl_for (fun (k : ℕ) _ => (iprop(holds (V d (cV i) (jV i)) arg6 (fun p => Xs (64 * t3.val + 32 + (p 0).val) (p 1)) ∗ holds (V d (cV i) (jV i)) arg7 (fun p => Mv (p 0).val)
    ∗ holds (V d (cV i) (jV i)) arg8 (accN A Mv Xs (64 * t3.val + 32 + 16 * k))) : sProp 𝕄)) $$ [Hx Hm Ha]
  case region => intro k z; exact half1 d i arg2 harg2 arg3 harg3 arg4 harg4 arg5 harg5 arg6 harg6 arg7 harg7 arg8 harg8 arg9 arg10 v13_r0 v13_r1 t3 v k z A Mv Xs
  isplitl [Hx Hm Ha]
  · isplitl [Hx]
    · iexact Hx
    isplitl [Hm]
    · iexact Hm
    iexact Ha
  iintro %_ HI
  rw [show Scf.trips k0_t21_loop.lb k0_t21_loop.ub k0_t21_loop.st = 2 by decide, show 64 * t3.val + 32 + 16 * 2 = 64 * (t3.val + 1) by omega]
  iexact HI

/-- The tokens a task starts from. -/
abbrev base (i : grid0.Coords) : ℕ := 2048 * (i 1).val + 1024 * (i 0).val

/-- A task's mask values, and its rows, from the whole arrays. -/
abbrev mvOf (i : grid0.Coords) (M : S32768.Idx → F .f32) : ℕ → F .f32 := fun n => M (ix1 (Fin.ofNat 32768 (base i + n)))
abbrev xsOf (i : grid0.Coords) (G : S32768x1024.Idx → F .f32) : ℕ → Fin 1024 → F .f32 := fun n l => G (ix2 (Fin.ofNat 32768 (base i + n)) l)

/-- The first buffer's cell before trip `k`: the pair's first chunk is on its way, after the last trip nothing is. -/
def slotA (t : Thread nD τ) (xb : Memref sig t.2.kind .vmem S32x1024 .f32) (sem : DmaSem sig) (ℓ : Loc nD τ sig) (q : PosShare TreeShare) (f : Buf (Elt F) ℓ)
    (Xs : ℕ → Fin 1024 → F .f32) (k : ℕ) : sProp 𝕄 :=
  if k < 16 then inFl t sem xb (fun p => Xs (64 * k + (p 0).val) (p 1)) ℓ q f
  else iprop((∃ Y, holds t xb Y) ∗ (ℓ ↦{q} f) ∗ semVal (t, .dma sem) 0)

/-- What holds before trip `k` of the loop over pairs of chunks. -/
def pairInv (d : Dev nD) (i : grid0.Coords) (arg2 : Memref sig .scVector .hbm S32768x1024 .f32) (arg5 arg6 : Memref sig .scVector .vmem S32x1024 .f32)
    (arg7 : Memref sig .scVector .vmem S1024 .f32) (arg8 : Memref sig .scVector .vmem S3x1024 .f32) (arg9 arg10 : DmaSems sig S_)
    (qa qb : PosShare TreeShare) (f : Buf (Elt F) (arg2.view.loc (V d (cV i) (jV i)))) (O : CellTallies nD τ sig (HIx 2)) (W : Waits sig (HIx 2))
    (A : S3x1024.Idx → F .f32) (Mv : ℕ → F .f32) (Xs : ℕ → Fin 1024 → F .f32) (k : ℕ) : sProp 𝕄 :=
  iprop(MayWaits (V d (cV i) (jV i)) none O ∗ slotA (V d (cV i) (jV i)) arg5 arg9.sem (arg2.view.loc (V d (cV i) (jV i))) qa f Xs k
    ∗ (∃ Y, holds (V d (cV i) (jV i)) arg6 Y) ∗ (arg2.view.loc (V d (cV i) (jV i)) ↦{qb} f) ∗ semVal ((V d (cV i) (jV i)), .dma arg10.sem) 0
    ∗ holds (V d (cV i) (jV i)) arg7 (fun p => Mv (p 0).val) ∗ holds (V d (cV i) (jV i)) arg8 (accN A Mv Xs (64 * k)) ∗ owed (V d (cV i) (jV i)) O W)

theorem cond17_iff : ∀ t3 : Fin k0_t3_loop.trips, k0_cond17 t3 = 1#1 ↔ t3.val + 1 < 16 := by decide +kernel

/-- The next pair's first chunk starts, unless this pair is the last. -/
theorem next_wp (d : Dev nD) (i : grid0.Coords) (arg2 : Memref sig .scVector .hbm S32768x1024 .f32) (arg5 : Memref sig .scVector .vmem S32x1024 .f32) (harg5 : arg5.IsWhole)
    (arg9 : DmaSems sig S_) (t3 : Fin k0_t3_loop.trips) (qa : PosShare TreeShare) (G : S32768x1024.Idx → F .f32) (f : Buf (Elt F) (arg2.view.loc (V d (cV i) (jV i))))
    (hf : arg2.view.read (Elt F) f = G) (Y : S32x1024.Idx → F .f32)
    {β : Type} (kk : Prog (TpuEff nD τ sig (Elt F) Λ₀ (.scVector (cV i) (jV i))) β) (Q : β → sProp 𝕄) :
    (arg2.view.loc (V d (cV i) (jV i)) ↦{qa} f : sProp 𝕄)
      ⊢ iprop(holds (V d (cV i) (jV i)) arg5 Y -∗ semVal ((V d (cV i) (jV i)), .dma arg9.sem) 0
        -∗ (slotA (V d (cV i) (jV i)) arg5 arg9.sem (arg2.view.loc (V d (cV i) (jV i))) qa f (xsOf i G) (t3.val + 1) -∗ wp frame (wpE defs₀ 𝒱₀ (V d (cV i) (jV i)) none) Set.univ kk Q)
        -∗ wp frame (wpE defs₀ 𝒱₀ (V d (cV i) (jV i)) none) Set.univ
          (if h : k0_cond17 t3 = 1#1 then
            (Prog.lift (.enqueueDma (arg2.slice (Rect.unit (s := S32768x1024) (k0_off58 i t3) S32x1024.size (k0_off58_inb i t3 h)) (fun _ => rfl)) (.here arg5)
              (.dma arg9.sem) (View.wordExact_bits rfl) harg5.wordExact ⟨Or.inl rfl, trivial⟩) >>= fun _ => kk)
           else kk) Q) := by
  iintro HxA H5 HvA Hk
  by_cases h : k0_cond17 t3 = 1#1
  · rw [dif_pos h, slotA, if_pos ((cond17_iff t3).mp h)]
    iapply (start_chunk (V d (cV i) (jV i)) arg2 arg5 arg9.sem (k0_off58 i t3) (k0_off58_inb i t3 h) qa f G hf (base i) (64 * (t3.val + 1)) ((k0_off58_eq i t3).trans (by rw [show base i + 64 * t3.val + 64 = base i + 64 * (t3.val + 1) by omega])) _ _ _) $$ HxA H5 HvA
    iintro HA
    iapply Hk
    iexact HA
  · rw [dif_neg h, slotA, if_neg (fun h' => h ((cond17_iff t3).mpr h'))]
    iapply Hk
    isplitl [H5]
    · iexists _
      iexact H5
    isplitl [HxA]; · iexact HxA
    iexact HvA

/-- A trip of the loop over pairs: the second chunk starts, the first is awaited and added, the next pair's first starts, the second is awaited and added. -/
theorem pair_trip (d : Dev nD) (i : grid0.Coords) arg2 harg2 arg3 harg3 arg4 harg4 arg5 harg5 arg6 harg6 arg7 harg7 arg8 harg8 arg9 arg10 v13_r0 v13_r1 (t3 : Fin k0_t3_loop.trips) (z : BitVec 32)
    (qa qb : PosShare TreeShare) (G : S32768x1024.Idx → F .f32) (f : Buf (Elt F) (arg2.view.loc (V d (cV i) (jV i)))) (hf : arg2.view.read (Elt F) f = G)
    (O : CellTallies nD τ sig (HIx 2)) (W : Waits sig (HIx 2)) (A : S3x1024.Idx → F .f32) (Mv : ℕ → F .f32) :
    pairInv d i arg2 arg5 arg6 arg7 arg8 arg9 arg10 qa qb f O W A Mv (xsOf i G) t3.val
      ⊢ wp frame (wpE defs₀ 𝒱₀ (V d (cV i) (jV i)) none) Set.univ (k0_t3_body (F := F) i arg2 harg2 arg3 harg3 arg4 harg4 arg5 harg5 arg6 harg6 arg7 harg7 arg8 harg8 arg9 arg10 v13_r0 v13_r1 t3 z)
        fun _ => pairInv d i arg2 arg5 arg6 arg7 arg8 arg9 arg10 qa qb f O W A Mv (xsOf i G) (t3.val + 1) := by
  have ht : t3.val < 16 := lt_of_lt_of_eq t3.isLt (by decide)
  unfold k0_t3_body pairInv
  iintro ⟨#Hmw, HA, ⟨%Y, Hb⟩, HxB, HvB, Hm, Ha, HO⟩
  ihave HA := (Entails.of_eq (show slotA (V d (cV i) (jV i)) arg5 arg9.sem (arg2.view.loc (V d (cV i) (jV i))) qa f (xsOf i G) t3.val = _ from if_pos ht)) $$ HA
  iapply (start_chunk (V d (cV i) (jV i)) arg2 arg6 arg10.sem (k0_off7 i t3) (k0_off7_inb i t3) qb f G hf (base i) (64 * t3.val + 32) ((k0_off7_eq i t3).trans (by rw [Nat.add_assoc])) Y _ _) $$ HxB Hb HvB
  iintro HB
  iapply (wait_read (V d (cV i) (jV i)) _ arg5 arg9.sem _ _ qa f O W _ _) $$ Hmw HA HO
  iintro ⟨H5, HxA, HvA, HO⟩
  iapply (bind_intro (t := (V d (cV i) (jV i))) _ _ _)
  iapply (wp_wand_r frame (wpE defs₀ 𝒱₀ (V d (cV i) (jV i)) none) Set.univ)
  isplitl [H5 Hm Ha]
  · iapply (chunk0 d i arg2 harg2 arg3 harg3 arg4 harg4 arg5 harg5 arg6 harg6 arg7 harg7 arg8 harg8 arg9 arg10 v13_r0 v13_r1 t3 _ A Mv (xsOf i G)) $$ [H5 Hm Ha]
    isplitl [H5]; · iexact H5
    isplitl [Hm]; · iexact Hm
    iexact Ha
  iintro %_ ⟨H5, Hm, Ha⟩
  iapply (next_wp d i arg2 arg5 harg5 arg9 t3 qa G f hf _ _ _) $$ HxA H5 HvA
  iintro HA
  iapply (wait_read (V d (cV i) (jV i)) _ arg6 arg10.sem _ _ qb f O W _ _) $$ Hmw HB HO
  iintro ⟨H6, HxB, HvB, HO⟩
  iapply (bind_intro (t := (V d (cV i) (jV i))) _ _ _)
  iapply (wp_wand_r frame (wpE defs₀ 𝒱₀ (V d (cV i) (jV i)) none) Set.univ)
  isplitl [H6 Hm Ha]
  · iapply (chunk1 d i arg2 harg2 arg3 harg3 arg4 harg4 arg5 harg5 arg6 harg6 arg7 harg7 arg8 harg8 arg9 arg10 v13_r0 v13_r1 t3 _ A Mv (xsOf i G)) $$ [H6 Hm Ha]
    isplitl [H6]; · iexact H6
    isplitl [Hm]; · iexact Hm
    iexact Ha
  iintro %_ ⟨H6, Hm, Ha⟩
  iapply (pure_intro (t := (V d (cV i) (jV i))) _ _)
  isplitr; · iexact Hmw
  isplitl [HA]; · iexact HA
  isplitl [H6]
  · iexists _
    iexact H6
  isplitl [HxB]; · iexact HxB
  isplitl [HvB]; · iexact HvB
  isplitl [Hm]; · iexact Hm
  isplitl [Ha]; · iexact Ha
  iexact HO

/-- Task `i`'s block of the partial sums, as the task addresses it. -/
abbrev blk (arg4 : Memref sig .scVector .hbm S32x3x1024 .f32) (i : grid0.Coords) : Memref sig .scVector .hbm S3x1024 .f32 :=
  (arg4.slice (Rect.unit (s := S32x3x1024) (k0_off108 i) S1x3x1024.size (k0_off108_inb i)) (fun _ => rfl)).squeeze S3x1024 squeezes_S1x3x1024_S3x1024

/-- What task `i` leaves in its block: over its 1024 tokens, the masked rows' sums and sums of squares, and the lanes' mask counts. -/
def statsVal (i : grid0.Coords) (M : S32768.Idx → F .f32) (G : S32768x1024.Idx → F .f32) : S3x1024.Idx → F .f32 :=
  accN (cntN (mvOf i M) 64) (mvOf i M) (xsOf i G) 1024

/-- The whole first body at task `i`. -/
theorem stats_wp (d : Dev nD) (i : grid0.Coords) arg2 harg2 arg3 harg3 arg4 harg4 arg5 harg5 arg6 harg6 arg7 harg7 arg8 harg8 arg9 arg10 v13_r0 v13_r1 (qx qm : PosShare TreeShare)
    (G : S32768x1024.Idx → F .f32) (f : Buf (Elt F) (arg2.view.loc (V d (cV i) (jV i)))) (hf : arg2.view.read (Elt F) f = G)
    (M : S32768.Idx → F .f32) (fm : Buf (Elt F) (arg3.view.loc (V d (cV i) (jV i)))) (hm : arg3.view.read (Elt F) fm = M)
    (O : CellTallies nD τ sig (HIx 2)) (W : Waits sig (HIx 2)) :
    iprop(MayWaits (V d (cV i) (jV i)) none O ∗ (arg2.view.loc (V d (cV i) (jV i)) ↦{qx} f) ∗ (arg3.view.loc (V d (cV i) (jV i)) ↦{qm} fm) ∗ (∃ Y, holds (V d (cV i) (jV i)) (blk arg4 i) Y)
        ∗ (∃ Y, holds (V d (cV i) (jV i)) arg5 Y) ∗ (∃ Y, holds (V d (cV i) (jV i)) arg6 Y) ∗ (∃ Y, holds (V d (cV i) (jV i)) arg7 Y) ∗ (∃ Y, holds (V d (cV i) (jV i)) arg8 Y)
        ∗ semVal ((V d (cV i) (jV i)), .dma arg9.sem) 0 ∗ semVal ((V d (cV i) (jV i)), .dma arg10.sem) 0 ∗ semVal ((V d (cV i) (jV i)), .dma v13_r0.sem) 0 ∗ semVal ((V d (cV i) (jV i)), .dma v13_r1.sem) 0
        ∗ owed (V d (cV i) (jV i)) O W)
      ⊢ wp frame (wpE defs₀ 𝒱₀ (V d (cV i) (jV i)) none) Set.univ (cc0_stats (F := F) i arg2 harg2 arg3 harg3 arg4 harg4 arg5 harg5 arg6 harg6 arg7 harg7 arg8 harg8 arg9 arg10 v13_r0 v13_r1)
        fun _ => (iprop((arg2.view.loc (V d (cV i) (jV i)) ↦{qx} f) ∗ (arg3.view.loc (V d (cV i) (jV i)) ↦{qm} fm) ∗ holds (V d (cV i) (jV i)) (blk arg4 i) (statsVal i M G)
          ∗ (∃ Y, holds (V d (cV i) (jV i)) arg5 Y) ∗ (∃ Y, holds (V d (cV i) (jV i)) arg6 Y) ∗ (∃ Y, holds (V d (cV i) (jV i)) arg7 Y) ∗ (∃ Y, holds (V d (cV i) (jV i)) arg8 Y)
          ∗ semVal ((V d (cV i) (jV i)), .dma arg9.sem) 0 ∗ semVal ((V d (cV i) (jV i)), .dma arg10.sem) 0 ∗ semVal ((V d (cV i) (jV i)), .dma v13_r0.sem) 0 ∗ semVal ((V d (cV i) (jV i)), .dma v13_r1.sem) 0
          ∗ owed (V d (cV i) (jV i)) O W) : sProp 𝕄) := by
  rw [cc0_stats_eq_skeleton]; unfold cc0_stats_skel
  rw [k0_part7_eq_skeleton]; unfold k0_part7_skel
  iintro ⟨#Hmw, Hx, Hm, ⟨%Y4, H4⟩, ⟨%Y5, H5⟩, ⟨%Y6, H6⟩, ⟨%Y7, H7⟩, ⟨%Y8, H8⟩, HvA, HvB, Hv0, Hv1, HO⟩
  iapply (bind_intro (t := (V d (cV i) (jV i))) _ _ _)
  iapply (start_read (V d (cV i) (jV i)) (arg3.slice (Rect.unit (s := S32768) (k0_off1 i) S1024.size (k0_off1_inb i)) (fun _ => rfl)) arg7 v13_r0.sem (show 0 < S1024.numel by decide) qm fm _ Y7
    (mask_read (V d (cV i) (jV i)) arg3 fm M hm (k0_off1 i) (k0_off1_inb i) (fun _ => rfl) (base i) (k0_off1_eq i)) _ _) $$ Hm H7 Hv0
  iintro HF
  iapply (wait_read (V d (cV i) (jV i)) _ arg7 v13_r0.sem _ _ qm fm O W _ _) $$ Hmw HF HO
  iintro ⟨H7, Hm, Hv0, HO⟩
  iapply (bind_intro (t := (V d (cV i) (jV i))) _ _ _)
  iapply (wp_wand_r frame (wpE defs₀ 𝒱₀ (V d (cV i) (jV i)) none) Set.univ)
  isplitl [H8]
  · iapply (zero_loop d i arg2 harg2 arg3 harg3 arg4 harg4 arg5 harg5 arg6 harg6 arg7 harg7 arg8 harg8 arg9 arg10 v13_r0 v13_r1 Y8) $$ H8
  iintro %_ H8
  iapply (bind_intro (t := (V d (cV i) (jV i))) _ _ _)
  iapply (wp_wand_r frame (wpE defs₀ 𝒱₀ (V d (cV i) (jV i)) none) Set.univ)
  isplitl [H7 H8]
  · iapply (cnt_loop d i arg2 harg2 arg3 harg3 arg4 harg4 arg5 harg5 arg6 harg6 arg7 harg7 arg8 harg8 arg9 arg10 v13_r0 v13_r1 (mvOf i M)) $$ [H7 H8]
    isplitl [H7]; · iexact H7
    iexact H8
  iintro %_ ⟨H7, H8⟩
  ihave Hxs := (pointsTo_share (PosShare.mem_left_op_right qx)).1 $$ Hx
  icases Hxs with ⟨HxA, HxB⟩
  iapply (start_chunk (V d (cV i) (jV i)) arg2 arg5 arg9.sem (k0_off6 i) (k0_off6_inb i) qx.left f G hf (base i) (64 * 0) (k0_off6_eq i) Y5 _ _) $$ HxA H5 HvA
  iintro HA
  iapply (bind_intro (t := (V d (cV i) (jV i))) _ _ _)
  iapply (wp_wand_r frame (wpE defs₀ 𝒱₀ (V d (cV i) (jV i)) none) Set.univ (Q := fun _ => pairInv d i arg2 arg5 arg6 arg7 arg8 arg9 arg10 qx.left qx.right f O W (cntN (mvOf i M) 64) (mvOf i M) (xsOf i G) 16))
  isplitl [HA HxB HvB H6 H7 H8 HO]
  · sl_for (fun (k : ℕ) _ => pairInv d i arg2 arg5 arg6 arg7 arg8 arg9 arg10 qx.left qx.right f O W (cntN (mvOf i M) 64) (mvOf i M) (xsOf i G) k) $$ [HA HxB HvB H6 H7 H8 HO]
    case region => intro k z; exact pair_trip d i arg2 harg2 arg3 harg3 arg4 harg4 arg5 harg5 arg6 harg6 arg7 harg7 arg8 harg8 arg9 arg10 v13_r0 v13_r1 k z qx.left qx.right G f hf O W _ _
    isplitl [HA HxB HvB H6 H7 H8 HO]
    · unfold pairInv
      isplitr; · iexact Hmw
      isplitl [HA]
      · rw [slotA, if_pos (by decide)]
        iexact HA
      isplitl [H6]
      · iexists _
        iexact H6
      isplitl [HxB]; · iexact HxB
      isplitl [HvB]; · iexact HvB
      isplitl [H7]; · iexact H7
      isplitl [H8]; · iexact H8
      iexact HO
    iintro %_ HI
    rw [show Scf.trips k0_t3_loop.lb k0_t3_loop.ub k0_t3_loop.st = 16 by decide]
    iexact HI
  iintro %_ HI
  unfold pairInv
  icases HI with ⟨-, HA, H6, HxB, HvB, H7, H8, HO⟩
  ihave HA := (Entails.of_eq (show slotA (V d (cV i) (jV i)) arg5 arg9.sem (arg2.view.loc (V d (cV i) (jV i))) qx.left f (xsOf i G) 16 = _ from if_neg (by decide))) $$ HA
  icases HA with ⟨H5, HxA, HvA⟩
  iapply (start_write (V d (cV i) (jV i)) arg8 (blk arg4 i) v13_r1.sem (show 0 < S3x1024.numel by decide) _ Y4 _ _) $$ H8 H4 Hv1
  iintro HF
  iapply (pure_intro (t := (V d (cV i) (jV i))) _ _)
  iapply (wait_flight (V d (cV i) (jV i)) arg8 (blk arg4 i) v13_r1.sem _ rfl _ O W _ _) $$ Hmw HF HO
  iintro ⟨⟨H4, H8⟩, Hv1, HO⟩
  iapply (pure_intro (t := (V d (cV i) (jV i))) _ _)
  isplitl [HxA HxB]
  · iapply (pointsTo_share (PosShare.mem_left_op_right qx)).2
    isplitl [HxA]; · iexact HxA
    iexact HxB
  isplitl [Hm]; · iexact Hm
  isplitl [H4]; · iexact H4
  isplitl [H5]; · iexact H5
  isplitl [H6]; · iexact H6
  isplitl [H7]
  · iexists _
    iexact H7
  isplitl [H8]
  · iexists _
    iexact H8
  isplitl [HvA]; · iexact HvA
  isplitl [HvB]; · iexact HvB
  isplitl [Hv0]; · iexact Hv0
  isplitl [Hv1]; · iexact Hv1
  iexact HO

end Cert.Proof.Bn
-- ==== Proof.Scale.lean ====
/-
  A masked token's row replaced in place by its normalised values, and the sixteen tokens of a trip of the second SparseCore body.
-/
module

public import proofs.«01_k».proof.Proof.Stats

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

/-- The vector subcore of the grid point `i` of the second body. -/
abbrev cW (i : grid2.Coords) : Fin τ.nSC := (i 0).castLE hcore2
abbrev jW (i : grid2.Coords) : Fin τ.nSub := (i 1).castLE hsub2

/-- A trip of a token's column loop: lanes `[16 j, 16 j + 16)` of the token's row are scaled and shifted in place. -/
def nTrip {c : Fin τ.nSC} {s : Fin τ.nSub} (xb : Memref sig .scVector .vmem S32x1024 .f32) (sb bb : Memref sig .scVector .vmem S1x1024 .f32)
    (ox : Fin k2_t3_loop.trips → Fin 2 → ℕ) (hox : ∀ j a, ox j a + S1x16.size a ≤ S32x1024.size a)
    (os : Fin k2_t3_loop.trips → Fin 2 → ℕ) (hos : ∀ j a, os j a + S1x16.size a ≤ S1x1024.size a) :
    Fin k2_t3_loop.trips → BitVec 32 → Prog (TpuEff nD τ sig (Elt F) Λ₀ (.scVector c s)) (BitVec 32) :=
  fun j _ => do
    let v : Vec F S1x16 .f32 ← Prog.lift (.load xb (Rect.unit (s := S32x1024) (ox j) S1x16.size (hox j)).toLoadRect (View.loadsAt_vmem h_S1x16))
    let a : Vec F S1x16 .f32 ← Prog.lift (.load sb (Rect.unit (s := S1x1024) (os j) S1x16.size (hos j)).toLoadRect (View.loadsAt_vmem h_S1x16))
    let b : Vec F S1x16 .f32 ← Prog.lift (.load bb (Rect.unit (s := S1x1024) (os j) S1x16.size (hos j)).toLoadRect (View.loadsAt_vmem h_S1x16))
    let _ : Vec F S1x16 .f32 ← Prog.lift (.load xb (Rect.unit (s := S32x1024) (ox j) S1x16.size (hox j)).toLoadRect (View.loadsAt_vmem h_S1x16))
    Prog.lift (.store xb (Rect.unit (s := S32x1024) (ox j) S1x16.size (hox j)) (k2_pay3 v a b) Finset.univ (View.stores_vmem_bits_univ h_S1x16 rfl) (.inl rfl))
    pure 0#32

/-- Row `r` scaled by `Sc` and shifted by `Bi` on its first `16 j` lanes; the other rows stay. -/
def mulRow (j r : ℕ) (Sc Bi : S1x1024.Idx → F .f32) (X : S32x1024.Idx → F .f32) : S32x1024.Idx → F .f32 := fun p =>
  if (p 0).val = r ∧ (p 1).val < 16 * j then FloatOps.addf (FloatOps.mulf (X p) (Sc (ix2 0 (p 1)))) (Bi (ix2 0 (p 1))) else X p

theorem mulRow_zero (r : ℕ) (Sc Bi : S1x1024.Idx → F .f32) (X : S32x1024.Idx → F .f32) : mulRow 0 r Sc Bi X = X := by
  funext p; simp [mulRow]

theorem k2_pay3_apply (v a b : Vec F S1x16 .f32) (y : S1x16.Idx) : k2_pay3 v a b y = FloatOps.addf (FloatOps.mulf (v y) (a y)) (b y) := by
  have e : k2_pay3 v a b y = FloatOps.addf (FloatOps.mulf (shapeCast S1x16 (shapeCast S16 v shapeCasts_S1x16_S16) shapeCasts_S16_S1x16 y)
      (shapeCast S1x16 (shapeCast S16 a shapeCasts_S1x16_S16) shapeCasts_S16_S1x16 y))
        (shapeCast S1x16 (shapeCast S16 b shapeCasts_S1x16_S16) shapeCasts_S16_S1x16 y) := rfl
  rw [e, shapeCast_shapeCast, shapeCast_shapeCast, shapeCast_shapeCast]

/-- What one trip's store leaves in the buffer. -/
theorem n_val (xb : Memref sig .scVector .vmem S32x1024 .f32) (sb bb : Memref sig .scVector .vmem S1x1024 .f32)
    (ox : Fin 2 → ℕ) (hox : ∀ a, ox a + S1x16.size a ≤ S32x1024.size a) (os : Fin 2 → ℕ) (hos : ∀ a, os a + S1x16.size a ≤ S1x1024.size a)
    (r : Fin 32) (j : ℕ) (hj : j < 64) (ex : ox = ![r.val, 16 * j]) (es : os = ![0, 16 * j])
    (X : S32x1024.Idx → F .f32) (Sc Bi : S1x1024.Idx → F .f32) (f : xb.view.ty.Contents (Elt F)) (g : sb.view.ty.Contents (Elt F)) (h : bb.view.ty.Contents (Elt F))
    (hf : xb.view.read (Elt F) f = mulRow j r.val Sc Bi X) (hg : sb.view.read (Elt F) g = Sc) (hh : bb.view.read (Elt F) h = Bi) :
    xb.view.read (Elt F) (xb.view.writes (Elt F) f [⟨Rect.unit (s := S32x1024) ox S1x16.size hox,
        k2_pay3 (xb.view.readAt (Elt F) (Rect.unit (s := S32x1024) ox S1x16.size hox).toLoadRect f)
          (sb.view.readAt (Elt F) (Rect.unit (s := S1x1024) os S1x16.size hos).toLoadRect g)
          (bb.view.readAt (Elt F) (Rect.unit (s := S1x1024) os S1x16.size hos).toLoadRect h)⟩])
      = mulRow (j + 1) r.val Sc Bi X := by
  subst ex es
  rw [View.read_writes_cons_put _ _ _ _ _ rfl, View.writes_nil, View.readAt_unit xb.view _ hox rfl hox, View.readAt_unit sb.view _ hos rfl hos,
    View.readAt_unit bb.view _ hos rfl hos, hf, hg, hh]
  funext p
  have h0 : (p 0).val < 32 := (p 0).isLt
  have h1 : (p 1).val < 1024 := (p 1).isLt
  rw [put_row (n := 32)]
  by_cases hw : (p 0).val = r.val ∧ 16 * j ≤ (p 1).val ∧ (p 1).val < 16 * j + 16
  · have hlt : (p 1).val < 16 * (j + 1) := by omega
    have hge : ¬ (p 1).val < 16 * j := by omega
    rw [dif_pos hw, k2_pay3_apply]
    have ex : VecWindow.window (mulRow j r.val Sc Bi X) ![r.val, 16 * j] S1x16.size hox (ix2 0 ⟨(p 1).val - 16 * j, by omega⟩) = X p := by
      have ei : VecWindow.window (mulRow j r.val Sc Bi X) ![r.val, 16 * j] S1x16.size hox (ix2 0 ⟨(p 1).val - 16 * j, by omega⟩) = mulRow j r.val Sc Bi X p := by
        refine congrArg (mulRow j r.val Sc Bi X) (funext fun a => ?_)
        match a with
        | ⟨0, _⟩ => exact Fin.ext (show r.val + 1 * 0 = (p 0).val by omega)
        | ⟨1, _⟩ => exact Fin.ext (show 16 * j + 1 * ((p 1).val - 16 * j) = (p 1).val by omega)
      rw [ei, mulRow, if_neg (fun h => hge h.2)]
    have ew : ∀ (B : S1x1024.Idx → F .f32), VecWindow.window B ![0, 16 * j] S1x16.size hos (ix2 0 ⟨(p 1).val - 16 * j, by omega⟩) = B (ix2 0 (p 1)) := by
      intro B
      refine congrArg B (funext fun a => ?_)
      match a with
      | ⟨0, _⟩ => exact Fin.ext (show 0 + 1 * 0 = 0 by omega)
      | ⟨1, _⟩ => exact Fin.ext (show 16 * j + 1 * ((p 1).val - 16 * j) = (p 1).val by omega)
    rw [ex, ew, ew, mulRow, if_pos ⟨hw.1, hlt⟩]
  · rw [dif_neg hw]
    unfold mulRow
    by_cases hlt : (p 0).val = r.val ∧ (p 1).val < 16 * j
    · rw [if_pos hlt, if_pos ⟨hlt.1, by omega⟩]
    · rw [if_neg hlt, if_neg (by omega)]

/-- One trip scales and shifts its sixteen lanes. -/
theorem n_trip (d : Dev nD) (c : Fin τ.nSC) (s : Fin τ.nSub) (xb : Memref sig .scVector .vmem S32x1024 .f32) (sb bb : Memref sig .scVector .vmem S1x1024 .f32)
    (ox : Fin k2_t3_loop.trips → Fin 2 → ℕ) (hox) (os : Fin k2_t3_loop.trips → Fin 2 → ℕ) (hos)
    (r : Fin 32) (ex : ∀ j, ox j = ![r.val, 16 * j.val]) (es : ∀ j, os j = ![0, 16 * j.val])
    (X : S32x1024.Idx → F .f32) (Sc Bi : S1x1024.Idx → F .f32) (j : Fin k2_t3_loop.trips) (z : BitVec 32) :
    iprop(holds (V d c s) xb (mulRow j.val r.val Sc Bi X) ∗ holds (V d c s) sb Sc ∗ holds (V d c s) bb Bi)
      ⊢ wp frame (wpE defs₀ 𝒱₀ (V d c s) none) Set.univ (nTrip (F := F) (c := c) (s := s) xb sb bb ox hox os hos j z)
        fun _ => iprop(holds (V d c s) xb (mulRow (j.val + 1) r.val Sc Bi X) ∗ holds (V d c s) sb Sc ∗ holds (V d c s) bb Bi) := by
  unfold nTrip
  unfold holds
  iintro ⟨⟨%f, %hf, Hx⟩, ⟨%g, %hg, Hs⟩, ⟨%h, %hh, Hb⟩⟩
  sl_exec!
  sl_step
  isplitl [Hx]
  · iapply (holds_intro (V d c s) xb _ _ ?_) $$ Hx
    exact n_val xb sb bb (ox j) (hox j) (os j) (hos j) r j.val (lt_of_lt_of_eq j.isLt (by decide)) (ex j) (es j) X Sc Bi f g h hf hg hh
  isplitl [Hs]
  · iapply (holds_intro (V d c s) sb _ g hg) $$ Hs
  iapply (holds_intro (V d c s) bb _ h hh) $$ Hb

/-- A token's whole column loop scales and shifts its row. -/
theorem n_loop (d : Dev nD) (c : Fin τ.nSC) (s : Fin τ.nSub) (xb : Memref sig .scVector .vmem S32x1024 .f32) (sb bb : Memref sig .scVector .vmem S1x1024 .f32)
    (ox : Fin k2_t3_loop.trips → Fin 2 → ℕ) (hox) (os : Fin k2_t3_loop.trips → Fin 2 → ℕ) (hos)
    (r : Fin 32) (ex : ∀ j, ox j = ![r.val, 16 * j.val]) (es : ∀ j, os j = ![0, 16 * j.val])
    (X : S32x1024.Idx → F .f32) (Sc Bi : S1x1024.Idx → F .f32) :
    iprop(holds (V d c s) xb X ∗ holds (V d c s) sb Sc ∗ holds (V d c s) bb Bi)
      ⊢ wp frame (wpE defs₀ 𝒱₀ (V d c s) none) Set.univ (Scf.Loop.for k2_t3_loop k2_t3_ok 0#32 (nTrip (F := F) (c := c) (s := s) xb sb bb ox hox os hos))
        fun _ => iprop(holds (V d c s) xb (mulRow 64 r.val Sc Bi X) ∗ holds (V d c s) sb Sc ∗ holds (V d c s) bb Bi) := by
  iintro ⟨Hx, Hs, Hb⟩
  sl_for (fun (k : ℕ) _ => iprop(holds (V d c s) xb (mulRow k r.val Sc Bi X) ∗ holds (V d c s) sb Sc ∗ holds (V d c s) bb Bi)) $$ [Hx Hs Hb]
  case region =>
    intro k z
    exact n_trip d c s xb sb bb ox hox os hos r ex es X Sc Bi k z
  isplitl [Hx Hs Hb]
  · rw [mulRow_zero]
    isplitl [Hx]; · iexact Hx
    isplitl [Hs]; · iexact Hs
    iexact Hb
  iintro %_ HI
  rw [show Scf.trips k2_t3_loop.lb k2_t3_loop.ub k2_t3_loop.st = 64 by decide]
  iexact HI

open scoped Classical in
/-- A token's row as it leaves: scaled and shifted when its mask value is set, else as it came. -/
def nrow (Mv : ℕ → F .f32) (Xs : ℕ → Fin 1024 → F .f32) (Sc Bi : S1x1024.Idx → F .f32) (n : ℕ) (l : Fin 1024) : F .f32 :=
  if hit (Mv n) then FloatOps.addf (FloatOps.mulf (Xs n l) (Sc (ix2 0 l))) (Bi (ix2 0 l)) else Xs n l

/-- The chunk from token `b`, its tokens before `n` done. -/
def partN (Mv : ℕ → F .f32) (Xs : ℕ → Fin 1024 → F .f32) (Sc Bi : S1x1024.Idx → F .f32) (b n : ℕ) : S32x1024.Idx → F .f32 := fun p =>
  if b + (p 0).val < n then nrow Mv Xs Sc Bi (b + (p 0).val) (p 1) else Xs (b + (p 0).val) (p 1)

/-- A token: its row is scaled and shifted exactly when its mask value is set. -/
theorem n_wp (d : Dev nD) (c : Fin τ.nSC) (s : Fin τ.nSub) (xb : Memref sig .scVector .vmem S32x1024 .f32) (sb bb : Memref sig .scVector .vmem S1x1024 .f32)
    (ox : Fin k2_t3_loop.trips → Fin 2 → ℕ) (hox) (os : Fin k2_t3_loop.trips → Fin 2 → ℕ) (hos)
    (r : Fin 32) (ex : ∀ j, ox j = ![r.val, 16 * j.val]) (es : ∀ j, os j = ![0, 16 * j.val])
    (Mv : ℕ → F .f32) (Xs : ℕ → Fin 1024 → F .f32) (Sc Bi : S1x1024.Idx → F .f32) (b n : ℕ) (hn : n = b + r.val)
    (mval : F .f32) (hm : mval = Mv n)
    {β : Type} (kk : Prog (TpuEff nD τ sig (Elt F) Λ₀ (.scVector c s)) β) (Q : β → sProp 𝕄) :
    holds (V d c s) xb (partN Mv Xs Sc Bi b n)
      ⊢ iprop(holds (V d c s) sb Sc -∗ holds (V d c s) bb Bi
        -∗ ((holds (V d c s) xb (partN Mv Xs Sc Bi b (n + 1)) ∗ holds (V d c s) sb Sc ∗ holds (V d c s) bb Bi)
          -∗ wp frame (wpE defs₀ 𝒱₀ (V d c s) none) Set.univ kk Q)
        -∗ wp frame (wpE defs₀ 𝒱₀ (V d c s) none) Set.univ
        (if Scalar.cmpi .ne (Scalar.extui (Scalar.cmpf .ogt mval (Scalar.ofBits .f32 0x00000000#32))) 0#32 = 1#1
          then (Scf.Loop.for k2_t3_loop k2_t3_ok 0#32 (nTrip (F := F) (c := c) (s := s) xb sb bb ox hox os hos) >>= fun _ => kk) else kk) Q) := by
  subst hm hn
  by_cases h : hit (Mv (b + r.val))
  · have h' := h
    unfold hit at h'
    have e : mulRow 64 r.val Sc Bi (partN Mv Xs Sc Bi b (b + r.val)) = partN Mv Xs Sc Bi b (b + r.val + 1) := by
      funext p
      have h1 : (p 1).val < 1024 := (p 1).isLt
      unfold mulRow partN
      by_cases e0 : (p 0).val = r.val
      · rw [if_pos ⟨e0, by omega⟩, if_neg (by omega), if_pos (by omega)]
        unfold nrow
        rw [e0, if_pos h]
      · rw [if_neg (fun h => e0 h.1)]
        by_cases h2 : b + (p 0).val < b + r.val
        · rw [if_pos h2, if_pos (by omega)]
        · rw [if_neg h2, if_neg (by omega)]
    rw [if_pos h', wp_bind]
    iintro Hx Hs Hb Hk
    iapply (wp_wand_r frame (wpE defs₀ 𝒱₀ (V d c s) none) Set.univ)
    isplitl [Hx Hs Hb]
    · iapply (n_loop d c s xb sb bb ox hox os hos r ex es (partN Mv Xs Sc Bi b (b + r.val)) Sc Bi) $$ [Hx Hs Hb]
      isplitl [Hx]; · iexact Hx
      isplitl [Hs]; · iexact Hs
      iexact Hb
    iintro %_ HI
    iapply Hk
    rw [e]
    iexact HI
  · have h' := h
    unfold hit at h'
    have e : partN Mv Xs Sc Bi b (b + r.val) = partN Mv Xs Sc Bi b (b + r.val + 1) := by
      funext p
      unfold partN
      by_cases h2 : b + (p 0).val < b + r.val
      · rw [if_pos h2, if_pos (by omega)]
      · rw [if_neg h2]
        by_cases e0 : (p 0).val = r.val
        · rw [if_pos (by omega)]
          unfold nrow
          rw [e0, if_neg h]
        · rw [if_neg (by omega)]
    rw [if_neg h']
    iintro Hx Hs Hb Hk
    iapply Hk
    isplitl [Hx]
    · rw [← e]; iexact Hx
    isplitl [Hs]; · iexact Hs
    iexact Hb

/-- Sixteen tokens of the first chunk of a pair. -/
theorem nhalf0 (d : Dev nD) (i : grid2.Coords) arg2 harg2 arg3 harg3 arg4 harg4 arg5 harg5 arg6 harg6 arg7 harg7 arg8 harg8 arg9 harg9 arg10 harg10 arg11 harg11 arg12 arg13 arg14 arg15 v14_r0 v14_r1 v14_r2 (v2 c0 c1 : BitVec 32)
    (t1 : Fin k2_t1_loop.trips) (v : BitVec 32) (k : Fin k2_t2_loop.trips) (z : BitVec 32)
    (Mv : ℕ → F .f32) (Xs : ℕ → Fin 1024 → F .f32) (Sc Bi : S1x1024.Idx → F .f32) :
    iprop(holds (V d (cW i) (jW i)) arg7 (partN Mv Xs Sc Bi (64 * t1.val) (64 * t1.val + 16 * k.val)) ∗ holds (V d (cW i) (jW i)) arg9 (fun p => Mv (p 0).val)
        ∗ holds (V d (cW i) (jW i)) arg10 Sc ∗ holds (V d (cW i) (jW i)) arg11 Bi)
      ⊢ wp frame (wpE defs₀ 𝒱₀ (V d (cW i) (jW i)) none) Set.univ
        (k2_t2_body (F := F) i arg2 harg2 arg3 harg3 arg4 harg4 arg5 harg5 arg6 harg6 arg7 harg7 arg8 harg8 arg9 harg9 arg10 harg10 arg11 harg11 arg12 arg13 arg14 arg15 v14_r0 v14_r1 v14_r2 v2 c0 c1 t1 v k z)
        fun _ => iprop(holds (V d (cW i) (jW i)) arg7 (partN Mv Xs Sc Bi (64 * t1.val) (64 * t1.val + 16 * (k.val + 1))) ∗ holds (V d (cW i) (jW i)) arg9 (fun p => Mv (p 0).val)
          ∗ holds (V d (cW i) (jW i)) arg10 Sc ∗ holds (V d (cW i) (jW i)) arg11 Bi) := by
  have hk : k.val < 2 := lt_of_lt_of_eq k.isLt (by decide)
  have ht : t1.val < 16 := lt_of_lt_of_eq t1.isLt (by decide)
  unfold k2_t2_body
  rw [k2_part1_eq_skeleton, k2_part2_eq_skeleton, k2_part3_eq_skeleton]
  iintro ⟨Hx, ⟨%fm, %hm, Hm⟩, Hs, Hb⟩
  have hv := mask_lane arg9 fm Mv hm (k2_off6 t1 k) (k2_off6_inb t1 k) (64 * t1.val + 16 * k.val) (k2_off6_eq t1 k) (by omega)
  rw [wp_bind]
  unfold k2_part1_skel
  sl_exec
  iapply (n_wp d (cW i) (jW i) arg7 arg10 arg11 _ _ _ _ ⟨16 * k.val + 0, by omega⟩ (k2_off7_eq k) k2_off8_eq Mv Xs Sc Bi (64 * t1.val) (64 * t1.val + 16 * k.val + 0) (Nat.add_assoc _ _ _) _ (hv 0 _) _ _) $$ Hx Hs Hb
  iintro ⟨Hx, Hs, Hb⟩
  iapply (n_wp d (cW i) (jW i) arg7 arg10 arg11 _ _ _ _ ⟨16 * k.val + 1, by omega⟩ (k2_off9_eq k) k2_off10_eq Mv Xs Sc Bi (64 * t1.val) (64 * t1.val + 16 * k.val + 1) (Nat.add_assoc _ _ _) _ (hv 1 _) _ _) $$ Hx Hs Hb
  iintro ⟨Hx, Hs, Hb⟩
  iapply (n_wp d (cW i) (jW i) arg7 arg10 arg11 _ _ _ _ ⟨16 * k.val + 2, by omega⟩ (k2_off11_eq k) k2_off12_eq Mv Xs Sc Bi (64 * t1.val) (64 * t1.val + 16 * k.val + 2) (Nat.add_assoc _ _ _) _ (hv 2 _) _ _) $$ Hx Hs Hb
  iintro ⟨Hx, Hs, Hb⟩
  iapply (n_wp d (cW i) (jW i) arg7 arg10 arg11 _ _ _ _ ⟨16 * k.val + 3, by omega⟩ (k2_off13_eq k) k2_off14_eq Mv Xs Sc Bi (64 * t1.val) (64 * t1.val + 16 * k.val + 3) (Nat.add_assoc _ _ _) _ (hv 3 _) _ _) $$ Hx Hs Hb
  iintro ⟨Hx, Hs, Hb⟩
  iapply (pure_intro (t := V d (cW i) (jW i)) _ _)
  iapply (bind_intro (t := V d (cW i) (jW i)) _ _ _)
  unfold k2_part2_skel
  iapply (n_wp d (cW i) (jW i) arg7 arg10 arg11 _ _ _ _ ⟨16 * k.val + 4, by omega⟩ (k2_off15_eq k) k2_off16_eq Mv Xs Sc Bi (64 * t1.val) (64 * t1.val + 16 * k.val + 4) (Nat.add_assoc _ _ _) _ (hv 4 _) _ _) $$ Hx Hs Hb
  iintro ⟨Hx, Hs, Hb⟩
  iapply (n_wp d (cW i) (jW i) arg7 arg10 arg11 _ _ _ _ ⟨16 * k.val + 5, by omega⟩ (k2_off17_eq k) k2_off18_eq Mv Xs Sc Bi (64 * t1.val) (64 * t1.val + 16 * k.val + 5) (Nat.add_assoc _ _ _) _ (hv 5 _) _ _) $$ Hx Hs Hb
  iintro ⟨Hx, Hs, Hb⟩
  iapply (n_wp d (cW i) (jW i) arg7 arg10 arg11 _ _ _ _ ⟨16 * k.val + 6, by omega⟩ (k2_off19_eq k) k2_off20_eq Mv Xs Sc Bi (64 * t1.val) (64 * t1.val + 16 * k.val + 6) (Nat.add_assoc _ _ _) _ (hv 6 _) _ _) $$ Hx Hs Hb
  iintro ⟨Hx, Hs, Hb⟩
  iapply (n_wp d (cW i) (jW i) arg7 arg10 arg11 _ _ _ _ ⟨16 * k.val + 7, by omega⟩ (k2_off21_eq k) k2_off22_eq Mv Xs Sc Bi (64 * t1.val) (64 * t1.val + 16 * k.val + 7) (Nat.add_assoc _ _ _) _ (hv 7 _) _ _) $$ Hx Hs Hb
  iintro ⟨Hx, Hs, Hb⟩
  iapply (n_wp d (cW i) (jW i) arg7 arg10 arg11 _ _ _ _ ⟨16 * k.val + 8, by omega⟩ (k2_off23_eq k) k2_off24_eq Mv Xs Sc Bi (64 * t1.val) (64 * t1.val + 16 * k.val + 8) (Nat.add_assoc _ _ _) _ (hv 8 _) _ _) $$ Hx Hs Hb
  iintro ⟨Hx, Hs, Hb⟩
  iapply (pure_intro (t := V d (cW i) (jW i)) _ _)
  iapply (bind_intro (t := V d (cW i) (jW i)) _ _ _)
  unfold k2_part3_skel
  iapply (n_wp d (cW i) (jW i) arg7 arg10 arg11 _ _ _ _ ⟨16 * k.val + 9, by omega⟩ (k2_off25_eq k) k2_off26_eq Mv Xs Sc Bi (64 * t1.val) (64 * t1.val + 16 * k.val + 9) (Nat.add_assoc _ _ _) _ (hv 9 _) _ _) $$ Hx Hs Hb
  iintro ⟨Hx, Hs, Hb⟩
  iapply (n_wp d (cW i) (jW i) arg7 arg10 arg11 _ _ _ _ ⟨16 * k.val + 10, by omega⟩ (k2_off27_eq k) k2_off28_eq Mv Xs Sc Bi (64 * t1.val) (64 * t1.val + 16 * k.val + 10) (Nat.add_assoc _ _ _) _ (hv 10 _) _ _) $$ Hx Hs Hb
  iintro ⟨Hx, Hs, Hb⟩
  iapply (n_wp d (cW i) (jW i) arg7 arg10 arg11 _ _ _ _ ⟨16 * k.val + 11, by omega⟩ (k2_off29_eq k) k2_off30_eq Mv Xs Sc Bi (64 * t1.val) (64 * t1.val + 16 * k.val + 11) (Nat.add_assoc _ _ _) _ (hv 11 _) _ _) $$ Hx Hs Hb
  iintro ⟨Hx, Hs, Hb⟩
  iapply (n_wp d (cW i) (jW i) arg7 arg10 arg11 _ _ _ _ ⟨16 * k.val + 12, by omega⟩ (k2_off31_eq k) k2_off32_eq Mv Xs Sc Bi (64 * t1.val) (64 * t1.val + 16 * k.val + 12) (Nat.add_assoc _ _ _) _ (hv 12 _) _ _) $$ Hx Hs Hb
  iintro ⟨Hx, Hs, Hb⟩
  iapply (n_wp d (cW i) (jW i) arg7 arg10 arg11 _ _ _ _ ⟨16 * k.val + 13, by omega⟩ (k2_off33_eq k) k2_off34_eq Mv Xs Sc Bi (64 * t1.val) (64 * t1.val + 16 * k.val + 13) (Nat.add_assoc _ _ _) _ (hv 13 _) _ _) $$ Hx Hs Hb
  iintro ⟨Hx, Hs, Hb⟩
  iapply (pure_intro (t := V d (cW i) (jW i)) _ _)
  iapply (n_wp d (cW i) (jW i) arg7 arg10 arg11 _ _ _ _ ⟨16 * k.val + 14, by omega⟩ (k2_off35_eq k) k2_off36_eq Mv Xs Sc Bi (64 * t1.val) (64 * t1.val + 16 * k.val + 14) (Nat.add_assoc _ _ _) _ (hv 14 _) _ _) $$ Hx Hs Hb
  iintro ⟨Hx, Hs, Hb⟩
  iapply (n_wp d (cW i) (jW i) arg7 arg10 arg11 _ _ _ _ ⟨16 * k.val + 15, by omega⟩ (k2_off37_eq k) k2_off38_eq Mv Xs Sc Bi (64 * t1.val) (64 * t1.val + 16 * k.val + 15) (Nat.add_assoc _ _ _) _ (hv 15 _) _ _) $$ Hx Hs Hb
  iintro ⟨Hx, Hs, Hb⟩
  sl_step
  isplitl [Hx]
  · iexact Hx
  isplitl [Hm]
  · iapply (holds_intro (V d (cW i) (jW i)) arg9 _ fm hm) $$ Hm
  isplitl [Hs]
  · iexact Hs
  iexact Hb

/-- Sixteen tokens of the second chunk of a pair. -/
theorem nhalf1 (d : Dev nD) (i : grid2.Coords) arg2 harg2 arg3 harg3 arg4 harg4 arg5 harg5 arg6 harg6 arg7 harg7 arg8 harg8 arg9 harg9 arg10 harg10 arg11 harg11 arg12 arg13 arg14 arg15 v14_r0 v14_r1 v14_r2 (v2 c0 c1 : BitVec 32)
    (t1 : Fin k2_t1_loop.trips) (v : BitVec 32) (k : Fin k2_t19_loop.trips) (z : BitVec 32)
    (Mv : ℕ → F .f32) (Xs : ℕ → Fin 1024 → F .f32) (Sc Bi : S1x1024.Idx → F .f32) :
    iprop(holds (V d (cW i) (jW i)) arg8 (partN Mv Xs Sc Bi (64 * t1.val + 32) (64 * t1.val + 32 + 16 * k.val)) ∗ holds (V d (cW i) (jW i)) arg9 (fun p => Mv (p 0).val)
        ∗ holds (V d (cW i) (jW i)) arg10 Sc ∗ holds (V d (cW i) (jW i)) arg11 Bi)
      ⊢ wp frame (wpE defs₀ 𝒱₀ (V d (cW i) (jW i)) none) Set.univ
        (k2_t19_body (F := F) i arg2 harg2 arg3 harg3 arg4 harg4 arg5 harg5 arg6 harg6 arg7 harg7 arg8 harg8 arg9 harg9 arg10 harg10 arg11 harg11 arg12 arg13 arg14 arg15 v14_r0 v14_r1 v14_r2 v2 c0 c1 t1 v k z)
        fun _ => iprop(holds (V d (cW i) (jW i)) arg8 (partN Mv Xs Sc Bi (64 * t1.val + 32) (64 * t1.val + 32 + 16 * (k.val + 1))) ∗ holds (V d (cW i) (jW i)) arg9 (fun p => Mv (p 0).val)
          ∗ holds (V d (cW i) (jW i)) arg10 Sc ∗ holds (V d (cW i) (jW i)) arg11 Bi) := by
  have hk : k.val < 2 := lt_of_lt_of_eq k.isLt (by decide)
  have ht : t1.val < 16 := lt_of_lt_of_eq t1.isLt (by decide)
  unfold k2_t19_body
  rw [k2_part4_eq_skeleton, k2_part5_eq_skeleton, k2_part6_eq_skeleton]
  iintro ⟨Hx, ⟨%fm, %hm, Hm⟩, Hs, Hb⟩
  have hv := mask_lane arg9 fm Mv hm (k2_off39 t1 k) (k2_off39_inb t1 k) (64 * t1.val + 32 + 16 * k.val) ((k2_off39_eq t1 k).trans (by rw [Nat.add_right_comm])) (by omega)
  rw [wp_bind]
  unfold k2_part4_skel
  sl_exec
  iapply (n_wp d (cW i) (jW i) arg8 arg10 arg11 _ _ _ _ ⟨16 * k.val + 0, by omega⟩ (k2_off40_eq k) k2_off41_eq Mv Xs Sc Bi (64 * t1.val + 32) (64 * t1.val + 32 + 16 * k.val + 0) (Nat.add_assoc _ _ _) _ (hv 0 _) _ _) $$ Hx Hs Hb
  iintro ⟨Hx, Hs, Hb⟩
  iapply (n_wp d (cW i) (jW i) arg8 arg10 arg11 _ _ _ _ ⟨16 * k.val + 1, by omega⟩ (k2_off42_eq k) k2_off43_eq Mv Xs Sc Bi (64 * t1.val + 32) (64 * t1.val + 32 + 16 * k.val + 1) (Nat.add_assoc _ _ _) _ (hv 1 _) _ _) $$ Hx Hs Hb
  iintro ⟨Hx, Hs, Hb⟩
  iapply (n_wp d (cW i) (jW i) arg8 arg10 arg11 _ _ _ _ ⟨16 * k.val + 2, by omega⟩ (k2_off44_eq k) k2_off45_eq Mv Xs Sc Bi (64 * t1.val + 32) (64 * t1.val + 32 + 16 * k.val + 2) (Nat.add_assoc _ _ _) _ (hv 2 _) _ _) $$ Hx Hs Hb
  iintro ⟨Hx, Hs, Hb⟩
  iapply (n_wp d (cW i) (jW i) arg8 arg10 arg11 _ _ _ _ ⟨16 * k.val + 3, by omega⟩ (k2_off46_eq k) k2_off47_eq Mv Xs Sc Bi (64 * t1.val + 32) (64 * t1.val + 32 + 16 * k.val + 3) (Nat.add_assoc _ _ _) _ (hv 3 _) _ _) $$ Hx Hs Hb
  iintro ⟨Hx, Hs, Hb⟩
  iapply (pure_intro (t := V d (cW i) (jW i)) _ _)
  iapply (bind_intro (t := V d (cW i) (jW i)) _ _ _)
  unfold k2_part5_skel
  iapply (n_wp d (cW i) (jW i) arg8 arg10 arg11 _ _ _ _ ⟨16 * k.val + 4, by omega⟩ (k2_off48_eq k) k2_off49_eq Mv Xs Sc Bi (64 * t1.val + 32) (64 * t1.val + 32 + 16 * k.val + 4) (Nat.add_assoc _ _ _) _ (hv 4 _) _ _) $$ Hx Hs Hb
  iintro ⟨Hx, Hs, Hb⟩
  iapply (n_wp d (cW i) (jW i) arg8 arg10 arg11 _ _ _ _ ⟨16 * k.val + 5, by omega⟩ (k2_off50_eq k) k2_off51_eq Mv Xs Sc Bi (64 * t1.val + 32) (64 * t1.val + 32 + 16 * k.val + 5) (Nat.add_assoc _ _ _) _ (hv 5 _) _ _) $$ Hx Hs Hb
  iintro ⟨Hx, Hs, Hb⟩
  iapply (n_wp d (cW i) (jW i) arg8 arg10 arg11 _ _ _ _ ⟨16 * k.val + 6, by omega⟩ (k2_off52_eq k) k2_off53_eq Mv Xs Sc Bi (64 * t1.val + 32) (64 * t1.val + 32 + 16 * k.val + 6) (Nat.add_assoc _ _ _) _ (hv 6 _) _ _) $$ Hx Hs Hb
  iintro ⟨Hx, Hs, Hb⟩
  iapply (n_wp d (cW i) (jW i) arg8 arg10 arg11 _ _ _ _ ⟨16 * k.val + 7, by omega⟩ (k2_off54_eq k) k2_off55_eq Mv Xs Sc Bi (64 * t1.val + 32) (64 * t1.val + 32 + 16 * k.val + 7) (Nat.add_assoc _ _ _) _ (hv 7 _) _ _) $$ Hx Hs Hb
  iintro ⟨Hx, Hs, Hb⟩
  iapply (n_wp d (cW i) (jW i) arg8 arg10 arg11 _ _ _ _ ⟨16 * k.val + 8, by omega⟩ (k2_off56_eq k) k2_off57_eq Mv Xs Sc Bi (64 * t1.val + 32) (64 * t1.val + 32 + 16 * k.val + 8) (Nat.add_assoc _ _ _) _ (hv 8 _) _ _) $$ Hx Hs Hb
  iintro ⟨Hx, Hs, Hb⟩
  iapply (pure_intro (t := V d (cW i) (jW i)) _ _)
  iapply (bind_intro (t := V d (cW i) (jW i)) _ _ _)
  unfold k2_part6_skel
  iapply (n_wp d (cW i) (jW i) arg8 arg10 arg11 _ _ _ _ ⟨16 * k.val + 9, by omega⟩ (k2_off58_eq k) k2_off59_eq Mv Xs Sc Bi (64 * t1.val + 32) (64 * t1.val + 32 + 16 * k.val + 9) (Nat.add_assoc _ _ _) _ (hv 9 _) _ _) $$ Hx Hs Hb
  iintro ⟨Hx, Hs, Hb⟩
  iapply (n_wp d (cW i) (jW i) arg8 arg10 arg11 _ _ _ _ ⟨16 * k.val + 10, by omega⟩ (k2_off60_eq k) k2_off61_eq Mv Xs Sc Bi (64 * t1.val + 32) (64 * t1.val + 32 + 16 * k.val + 10) (Nat.add_assoc _ _ _) _ (hv 10 _) _ _) $$ Hx Hs Hb
  iintro ⟨Hx, Hs, Hb⟩
  iapply (n_wp d (cW i) (jW i) arg8 arg10 arg11 _ _ _ _ ⟨16 * k.val + 11, by omega⟩ (k2_off62_eq k) k2_off63_eq Mv Xs Sc Bi (64 * t1.val + 32) (64 * t1.val + 32 + 16 * k.val + 11) (Nat.add_assoc _ _ _) _ (hv 11 _) _ _) $$ Hx Hs Hb
  iintro ⟨Hx, Hs, Hb⟩
  iapply (n_wp d (cW i) (jW i) arg8 arg10 arg11 _ _ _ _ ⟨16 * k.val + 12, by omega⟩ (k2_off64_eq k) k2_off65_eq Mv Xs Sc Bi (64 * t1.val + 32) (64 * t1.val + 32 + 16 * k.val + 12) (Nat.add_assoc _ _ _) _ (hv 12 _) _ _) $$ Hx Hs Hb
  iintro ⟨Hx, Hs, Hb⟩
  iapply (n_wp d (cW i) (jW i) arg8 arg10 arg11 _ _ _ _ ⟨16 * k.val + 13, by omega⟩ (k2_off66_eq k) k2_off67_eq Mv Xs Sc Bi (64 * t1.val + 32) (64 * t1.val + 32 + 16 * k.val + 13) (Nat.add_assoc _ _ _) _ (hv 13 _) _ _) $$ Hx Hs Hb
  iintro ⟨Hx, Hs, Hb⟩
  iapply (pure_intro (t := V d (cW i) (jW i)) _ _)
  iapply (n_wp d (cW i) (jW i) arg8 arg10 arg11 _ _ _ _ ⟨16 * k.val + 14, by omega⟩ (k2_off68_eq k) k2_off69_eq Mv Xs Sc Bi (64 * t1.val + 32) (64 * t1.val + 32 + 16 * k.val + 14) (Nat.add_assoc _ _ _) _ (hv 14 _) _ _) $$ Hx Hs Hb
  iintro ⟨Hx, Hs, Hb⟩
  iapply (n_wp d (cW i) (jW i) arg8 arg10 arg11 _ _ _ _ ⟨16 * k.val + 15, by omega⟩ (k2_off70_eq k) k2_off71_eq Mv Xs Sc Bi (64 * t1.val + 32) (64 * t1.val + 32 + 16 * k.val + 15) (Nat.add_assoc _ _ _) _ (hv 15 _) _ _) $$ Hx Hs Hb
  iintro ⟨Hx, Hs, Hb⟩
  sl_step
  isplitl [Hx]
  · iexact Hx
  isplitl [Hm]
  · iapply (holds_intro (V d (cW i) (jW i)) arg9 _ fm hm) $$ Hm
  isplitl [Hs]
  · iexact Hs
  iexact Hb

end Cert.Proof.Bn
-- ==== Proof.Norm.lean ====
/-
  The second SparseCore body at a task: chunk by chunk its rows come in, are normalised in place and go out.
-/
module

public import proofs.«01_k».proof.Proof.Scale

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

/-- The token a task starts from. -/
abbrev baseN (i : grid2.Coords) : ℕ := 2048 * (i 1).val + 1024 * (i 0).val

theorem baseN_lt (i : grid2.Coords) : baseN i + 1024 ≤ 32768 := by
  have h0 : (i 0).val < 2 := (i 0).isLt
  have h1 : (i 1).val < 16 := (i 1).isLt
  unfold baseN; omega

abbrev mvN (i : grid2.Coords) (M : S32768.Idx → F .f32) : ℕ → F .f32 := fun n => M (ix1 (Fin.ofNat 32768 (baseN i + n)))
abbrev xsN (i : grid2.Coords) (G : S32768x1024.Idx → F .f32) : ℕ → Fin 1024 → F .f32 := fun n l => G (ix2 (Fin.ofNat 32768 (baseN i + n)) l)

theorem och_inb (i : grid2.Coords) (n : ℕ) : ∀ a, (![baseN i + 32 * (n % 32), 0] : Fin 2 → ℕ) a + S32x1024.size a ≤ S32768x1024.size a := by
  have := baseN_lt i
  rw [Fin.forall_fin_two]
  constructor
  · show baseN i + 32 * (n % 32) + 32 ≤ 32768; omega
  · show 0 + 1024 ≤ 1024; omega

/-- Chunk `n` of task `i`'s rows of the result. -/
abbrev och (x : Memref sig .scVector .hbm S32768x1024 .f32) (i : grid2.Coords) (n : ℕ) : Memref sig .scVector .hbm S32x1024 .f32 :=
  x.slice (Rect.unit (s := S32768x1024) ![baseN i + 32 * (n % 32), 0] S32x1024.size (och_inb i n)) (fun _ => rfl)

/-- What chunk `n` of a task holds at the end. -/
abbrev outN (Mv : ℕ → F .f32) (Xs : ℕ → Fin 1024 → F .f32) (Sc Bi : S1x1024.Idx → F .f32) (n : ℕ) : S32x1024.Idx → F .f32 :=
  fun p => nrow Mv Xs Sc Bi (32 * n + (p 0).val) (p 1)

theorem partN_none (Mv : ℕ → F .f32) (Xs : ℕ → Fin 1024 → F .f32) (Sc Bi : S1x1024.Idx → F .f32) (b : ℕ) :
    partN Mv Xs Sc Bi b b = fun p => Xs (b + (p 0).val) (p 1) := by
  funext p; exact if_neg (by omega)

theorem partN_all (Mv : ℕ → F .f32) (Xs : ℕ → Fin 1024 → F .f32) (Sc Bi : S1x1024.Idx → F .f32) (b n : ℕ) (h : b = 32 * n) :
    partN Mv Xs Sc Bi b (b + 32) = outN Mv Xs Sc Bi n := by
  subst h
  funext p
  have : (p 0).val < 32 := (p 0).isLt
  exact if_pos (by omega)

/-- The first chunk of a pair, normalised. -/
theorem nchunk0 (d : Dev nD) (i : grid2.Coords) arg2 harg2 arg3 harg3 arg4 harg4 arg5 harg5 arg6 harg6 arg7 harg7 arg8 harg8 arg9 harg9 arg10 harg10 arg11 harg11 arg12 arg13 arg14 arg15 v14_r0 v14_r1 v14_r2 (v2 c0 c1 : BitVec 32) (t1 : Fin k2_t1_loop.trips) (v : BitVec 32)
    (Mv : ℕ → F .f32) (Xs : ℕ → Fin 1024 → F .f32) (Sc Bi : S1x1024.Idx → F .f32) :
    iprop(holds (V d (cW i) (jW i)) arg7 (fun p => Xs (64 * t1.val + (p 0).val) (p 1)) ∗ holds (V d (cW i) (jW i)) arg9 (fun p => Mv (p 0).val) ∗ holds (V d (cW i) (jW i)) arg10 Sc ∗ holds (V d (cW i) (jW i)) arg11 Bi)
      ⊢ wp frame (wpE defs₀ 𝒱₀ (V d (cW i) (jW i)) none) Set.univ
        (Scf.Loop.for k2_t2_loop k2_t2_ok 0#32 (k2_t2_body (F := F) i arg2 harg2 arg3 harg3 arg4 harg4 arg5 harg5 arg6 harg6 arg7 harg7 arg8 harg8 arg9 harg9 arg10 harg10 arg11 harg11 arg12 arg13 arg14 arg15 v14_r0 v14_r1 v14_r2 v2 c0 c1 t1 v))
        fun _ => (iprop(holds (V d (cW i) (jW i)) arg7 (outN Mv Xs Sc Bi (2 * t1.val)) ∗ holds (V d (cW i) (jW i)) arg9 (fun p => Mv (p 0).val) ∗ holds (V d (cW i) (jW i)) arg10 Sc ∗ holds (V d (cW i) (jW i)) arg11 Bi) : sProp 𝕄) := by
  iintro ⟨Hx, Hm, Hs, Hb⟩
  sl_for (fun (k : ℕ) _ => (iprop(holds (V d (cW i) (jW i)) arg7 (partN Mv Xs Sc Bi (64 * t1.val) (64 * t1.val + 16 * k)) ∗ holds (V d (cW i) (jW i)) arg9 (fun p => Mv (p 0).val)
    ∗ holds (V d (cW i) (jW i)) arg10 Sc ∗ holds (V d (cW i) (jW i)) arg11 Bi) : sProp 𝕄)) $$ [Hx Hm Hs Hb]
  case region => intro k z; exact nhalf0 d i arg2 harg2 arg3 harg3 arg4 harg4 arg5 harg5 arg6 harg6 arg7 harg7 arg8 harg8 arg9 harg9 arg10 harg10 arg11 harg11 arg12 arg13 arg14 arg15 v14_r0 v14_r1 v14_r2 v2 c0 c1 t1 v k z Mv Xs Sc Bi
  isplitl [Hx Hm Hs Hb]
  · isplitl [Hx]
    · rw [Nat.mul_zero, Nat.add_zero, partN_none]
      iexact Hx
    isplitl [Hm]; · iexact Hm
    isplitl [Hs]; · iexact Hs
    iexact Hb
  iintro %_ HI
  rw [show Scf.trips k2_t2_loop.lb k2_t2_loop.ub k2_t2_loop.st = 2 by decide, show 16 * 2 = 32 from rfl, partN_all Mv Xs Sc Bi (64 * t1.val) (2 * t1.val) (by omega)]
  iexact HI

/-- The second chunk of a pair, normalised. -/
theorem nchunk1 (d : Dev nD) (i : grid2.Coords) arg2 harg2 arg3 harg3 arg4 harg4 arg5 harg5 arg6 harg6 arg7 harg7 arg8 harg8 arg9 harg9 arg10 harg10 arg11 harg11 arg12 arg13 arg14 arg15 v14_r0 v14_r1 v14_r2 (v2 c0 c1 : BitVec 32) (t1 : Fin k2_t1_loop.trips) (v : BitVec 32)
    (Mv : ℕ → F .f32) (Xs : ℕ → Fin 1024 → F .f32) (Sc Bi : S1x1024.Idx → F .f32) :
    iprop(holds (V d (cW i) (jW i)) arg8 (fun p => Xs (64 * t1.val + 32 + (p 0).val) (p 1)) ∗ holds (V d (cW i) (jW i)) arg9 (fun p => Mv (p 0).val) ∗ holds (V d (cW i) (jW i)) arg10 Sc ∗ holds (V d (cW i) (jW i)) arg11 Bi)
      ⊢ wp frame (wpE defs₀ 𝒱₀ (V d (cW i) (jW i)) none) Set.univ
        (Scf.Loop.for k2_t19_loop k2_t19_ok 0#32 (k2_t19_body (F := F) i arg2 harg2 arg3 harg3 arg4 harg4 arg5 harg5 arg6 harg6 arg7 harg7 arg8 harg8 arg9 harg9 arg10 harg10 arg11 harg11 arg12 arg13 arg14 arg15 v14_r0 v14_r1 v14_r2 v2 c0 c1 t1 v))
        fun _ => (iprop(holds (V d (cW i) (jW i)) arg8 (outN Mv Xs Sc Bi (2 * t1.val + 1)) ∗ holds (V d (cW i) (jW i)) arg9 (fun p => Mv (p 0).val) ∗ holds (V d (cW i) (jW i)) arg10 Sc ∗ holds (V d (cW i) (jW i)) arg11 Bi) : sProp 𝕄) := by
  iintro ⟨Hx, Hm, Hs, Hb⟩
  sl_for (fun (k : ℕ) _ => (iprop(holds (V d (cW i) (jW i)) arg8 (partN Mv Xs Sc Bi (64 * t1.val + 32) (64 * t1.val + 32 + 16 * k)) ∗ holds (V d (cW i) (jW i)) arg9 (fun p => Mv (p 0).val)
    ∗ holds (V d (cW i) (jW i)) arg10 Sc ∗ holds (V d (cW i) (jW i)) arg11 Bi) : sProp 𝕄)) $$ [Hx Hm Hs Hb]
  case region => intro k z; exact nhalf1 d i arg2 harg2 arg3 harg3 arg4 harg4 arg5 harg5 arg6 harg6 arg7 harg7 arg8 harg8 arg9 harg9 arg10 harg10 arg11 harg11 arg12 arg13 arg14 arg15 v14_r0 v14_r1 v14_r2 v2 c0 c1 t1 v k z Mv Xs Sc Bi
  isplitl [Hx Hm Hs Hb]
  · isplitl [Hx]
    · rw [Nat.mul_zero, Nat.add_zero, partN_none]
      iexact Hx
    isplitl [Hm]; · iexact Hm
    isplitl [Hs]; · iexact Hs
    iexact Hb
  iintro %_ HI
  rw [show Scf.trips k2_t19_loop.lb k2_t19_loop.ub k2_t19_loop.st = 2 by decide, show 16 * 2 = 32 from rfl, partN_all Mv Xs Sc Bi (64 * t1.val + 32) (2 * t1.val + 1) (by omega)]
  iexact HI

/-- Chunk `n`, not yet written or written. -/
abbrev todo (d : Dev nD) (i : grid2.Coords) (x : Memref sig .scVector .hbm S32768x1024 .f32) (n : ℕ) : sProp 𝕄 := iprop(∃ Y, holds (V d (cW i) (jW i)) (och x i n) Y)

/-- The cell of the first buffer's copies before trip `k`: the pair's first chunk is on its way in, after the last trip the last pair's is on its way out. -/
def inSlot (d : Dev nD) (i : grid2.Coords) (arg2 arg6 : Memref sig .scVector .hbm S32768x1024 .f32) (arg7 : Memref sig .scVector .vmem S32x1024 .f32) (arg12 arg14 : DmaSems sig S_)
    (qa : PosShare TreeShare) (f : Buf (Elt F) (arg2.view.loc (V d (cW i) (jW i)))) (Mv : ℕ → F .f32) (Xs : ℕ → Fin 1024 → F .f32) (Sc Bi : S1x1024.Idx → F .f32) (k : ℕ) : sProp 𝕄 :=
  if k < 16 then iprop(inFl (V d (cW i) (jW i)) arg12.sem arg7 (fun p => Xs (64 * k + (p 0).val) (p 1)) (arg2.view.loc (V d (cW i) (jW i))) qa f ∗ semVal ((V d (cW i) (jW i)), .dma arg14.sem) 0)
  else iprop(Flight EC (V d (cW i) (jW i)) (.dma arg14.sem) none (och arg6 i 0).view.dmaCredit iprop(holds (V d (cW i) (jW i)) (och arg6 i 30) (outN Mv Xs Sc Bi 30) ∗ holds (V d (cW i) (jW i)) arg7 (outN Mv Xs Sc Bi 30))
    ∗ (arg2.view.loc (V d (cW i) (jW i)) ↦{qa} f) ∗ semVal ((V d (cW i) (jW i)), .dma arg12.sem) 0)

/-- The second buffer's way out before trip `k`: the pair before's second chunk is on it. -/
def outSlot (d : Dev nD) (i : grid2.Coords) (arg6 : Memref sig .scVector .hbm S32768x1024 .f32) (arg8 : Memref sig .scVector .vmem S32x1024 .f32) (arg15 : DmaSems sig S_)
    (Mv : ℕ → F .f32) (Xs : ℕ → Fin 1024 → F .f32) (Sc Bi : S1x1024.Idx → F .f32) (k : ℕ) : sProp 𝕄 :=
  if 0 < k then Flight EC (V d (cW i) (jW i)) (.dma arg15.sem) none (och arg6 i 0).view.dmaCredit iprop(holds (V d (cW i) (jW i)) (och arg6 i (2 * k - 1)) (outN Mv Xs Sc Bi (2 * k - 1)) ∗ holds (V d (cW i) (jW i)) arg8 (outN Mv Xs Sc Bi (2 * k - 1)))
  else iprop((∃ Y, holds (V d (cW i) (jW i)) arg8 Y) ∗ semVal ((V d (cW i) (jW i)), .dma arg15.sem) 0)

/-- The first `n` chunks, written. -/
def doneTo (d : Dev nD) (i : grid2.Coords) (x : Memref sig .scVector .hbm S32768x1024 .f32) (Mv : ℕ → F .f32) (Xs : ℕ → Fin 1024 → F .f32) (Sc Bi : S1x1024.Idx → F .f32) (n : ℕ) : sProp 𝕄 :=
  bigSep (Finset.range n) fun m => holds (V d (cW i) (jW i)) (och x i m) (outN Mv Xs Sc Bi m)

/-- The chunks from `n` on, not yet written. -/
def todoFrom (d : Dev nD) (i : grid2.Coords) (x : Memref sig .scVector .hbm S32768x1024 .f32) (n : ℕ) : sProp 𝕄 := bigSep (Finset.Ico n 32) fun m => todo d i x m

theorem doneTo_succ (d : Dev nD) (i : grid2.Coords) x (Mv : ℕ → F .f32) Xs Sc Bi (n : ℕ) :
    doneTo d i x Mv Xs Sc Bi (n + 1) = iprop(holds (V d (cW i) (jW i)) (och x i n) (outN Mv Xs Sc Bi n) ∗ doneTo d i x Mv Xs Sc Bi n) := by
  unfold doneTo
  rw [Finset.range_add_one, SparseCore.bigSep_insert' Finset.notMem_range_self]

theorem todoFrom_succ (d : Dev nD) (i : grid2.Coords) x (n : ℕ) (h : n < 32) :
    todoFrom (F := F) d i x n = iprop(todo d i x n ∗ todoFrom d i x (n + 1)) := by
  unfold todoFrom
  rw [← Finset.insert_Ico_add_one_left_eq_Ico h, SparseCore.bigSep_insert' (by simp)]

theorem cond1_iff : ∀ t1 : Fin k2_t1_loop.trips, k2_cond1 t1 = 1#1 ↔ 0 < t1.val := by decide +kernel
theorem cond34_iff : ∀ t1 : Fin k2_t1_loop.trips, k2_cond34 t1 = 1#1 ↔ t1.val + 1 < 16 := by decide +kernel

/-- The second buffer is free again: the pair before's second chunk has gone out. -/
theorem prev_wp (d : Dev nD) (i : grid2.Coords) (arg6 : Memref sig .scVector .hbm S32768x1024 .f32) (harg6 : arg6.IsWhole) (arg8 : Memref sig .scVector .vmem S32x1024 .f32) (harg8 : arg8.IsWhole)
    (arg15 : DmaSems sig S_) (t1 : Fin k2_t1_loop.trips) (Mv : ℕ → F .f32) (Xs : ℕ → Fin 1024 → F .f32) (Sc Bi : S1x1024.Idx → F .f32)
    (O : CellTallies nD τ sig (HIx 2)) (W : Waits sig (HIx 2))
    {β : Type} (kk : Prog (TpuEff nD τ sig (Elt F) Λ₀ (.scVector (cW i) (jW i))) β) (Q : β → sProp 𝕄) :
    (MayWaits (V d (cW i) (jW i)) none O : sProp 𝕄)
      ⊢ iprop(outSlot d i arg6 arg8 arg15 Mv Xs Sc Bi t1.val -∗ doneTo d i arg6 Mv Xs Sc Bi (2 * t1.val - 1) -∗ owed (V d (cW i) (jW i)) O W
        -∗ (((∃ Y, holds (V d (cW i) (jW i)) arg8 Y) ∗ semVal ((V d (cW i) (jW i)), .dma arg15.sem) 0 ∗ doneTo d i arg6 Mv Xs Sc Bi (2 * t1.val) ∗ owed (V d (cW i) (jW i)) O W) -∗ wp frame (wpE defs₀ 𝒱₀ (V d (cW i) (jW i)) none) Set.univ kk Q)
        -∗ wp frame (wpE defs₀ 𝒱₀ (V d (cW i) (jW i)) none) Set.univ
          (if h : k2_cond1 t1 = 1#1 then
            (Prog.lift (.waitDma2 arg15.sem arg8 (arg6.slice (Rect.unit (s := S32768x1024) (k2_off3 i t1) S32x1024.size (k2_off3_inb i t1 h)) (fun _ => rfl))
              harg8.wordExact (View.wordExact_bits rfl)) >>= fun _ => kk)
           else kk) Q) := by
  iintro #Hmw HB HD HO Hk
  by_cases h : k2_cond1 t1 = 1#1
  · have ht := (cond1_iff t1).mp h
    rw [dif_pos h]
    ihave HB := (Entails.of_eq (show outSlot d i arg6 arg8 arg15 Mv Xs Sc Bi t1.val = _ from if_pos ht)) $$ HB
    iapply (wait_flight (V d (cW i) (jW i)) arg8 (arg6.slice (Rect.unit (s := S32768x1024) (k2_off3 i t1) S32x1024.size (k2_off3_inb i t1 h)) (fun _ => rfl)) arg15.sem (och arg6 i 0).view.dmaCredit rfl _ O W _ _) $$ Hmw HB HO
    iintro ⟨⟨Ho, H8⟩, Hv, HO⟩
    iapply Hk
    isplitl [H8]
    · iexists _
      iexact H8
    isplitl [Hv]; · iexact Hv
    isplitl [Ho HD]
    · rw [show doneTo d i arg6 Mv Xs Sc Bi (2 * t1.val) = _ from (congrArg (doneTo d i arg6 Mv Xs Sc Bi) (show 2 * t1.val = 2 * t1.val - 1 + 1 by omega)).trans (doneTo_succ d i arg6 Mv Xs Sc Bi _)]
      isplitl [Ho]; · iexact Ho
      iexact HD
    iexact HO
  · have ht : ¬ 0 < t1.val := fun h' => h ((cond1_iff t1).mpr h')
    rw [dif_neg h]
    ihave HB := (Entails.of_eq (show outSlot d i arg6 arg8 arg15 Mv Xs Sc Bi t1.val = _ from if_neg ht)) $$ HB
    icases HB with ⟨H8, Hv⟩
    iapply Hk
    isplitl [H8]; · iexact H8
    isplitl [Hv]; · iexact Hv
    isplitl [HD]
    · rw [show doneTo d i arg6 Mv Xs Sc Bi (2 * t1.val) = _ from congrArg (doneTo d i arg6 Mv Xs Sc Bi) (show 2 * t1.val = 2 * t1.val - 1 by omega)]
      iexact HD
    iexact HO

/-- The next pair's first chunk starts once the first buffer has gone out, unless this pair is the last. -/
theorem nextN_wp (d : Dev nD) (i : grid2.Coords) (arg2 arg6 : Memref sig .scVector .hbm S32768x1024 .f32) (arg7 : Memref sig .scVector .vmem S32x1024 .f32) (harg7 : arg7.IsWhole)
    (arg12 arg14 : DmaSems sig S_) (t1 : Fin k2_t1_loop.trips) (qa : PosShare TreeShare) (G : S32768x1024.Idx → F .f32) (f : Buf (Elt F) (arg2.view.loc (V d (cW i) (jW i))))
    (hf : arg2.view.read (Elt F) f = G) (Mv : ℕ → F .f32) (Sc Bi : S1x1024.Idx → F .f32)
    (O : CellTallies nD τ sig (HIx 2)) (W : Waits sig (HIx 2))
    {β : Type} (kk : Prog (TpuEff nD τ sig (Elt F) Λ₀ (.scVector (cW i) (jW i))) β) (Q : β → sProp 𝕄) :
    (MayWaits (V d (cW i) (jW i)) none O : sProp 𝕄)
      ⊢ iprop(Flight EC (V d (cW i) (jW i)) (.dma arg14.sem) none (och arg6 i 0).view.dmaCredit
          iprop(holds (V d (cW i) (jW i)) (och arg6 i (2 * t1.val)) (outN Mv (xsN i G) Sc Bi (2 * t1.val)) ∗ holds (V d (cW i) (jW i)) arg7 (outN Mv (xsN i G) Sc Bi (2 * t1.val)))
        -∗ (arg2.view.loc (V d (cW i) (jW i)) ↦{qa} f) -∗ semVal ((V d (cW i) (jW i)), .dma arg12.sem) 0 -∗ doneTo d i arg6 Mv (xsN i G) Sc Bi (2 * t1.val) -∗ owed (V d (cW i) (jW i)) O W
        -∗ ((inSlot d i arg2 arg6 arg7 arg12 arg14 qa f Mv (xsN i G) Sc Bi (t1.val + 1)
            ∗ doneTo d i arg6 Mv (xsN i G) Sc Bi (if t1.val + 1 < 16 then 2 * (t1.val + 1) - 1 else 30) ∗ owed (V d (cW i) (jW i)) O W) -∗ wp frame (wpE defs₀ 𝒱₀ (V d (cW i) (jW i)) none) Set.univ kk Q)
        -∗ wp frame (wpE defs₀ 𝒱₀ (V d (cW i) (jW i)) none) Set.univ
          (if h : k2_cond34 t1 = 1#1 then
            (Prog.lift (.waitDma2 arg14.sem arg7 (arg6.slice (Rect.unit (s := S32768x1024) (k2_off72 i t1) S32x1024.size (k2_off72_inb i t1 h)) (fun _ => rfl))
              harg7.wordExact (View.wordExact_bits rfl)) >>= fun _ =>
             Prog.lift (.enqueueDma (arg2.slice (Rect.unit (s := S32768x1024) (k2_off73 i t1) S32x1024.size (k2_off73_inb i t1 h)) (fun _ => rfl)) (.here arg7)
              (.dma arg12.sem) (View.wordExact_bits rfl) harg7.wordExact ⟨Or.inl rfl, trivial⟩) >>= fun _ => kk)
           else kk) Q) := by
  have ht : t1.val < 16 := lt_of_lt_of_eq t1.isLt (by decide)
  iintro #Hmw HF HxA HvA HD HO Hk
  by_cases h : k2_cond34 t1 = 1#1
  · have ht' := (cond34_iff t1).mp h
    rw [dif_pos h, inSlot, if_pos ht', if_pos ht']
    iapply (wait_flight (V d (cW i) (jW i)) arg7 (arg6.slice (Rect.unit (s := S32768x1024) (k2_off72 i t1) S32x1024.size (k2_off72_inb i t1 h)) (fun _ => rfl)) arg14.sem (och arg6 i 0).view.dmaCredit rfl _ O W _ _) $$ Hmw HF HO
    iintro ⟨⟨Ho, H7⟩, Hv, HO⟩
    iapply (start_chunk (V d (cW i) (jW i)) arg2 arg7 arg12.sem (k2_off73 i t1) (k2_off73_inb i t1 h) qa f G hf (baseN i) (64 * (t1.val + 1)) ((k2_off73_eq i t1).trans (by rw [show baseN i + 64 * t1.val + 64 = baseN i + 64 * (t1.val + 1) by omega])) _ _ _) $$ HxA H7 HvA
    iintro HA
    iapply Hk
    isplitl [HA Hv]
    · isplitl [HA]; · iexact HA
      iexact Hv
    isplitl [Ho HD]
    · rw [show 2 * (t1.val + 1) - 1 = 2 * t1.val + 1 by omega, doneTo_succ]
      isplitl [Ho]; · iexact Ho
      iexact HD
    iexact HO
  · have ht' : ¬ t1.val + 1 < 16 := fun h' => h ((cond34_iff t1).mpr h')
    rw [dif_neg h, inSlot, if_neg ht', if_neg ht', show 2 * t1.val = 30 by omega]
    iapply Hk
    isplitl [HF HxA HvA]
    · isplitl [HF]; · iexact HF
      isplitl [HxA]; · iexact HxA
      iexact HvA
    isplitl [HD]; · iexact HD
    iexact HO

/-- A chunk's copy out starts. -/
theorem out_wp (d : Dev nD) (i : grid2.Coords) (x : Memref sig .scVector .hbm S32768x1024 .f32) (src : Memref sig .scVector .vmem S32x1024 .f32) (sem : DmaSem sig)
    (off : Fin 2 → ℕ) (inb : ∀ a, off a + S32x1024.size a ≤ S32768x1024.size a) (n : ℕ) (ho : off = ![baseN i + 32 * (n % 32), 0])
    {h1 : src.view.WordExact} {h2 : (x.slice (Rect.unit (s := S32768x1024) off S32x1024.size inb) (fun _ => rfl)).view.WordExact}
    {h3 : DmaTarget.Typed (nD := nD) (p := .scVector (cW i) (jW i)) .vmem (.dma sem) (.here (x.slice (Rect.unit (s := S32768x1024) off S32x1024.size inb) (fun _ => rfl)))}
    (X : S32x1024.Idx → F .f32) {β : Type} (k : PUnit → Prog (TpuEff nD τ sig (Elt F) Λ₀ (.scVector (cW i) (jW i))) β) (Q : β → sProp 𝕄) :
    (holds (V d (cW i) (jW i)) src X : sProp 𝕄)
      ⊢ iprop(todo d i x n -∗ semVal ((V d (cW i) (jW i)), .dma sem) 0
        -∗ (Flight EC (V d (cW i) (jW i)) (.dma sem) none (och x i 0).view.dmaCredit iprop(holds (V d (cW i) (jW i)) (och x i n) X ∗ holds (V d (cW i) (jW i)) src X) -∗ wp frame (wpE defs₀ 𝒱₀ (V d (cW i) (jW i)) none) Set.univ (k ⟨⟩) Q)
        -∗ wp frame (wpE defs₀ 𝒱₀ (V d (cW i) (jW i)) none) Set.univ
          (Prog.lift (.enqueueDma src (.here (x.slice (Rect.unit (s := S32768x1024) off S32x1024.size inb) (fun _ => rfl))) (.dma sem) h1 h2 h3) >>= k) Q) := by
  subst ho
  iintro Hs ⟨%Y, Hd⟩ Hv Hk
  iapply (start_write (V d (cW i) (jW i)) src (och x i n) sem (show 0 < S32x1024.numel by decide) X Y k Q) $$ Hs Hd Hv
  iintro HF
  iapply Hk
  iexact HF

/-- What holds before trip `k` of the loop over pairs of chunks. -/
def nInv (d : Dev nD) (i : grid2.Coords) (arg2 arg6 : Memref sig .scVector .hbm S32768x1024 .f32) (arg7 arg8 : Memref sig .scVector .vmem S32x1024 .f32)
    (arg9 : Memref sig .scVector .vmem S1024 .f32) (arg10 arg11 : Memref sig .scVector .vmem S1x1024 .f32) (arg12 arg13 arg14 arg15 : DmaSems sig S_)
    (qa qb : PosShare TreeShare) (f : Buf (Elt F) (arg2.view.loc (V d (cW i) (jW i)))) (O : CellTallies nD τ sig (HIx 2)) (W : Waits sig (HIx 2))
    (Mv : ℕ → F .f32) (Xs : ℕ → Fin 1024 → F .f32) (Sc Bi : S1x1024.Idx → F .f32) (k : ℕ) : sProp 𝕄 :=
  iprop(MayWaits (V d (cW i) (jW i)) none O ∗ inSlot d i arg2 arg6 arg7 arg12 arg14 qa f Mv Xs Sc Bi k ∗ outSlot d i arg6 arg8 arg15 Mv Xs Sc Bi k
    ∗ (arg2.view.loc (V d (cW i) (jW i)) ↦{qb} f) ∗ semVal ((V d (cW i) (jW i)), .dma arg13.sem) 0
    ∗ holds (V d (cW i) (jW i)) arg9 (fun p => Mv (p 0).val) ∗ holds (V d (cW i) (jW i)) arg10 Sc ∗ holds (V d (cW i) (jW i)) arg11 Bi
    ∗ todoFrom d i arg6 (2 * k) ∗ doneTo d i arg6 Mv Xs Sc Bi (if k < 16 then 2 * k - 1 else 30) ∗ owed (V d (cW i) (jW i)) O W)

/-- A trip of the loop over pairs. -/
theorem npair_trip (d : Dev nD) (i : grid2.Coords) arg2 harg2 arg3 harg3 arg4 harg4 arg5 harg5 arg6 harg6 arg7 harg7 arg8 harg8 arg9 harg9 arg10 harg10 arg11 harg11 arg12 arg13 arg14 arg15 v14_r0 v14_r1 v14_r2 v2 (t1 : Fin k2_t1_loop.trips) (z : BitVec 32)
    (qa qb : PosShare TreeShare) (G : S32768x1024.Idx → F .f32) (f : Buf (Elt F) (arg2.view.loc (V d (cW i) (jW i)))) (hf : arg2.view.read (Elt F) f = G)
    (O : CellTallies nD τ sig (HIx 2)) (W : Waits sig (HIx 2)) (Mv : ℕ → F .f32) (Sc Bi : S1x1024.Idx → F .f32) :
    nInv d i arg2 arg6 arg7 arg8 arg9 arg10 arg11 arg12 arg13 arg14 arg15 qa qb f O W Mv (xsN i G) Sc Bi t1.val
      ⊢ wp frame (wpE defs₀ 𝒱₀ (V d (cW i) (jW i)) none) Set.univ (k2_t1_body (F := F) i arg2 harg2 arg3 harg3 arg4 harg4 arg5 harg5 arg6 harg6 arg7 harg7 arg8 harg8 arg9 harg9 arg10 harg10 arg11 harg11 arg12 arg13 arg14 arg15 v14_r0 v14_r1 v14_r2 v2 t1 z)
        fun _ => nInv d i arg2 arg6 arg7 arg8 arg9 arg10 arg11 arg12 arg13 arg14 arg15 qa qb f O W Mv (xsN i G) Sc Bi (t1.val + 1) := by
  have ht : t1.val < 16 := lt_of_lt_of_eq t1.isLt (by decide)
  unfold k2_t1_body nInv
  rw [k2_part7_eq_skeleton]; unfold k2_part7_skel
  iintro ⟨#Hmw, HA, HB, HxB, HvB, Hm, Hs, Hb, HT, HD, HO⟩
  ihave HA := (Entails.of_eq (show inSlot d i arg2 arg6 arg7 arg12 arg14 qa f Mv (xsN i G) Sc Bi t1.val = _ from if_pos ht)) $$ HA
  icases HA with ⟨HA, HvOA⟩
  ihave HD := (Entails.of_eq (congrArg (doneTo d i arg6 Mv (xsN i G) Sc Bi) (if_pos ht))) $$ HD
  ihave HT := (Entails.of_eq (todoFrom_succ d i arg6 (2 * t1.val) (by omega))) $$ HT
  icases HT with ⟨HT0, HT⟩
  ihave HT := (Entails.of_eq (todoFrom_succ d i arg6 (2 * t1.val + 1) (by omega))) $$ HT
  icases HT with ⟨HT1, HT⟩
  iapply (bind_intro (t := (V d (cW i) (jW i))) _ _ _)
  iapply (prev_wp d i arg6 harg6 arg8 harg8 arg15 t1 Mv (xsN i G) Sc Bi O W _ _) $$ Hmw HB HD HO
  iintro ⟨⟨%Y, H8⟩, HvOB, HD, HO⟩
  iapply (start_chunk (V d (cW i) (jW i)) arg2 arg8 arg13.sem (k2_off4 i t1) (k2_off4_inb i t1) qb f G hf (baseN i) (64 * t1.val + 32) ((k2_off4_eq i t1).trans (by rw [Nat.add_assoc])) Y _ _) $$ HxB H8 HvB
  iintro HB
  iapply (wait_read (V d (cW i) (jW i)) _ arg7 arg12.sem _ _ qa f O W _ _) $$ Hmw HA HO
  iintro ⟨H7, HxA, HvA, HO⟩
  iapply (bind_intro (t := (V d (cW i) (jW i))) _ _ _)
  iapply (wp_wand_r frame (wpE defs₀ 𝒱₀ (V d (cW i) (jW i)) none) Set.univ)
  isplitl [H7 Hm Hs Hb]
  · iapply (nchunk0 d i arg2 harg2 arg3 harg3 arg4 harg4 arg5 harg5 arg6 harg6 arg7 harg7 arg8 harg8 arg9 harg9 arg10 harg10 arg11 harg11 arg12 arg13 arg14 arg15 v14_r0 v14_r1 v14_r2 v2 _ _ t1 _ Mv (xsN i G) Sc Bi) $$ [H7 Hm Hs Hb]
    isplitl [H7]; · iexact H7
    isplitl [Hm]; · iexact Hm
    isplitl [Hs]; · iexact Hs
    iexact Hb
  iintro %_ ⟨H7, Hm, Hs, Hb⟩
  iapply (out_wp d i arg6 arg7 arg14.sem (k2_off5 i t1) (k2_off5_inb i t1) (2 * t1.val) ((k2_off5_eq i t1).trans (by rw [show 32 * (2 * t1.val % 32) = 64 * t1.val by omega])) _ _ _) $$ H7 HT0 HvOA
  iintro HFA
  iapply (wait_read (V d (cW i) (jW i)) _ arg8 arg13.sem _ _ qb f O W _ _) $$ Hmw HB HO
  iintro ⟨H8, HxB, HvB, HO⟩
  iapply (bind_intro (t := (V d (cW i) (jW i))) _ _ _)
  iapply (wp_wand_r frame (wpE defs₀ 𝒱₀ (V d (cW i) (jW i)) none) Set.univ)
  isplitl [H8 Hm Hs Hb]
  · iapply (nchunk1 d i arg2 harg2 arg3 harg3 arg4 harg4 arg5 harg5 arg6 harg6 arg7 harg7 arg8 harg8 arg9 harg9 arg10 harg10 arg11 harg11 arg12 arg13 arg14 arg15 v14_r0 v14_r1 v14_r2 v2 _ _ t1 _ Mv (xsN i G) Sc Bi) $$ [H8 Hm Hs Hb]
    isplitl [H8]; · iexact H8
    isplitl [Hm]; · iexact Hm
    isplitl [Hs]; · iexact Hs
    iexact Hb
  iintro %_ ⟨H8, Hm, Hs, Hb⟩
  iapply (pure_intro (t := (V d (cW i) (jW i))) _ _)
  iapply (out_wp d i arg6 arg8 arg15.sem (k2_off4 i t1) (k2_off4_inb i t1) (2 * t1.val + 1) ((k2_off4_eq i t1).trans (by rw [show 32 * ((2 * t1.val + 1) % 32) = 64 * t1.val + 32 by omega, Nat.add_assoc])) _ _ _) $$ H8 HT1 HvOB
  iintro HFB
  iapply (nextN_wp d i arg2 arg6 arg7 harg7 arg12 arg14 t1 qa G f hf Mv Sc Bi O W _ _) $$ Hmw HFA HxA HvA HD HO
  iintro ⟨HA, HD, HO⟩
  iapply (pure_intro (t := (V d (cW i) (jW i))) _ _)
  isplitr; · iexact Hmw
  isplitl [HA]; · iexact HA
  isplitl [HFB]
  · rw [outSlot, if_pos (Nat.succ_pos _), show 2 * (t1.val + 1) - 1 = 2 * t1.val + 1 by omega]
    iexact HFB
  isplitl [HxB]; · iexact HxB
  isplitl [HvB]; · iexact HvB
  isplitl [Hm]; · iexact Hm
  isplitl [Hs]; · iexact Hs
  isplitl [Hb]; · iexact Hb
  isplitl [HT]; · iexact HT
  isplitl [HD]; · iexact HD
  iexact HO

theorem k2_off2_zero : ∀ i : grid2.Coords, k2_off2 i 0#32 = ![baseN i + 64 * 0, 0] := by decide +kernel

/-- The whole second body at task `i`: every chunk of its rows of the result is written. -/
theorem norm_wp (d : Dev nD) (i : grid2.Coords) arg2 harg2 arg3 harg3 arg4 harg4 arg5 harg5 arg6 harg6 arg7 harg7 arg8 harg8 arg9 harg9 arg10 harg10 arg11 harg11 arg12 arg13 arg14 arg15 v14_r0 v14_r1 v14_r2 (qx qm qs qb : PosShare TreeShare)
    (G : S32768x1024.Idx → F .f32) (f : Buf (Elt F) (arg2.view.loc (V d (cW i) (jW i)))) (hf : arg2.view.read (Elt F) f = G)
    (M : S32768.Idx → F .f32) (fm : Buf (Elt F) (arg3.view.loc (V d (cW i) (jW i)))) (hm : arg3.view.read (Elt F) fm = M)
    (Sc : S1x1024.Idx → F .f32) (fs : Buf (Elt F) (arg4.view.loc (V d (cW i) (jW i)))) (hs : arg4.view.read (Elt F) fs = Sc)
    (Bi : S1x1024.Idx → F .f32) (fb : Buf (Elt F) (arg5.view.loc (V d (cW i) (jW i)))) (hb : arg5.view.read (Elt F) fb = Bi)
    (O : CellTallies nD τ sig (HIx 2)) (W : Waits sig (HIx 2)) :
    iprop(MayWaits (V d (cW i) (jW i)) none O ∗ (arg2.view.loc (V d (cW i) (jW i)) ↦{qx} f) ∗ (arg3.view.loc (V d (cW i) (jW i)) ↦{qm} fm) ∗ (arg4.view.loc (V d (cW i) (jW i)) ↦{qs} fs) ∗ (arg5.view.loc (V d (cW i) (jW i)) ↦{qb} fb)
        ∗ todoFrom d i arg6 0
        ∗ (∃ Y, holds (V d (cW i) (jW i)) arg7 Y) ∗ (∃ Y, holds (V d (cW i) (jW i)) arg8 Y) ∗ (∃ Y, holds (V d (cW i) (jW i)) arg9 Y) ∗ (∃ Y, holds (V d (cW i) (jW i)) arg10 Y) ∗ (∃ Y, holds (V d (cW i) (jW i)) arg11 Y)
        ∗ semVal ((V d (cW i) (jW i)), .dma arg12.sem) 0 ∗ semVal ((V d (cW i) (jW i)), .dma arg13.sem) 0 ∗ semVal ((V d (cW i) (jW i)), .dma arg14.sem) 0 ∗ semVal ((V d (cW i) (jW i)), .dma arg15.sem) 0
        ∗ semVal ((V d (cW i) (jW i)), .dma v14_r0.sem) 0 ∗ semVal ((V d (cW i) (jW i)), .dma v14_r1.sem) 0 ∗ semVal ((V d (cW i) (jW i)), .dma v14_r2.sem) 0
        ∗ owed (V d (cW i) (jW i)) O W)
      ⊢ wp frame (wpE defs₀ 𝒱₀ (V d (cW i) (jW i)) none) Set.univ (cc2_norm (F := F) i arg2 harg2 arg3 harg3 arg4 harg4 arg5 harg5 arg6 harg6 arg7 harg7 arg8 harg8 arg9 harg9 arg10 harg10 arg11 harg11 arg12 arg13 arg14 arg15 v14_r0 v14_r1 v14_r2)
        fun _ => (iprop((arg2.view.loc (V d (cW i) (jW i)) ↦{qx} f) ∗ (arg3.view.loc (V d (cW i) (jW i)) ↦{qm} fm) ∗ (arg4.view.loc (V d (cW i) (jW i)) ↦{qs} fs) ∗ (arg5.view.loc (V d (cW i) (jW i)) ↦{qb} fb)
        ∗ doneTo d i arg6 (mvN i M) (xsN i G) Sc Bi 32
        ∗ (∃ Y, holds (V d (cW i) (jW i)) arg7 Y) ∗ (∃ Y, holds (V d (cW i) (jW i)) arg8 Y) ∗ (∃ Y, holds (V d (cW i) (jW i)) arg9 Y) ∗ (∃ Y, holds (V d (cW i) (jW i)) arg10 Y) ∗ (∃ Y, holds (V d (cW i) (jW i)) arg11 Y)
        ∗ semVal ((V d (cW i) (jW i)), .dma arg12.sem) 0 ∗ semVal ((V d (cW i) (jW i)), .dma arg13.sem) 0 ∗ semVal ((V d (cW i) (jW i)), .dma arg14.sem) 0 ∗ semVal ((V d (cW i) (jW i)), .dma arg15.sem) 0
        ∗ semVal ((V d (cW i) (jW i)), .dma v14_r0.sem) 0 ∗ semVal ((V d (cW i) (jW i)), .dma v14_r1.sem) 0 ∗ semVal ((V d (cW i) (jW i)), .dma v14_r2.sem) 0
        ∗ owed (V d (cW i) (jW i)) O W) : sProp 𝕄) := by
  rw [cc2_norm_eq_skeleton]; unfold cc2_norm_skel
  iintro ⟨#Hmw, Hx, Hm, Hs, Hb, HT, ⟨%Y7, H7⟩, H8, ⟨%Y9, H9⟩, ⟨%Y10, H10⟩, ⟨%Y11, H11⟩, HvA, HvB, HvOA, HvOB, Hv0, Hv1, Hv2, HO⟩
  iapply (start_read (V d (cW i) (jW i)) arg4 arg10 v14_r0.sem (show 0 < S1x1024.numel by decide) qs fs Sc Y10 hs _ _) $$ Hs H10 Hv0
  iintro HF
  iapply (wait_read (V d (cW i) (jW i)) _ arg10 v14_r0.sem _ _ qs fs O W _ _) $$ Hmw HF HO
  iintro ⟨H10, Hs, Hv0, HO⟩
  iapply (start_read (V d (cW i) (jW i)) arg5 arg11 v14_r1.sem (show 0 < S1x1024.numel by decide) qb fb Bi Y11 hb _ _) $$ Hb H11 Hv1
  iintro HF
  iapply (wait_read (V d (cW i) (jW i)) _ arg11 v14_r1.sem _ _ qb fb O W _ _) $$ Hmw HF HO
  iintro ⟨H11, Hb, Hv1, HO⟩
  iapply (start_read (V d (cW i) (jW i)) (arg3.slice (Rect.unit (s := S32768) (k2_off1 i) S1024.size (k2_off1_inb i)) (fun _ => rfl)) arg9 v14_r2.sem (show 0 < S1024.numel by decide) qm fm _ Y9
    (mask_read (V d (cW i) (jW i)) arg3 fm M hm (k2_off1 i) (k2_off1_inb i) (fun _ => rfl) (baseN i) (k2_off1_eq i)) _ _) $$ Hm H9 Hv2
  iintro HF
  iapply (wait_read (V d (cW i) (jW i)) _ arg9 v14_r2.sem _ _ qm fm O W _ _) $$ Hmw HF HO
  iintro ⟨H9, Hm, Hv2, HO⟩
  ihave Hxs := (pointsTo_share (PosShare.mem_left_op_right qx)).1 $$ Hx
  icases Hxs with ⟨HxA, HxB⟩
  iapply (start_chunk (V d (cW i) (jW i)) arg2 arg7 arg12.sem (k2_off2 i 0#32) (k2_off2_inb i 0) qx.left f G hf (baseN i) (64 * 0) (k2_off2_zero i) Y7 _ _) $$ HxA H7 HvA
  iintro HA
  iapply (bind_intro (t := (V d (cW i) (jW i))) _ _ _)
  iapply (wp_wand_r frame (wpE defs₀ 𝒱₀ (V d (cW i) (jW i)) none) Set.univ (Q := fun _ => nInv d i arg2 arg6 arg7 arg8 arg9 arg10 arg11 arg12 arg13 arg14 arg15 qx.left qx.right f O W (mvN i M) (xsN i G) Sc Bi 16))
  isplitl [HA HvOA H8 HvOB HxB HvB H9 H10 H11 HT HO]
  · sl_for (fun (k : ℕ) _ => nInv d i arg2 arg6 arg7 arg8 arg9 arg10 arg11 arg12 arg13 arg14 arg15 qx.left qx.right f O W (mvN i M) (xsN i G) Sc Bi k) $$ [HA HvOA H8 HvOB HxB HvB H9 H10 H11 HT HO]
    case region => intro k z; exact npair_trip d i arg2 harg2 arg3 harg3 arg4 harg4 arg5 harg5 arg6 harg6 arg7 harg7 arg8 harg8 arg9 harg9 arg10 harg10 arg11 harg11 arg12 arg13 arg14 arg15 v14_r0 v14_r1 v14_r2 _ k z qx.left qx.right G f hf O W _ Sc Bi
    isplitl [HA HvOA H8 HvOB HxB HvB H9 H10 H11 HT HO]
    · unfold nInv
      isplitr; · iexact Hmw
      isplitl [HA HvOA]
      · rw [inSlot, if_pos (by decide)]
        isplitl [HA]; · iexact HA
        iexact HvOA
      isplitl [H8 HvOB]
      · rw [outSlot, if_neg (by decide)]
        isplitl [H8]; · iexact H8
        iexact HvOB
      isplitl [HxB]; · iexact HxB
      isplitl [HvB]; · iexact HvB
      isplitl [H9]; · iexact H9
      isplitl [H10]; · iexact H10
      isplitl [H11]; · iexact H11
      isplitl [HT]; · iexact HT
      isplitr
      · rw [if_pos (by decide), doneTo, show Finset.range (2 * 0 - 1) = ∅ from rfl, bigSep_empty]
        iempintro
      iexact HO
    iintro %_ HI
    rw [show Scf.trips k2_t1_loop.lb k2_t1_loop.ub k2_t1_loop.st = 16 by decide]
    iexact HI
  iintro %_ HI
  unfold nInv
  icases HI with ⟨-, HA, HB, HxB, HvB, H9, H10, H11, -, HD, HO⟩
  ihave HA := (Entails.of_eq (show inSlot d i arg2 arg6 arg7 arg12 arg14 qx.left f (mvN i M) (xsN i G) Sc Bi 16 = _ from if_neg (by decide))) $$ HA
  ihave HB := (Entails.of_eq (show outSlot d i arg6 arg8 arg15 (mvN i M) (xsN i G) Sc Bi 16 = _ from if_pos (by decide))) $$ HB
  ihave HD := (Entails.of_eq (congrArg (doneTo d i arg6 (mvN i M) (xsN i G) Sc Bi) (if_neg (show ¬ 16 < 16 by decide)))) $$ HD
  icases HA with ⟨HA, HxA, HvA⟩
  iapply (wait_flight (V d (cW i) (jW i)) arg7 (arg6.slice (Rect.unit (s := S32768x1024) (k2_off2 i 960#32) S32x1024.size (k2_off2_inb i 1)) (fun _ => rfl)) arg14.sem (och arg6 i 0).view.dmaCredit rfl _ O W _ _) $$ Hmw HA HO
  iintro ⟨⟨Ho0, H7⟩, HvOA, HO⟩
  iapply (wait_flight (V d (cW i) (jW i)) arg8 (arg6.slice (Rect.unit (s := S32768x1024) (k2_off2 i 992#32) S32x1024.size (k2_off2_inb i 2)) (fun _ => rfl)) arg15.sem (och arg6 i 0).view.dmaCredit rfl _ O W _ _) $$ Hmw HB HO
  iintro ⟨⟨Ho1, H8⟩, HvOB, HO⟩
  iapply (pure_intro (t := (V d (cW i) (jW i))) _ _)
  isplitl [HxA HxB]
  · iapply (pointsTo_share (PosShare.mem_left_op_right qx)).2
    isplitl [HxA]; · iexact HxA
    iexact HxB
  isplitl [Hm]; · iexact Hm
  isplitl [Hs]; · iexact Hs
  isplitl [Hb]; · iexact Hb
  isplitl [HD Ho0 Ho1]
  · rw [doneTo_succ d i arg6 (mvN i M) (xsN i G) Sc Bi 31, doneTo_succ d i arg6 (mvN i M) (xsN i G) Sc Bi 30]
    isplitl [Ho1]; · iexact Ho1
    isplitl [Ho0]; · iexact Ho0
    iexact HD
  isplitl [H7]
  · iexists _
    iexact H7
  isplitl [H8]
  · iexists _
    iexact H8
  isplitl [H9]
  · iexists _
    iexact H9
  isplitl [H10]
  · iexists _
    iexact H10
  isplitl [H11]
  · iexists _
    iexact H11
  isplitl [HvA]; · iexact HvA
  isplitl [HvB]; · iexact HvB
  isplitl [HvOA]; · iexact HvOA
  isplitl [HvOB]; · iexact HvOB
  isplitl [Hv0]; · iexact Hv0
  isplitl [Hv1]; · iexact Hv1
  isplitl [Hv2]; · iexact Hv2
  iexact HO

end Cert.Proof.Bn
-- ==== Proof.Split.lean ====
/-
  How the arrays are handed out among the tasks and come back together.
-/
module

public import Idealize.ShloMosaic.Lib.ViewIndex
public import proofs.«01_k».proof.Proof.Stats
public import proofs.«01_k».proof.Proof.Norm

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

/-! ## Which task takes which part -/

/-- The first call's task `s` of core `c`. -/
def co0 (c : Fin 2) (s : Fin 16) : grid0.Coords :=
  fun | 0 => c | 1 => s | ⟨_ + 2, h⟩ => absurd h (Nat.not_lt.2 (Nat.le_add_left _ _))
/-- The second call's task `s` of core `c`. -/
def co2 (c : Fin 2) (s : Fin 16) : grid2.Coords :=
  fun | 0 => c | 1 => s | ⟨_ + 2, h⟩ => absurd h (Nat.not_lt.2 (Nat.le_add_left _ _))

/-- The share of an array read by all that task `s` of core `c` reads through. -/
def sh (c : Fin 2) (s : Fin 16) : PosShare TreeShare := Transfers.dealOf (Transfers.dealOf fullShare Finset.univ c) Finset.univ s

/-- An array read by all tasks is the tasks' shares of it at once. -/
theorem deal {ℓ : Loc nD τ sig} (f : Buf (Elt F) ℓ) :
    (ℓ ↦{fullShare} f : sProp 𝕄) = bigSep Finset.univ fun c : Fin 2 => bigSep Finset.univ fun s : Fin 16 => ℓ ↦{sh c s} f := by
  rw [Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩]
  rfl

/-- A separating conjunction over cores and tasks, as one over the pairs. -/
theorem bigSep_pairs (Φ : Fin 2 → Fin 16 → sProp 𝕄) :
    (bigSep Finset.univ fun c : Fin 2 => bigSep Finset.univ fun s : Fin 16 => Φ c s) = bigSep Finset.univ fun p : Fin 2 × Fin 16 => Φ p.1 p.2 :=
  (bigSep_univ_prod (Φ := fun p : Fin 2 × Fin 16 => Φ p.1 p.2)).symm

/-- A memref that holds what the buffer `H` shows it owns its elements at `H`. -/
theorem holds_at (t : Thread nD τ) {sp : Space} {s : Shape} {e : EltTy} (m : Memref sig t.2.kind sp s e) (X : s.Idx → Elt F e)
    (H : Buf (Elt F) (m.view.loc t)) (h : m.view.read (Elt F) H = X) :
    (holds t m X : sProp 𝕄) ⊢ (m.view.loc t ↦[m.view.set]{fullShare} H : sProp 𝕄) := by
  iintro ⟨%g, %hg, H⟩
  have e : ∀ i ∈ m.view.set, g i = H i := by
    intro i hi
    obtain ⟨x, -, rfl⟩ := Finset.mem_map.mp hi
    exact View.eq_of_read_eq (congrFun (hg.trans h.symm) x)
  iapply (Entails.of_eq (pointsTo_congr e))
  iexact H

/-- A buffer's part that a memref names is held by the memref at some values. -/
theorem holds_some (t : Thread nD τ) {sp : Space} {s : Shape} {e : EltTy} (m : Memref sig t.2.kind sp s e) (g : Buf (Elt F) (m.view.loc t)) :
    (m.view.loc t ↦[m.view.set]{fullShare} g : sProp 𝕄) ⊢ iprop(∃ Y, holds t m Y) := by
  iintro H
  iexists _
  iapply (holds_intro t m _ g rfl)
  iexact H

/-! ## The sums' array -/

theorem blk_mem (i : grid0.Coords) (q : S32x3x1024.Idx) :
    q ∈ (blk (Memref.whole main_v3_scv) i).view.set ↔ (q 0).val = 2 * (i 1).val + (i 0).val := by
  have e : (blk (Memref.whole main_v3_scv) i).view.set = (Rect.unit (s := S32x3x1024) (k0_off108 i) S1x3x1024.size (k0_off108_inb i)).set := by
    show (((View.whole (main_v3_scv : Ref sig .scVector)).slice (Rect.unit (s := S32x3x1024) (k0_off108 i) S1x3x1024.size (k0_off108_inb i))).reshape _ _).set = _
    rw [View.set_reshape, View.set_slice]; exact Finset.map_refl
  rw [e, Rect.mem_set_unit, k0_off108_eq]
  have h1 : (q 1).val < 3 := (q 1).isLt
  have h2 : (q 2).val < 1024 := (q 2).isLt
  constructor
  · intro h
    have := h 0
    have a : 2 * (i 1).val + (i 0).val ≤ (q 0).val ∧ (q 0).val < 2 * (i 1).val + (i 0).val + 1 := this
    omega
  · intro h a
    match a with
    | 0 => show 2 * (i 1).val + (i 0).val ≤ (q 0).val ∧ (q 0).val < 2 * (i 1).val + (i 0).val + 1; omega
    | 1 => show 0 ≤ (q 1).val ∧ (q 1).val < 0 + 3; omega
    | 2 => show 0 ≤ (q 2).val ∧ (q 2).val < 0 + 1024; omega

theorem blk_lt (i : grid0.Coords) : 2 * (i 1).val + (i 0).val < 32 := by
  have h0 : (i 0).val < 2 := (i 0).isLt
  have h1 : (i 1).val < 16 := (i 1).isLt
  omega

/-- A task's block of an array, read, is that plane of it. -/
theorem blk_read (i : grid0.Coords) (f : S32x3x1024.Idx → F .f32) (p : S3x1024.Idx) :
    (blk (Memref.whole main_v3_scv) i).view.read (Elt F) f p = f (ix3 ⟨2 * (i 1).val + (i 0).val, blk_lt i⟩ (p 0) (p 1)) := by
  have e : (Shape.reshapeEquiv (squeezes_S1x3x1024_S3x1024).numel_eq p : S1x3x1024.Idx) = ix3 0 (p 0) (p 1) := by
    apply Shape.reshapeEquiv_eq_of_rowMajor
    refine (Shape.rowMajor_val_three (d := S1x3x1024.size) (ix3 0 (p 0) (p 1))).trans (Eq.trans ?_ (Shape.rowMajor_val_two (d := S3x1024.size) p).symm)
    show (0 * 3 + (p 0).val) * 1024 + (p 1).val = (p 0).val * 1024 + (p 1).val
    omega
  have e2 : (blk (Memref.whole main_v3_scv) i).view.read (Elt F) f p
      = f ((Rect.unit (s := S32x3x1024) (k0_off108 i) S1x3x1024.size (k0_off108_inb i)).emb (Shape.reshapeEquiv (squeezes_S1x3x1024_S3x1024).numel_eq p)) := rfl
  rw [e2, e]
  refine congrArg f (funext fun a => Fin.ext ?_)
  have := k0_off108_eq i
  match a with
  | 0 => show k0_off108 i 0 + 1 * 0 = _; rw [this]; rfl
  | 1 => show k0_off108 i 1 + 1 * (p 0).val = _; rw [this]; show 0 + 1 * (p 0).val = (p 0).val; omega
  | 2 => show k0_off108 i 2 + 1 * (p 1).val = _; rw [this]; show 0 + 1 * (p 1).val = (p 1).val; omega

/-- The task whose sums plane `r` of the array holds. -/
abbrev coOf (r : Fin 32) : grid0.Coords := co0 ⟨r.val % 2, Nat.mod_lt _ (by decide)⟩ ⟨r.val / 2, by have := r.isLt; omega⟩

/-- The array of all tasks' sums. -/
def sumsV (M : S32768.Idx → F .f32) (G : S32768x1024.Idx → F .f32) : S32x3x1024.Idx → F .f32 :=
  fun p => statsVal (coOf (p 0)) M G (ix2 (p 1) (p 2))

theorem sums_read (c : Fin 2) (s : Fin 16) (M : S32768.Idx → F .f32) (G : S32768x1024.Idx → F .f32) :
    (blk (Memref.whole main_v3_scv) (co0 c s)).view.read (Elt F) (sumsV M G) = statsVal (co0 c s) M G := by
  funext p
  rw [blk_read]
  have e : coOf ⟨2 * (co0 c s 1).val + (co0 c s 0).val, blk_lt (co0 c s)⟩ = co0 c s := by
    have hc := c.isLt
    unfold coOf
    congr 1 <;> apply Fin.ext
    · show (2 * s.val + c.val) % 2 = c.val; omega
    · show (2 * s.val + c.val) / 2 = s.val; omega
  show statsVal (coOf ⟨2 * (co0 c s 1).val + (co0 c s 0).val, blk_lt (co0 c s)⟩) M G (ix2 (p 0) (p 1)) = _
  rw [e]
  exact congrArg _ (eq_ix2 p).symm

/-- Task `s` of core `c`'s part of the sums' array. -/
abbrev blkSet (p : Fin 2 × Fin 16) : Finset S32x3x1024.Idx := (blk (Memref.whole main_v3_scv) (co0 p.1 p.2)).view.set

theorem blk_disjoint : ∀ p ∈ (Finset.univ : Finset (Fin 2 × Fin 16)), ∀ p' ∈ (Finset.univ : Finset (Fin 2 × Fin 16)), p ≠ p' → Disjoint (blkSet p) (blkSet p') := by
  intro p _ p' _ h
  refine Finset.disjoint_left.mpr fun q h1 h2 => h ?_
  have a : (q 0).val = 2 * p.2.val + p.1.val := (blk_mem _ q).mp h1
  have b : (q 0).val = 2 * p'.2.val + p'.1.val := (blk_mem _ q).mp h2
  have := p.1.isLt; have := p'.1.isLt
  exact Prod.ext (Fin.ext (by omega)) (Fin.ext (by omega))

theorem blk_cover : (Finset.univ : Finset (Fin 2 × Fin 16)).biUnion blkSet = Finset.univ := by
  refine Finset.eq_univ_of_forall fun q => Finset.mem_biUnion.mpr ?_
  have hq : (q 0).val < 32 := (q 0).isLt
  refine ⟨(⟨(q 0).val % 2, by omega⟩, ⟨(q 0).val / 2, by omega⟩), Finset.mem_univ _, (blk_mem _ q).mpr ?_⟩
  show (q 0).val = 2 * ((q 0).val / 2) + (q 0).val % 2
  omega

theorem sums_pieces (d : Dev nD) (f : Buf (Elt F) ((T d : Thread nD τ).loc main_v3)) :
    ((T d : Thread nD τ).loc main_v3 ↦{fullShare} f : sProp 𝕄)
      = bigSep Finset.univ fun p : Fin 2 × Fin 16 => (T d : Thread nD τ).loc main_v3 ↦[blkSet p]{fullShare} f := by
  rw [← pointsTo_biUnion Finset.univ (ℓ := (T d : Thread nD τ).loc main_v3) blkSet blk_disjoint, blk_cover]; try rfl

/-- The sums' array, handed out: each task gets its block. -/
theorem sums_out (d : Dev nD) (f : Buf (Elt F) ((T d : Thread nD τ).loc main_v3)) :
    ((T d : Thread nD τ).loc main_v3 ↦{fullShare} f : sProp 𝕄)
      ⊢ bigSep Finset.univ fun c : Fin 2 => bigSep Finset.univ fun s : Fin 16 =>
          iprop(∃ Y, holds (V d (cV (co0 c s)) (jV (co0 c s))) (blk (Memref.whole main_v3_scv) (co0 c s)) Y) := by
  rw [bigSep_pairs, sums_pieces]
  refine bigSep_mono fun p _ => ?_
  exact holds_some (V d (cV (co0 p.1 p.2)) (jV (co0 p.1 p.2))) (blk (Memref.whole main_v3_scv) (co0 p.1 p.2)) f

/-- The tasks' blocks, brought back: the sums' array. -/
theorem sums_back (d : Dev nD) (M : S32768.Idx → F .f32) (G : S32768x1024.Idx → F .f32) :
    (bigSep Finset.univ fun c : Fin 2 => bigSep Finset.univ fun s : Fin 16 =>
        (holds (V d (cV (co0 c s)) (jV (co0 c s))) (blk (Memref.whole main_v3_scv) (co0 c s)) (statsVal (co0 c s) M G) : sProp 𝕄))
      ⊢ ((T d : Thread nD τ).loc main_v3 ↦{fullShare} sumsV M G : sProp 𝕄) := by
  rw [bigSep_pairs, sums_pieces]
  refine bigSep_mono fun p _ => ?_
  exact holds_at (V d (cV (co0 p.1 p.2)) (jV (co0 p.1 p.2))) (blk (Memref.whole main_v3_scv) (co0 p.1 p.2)) _ (sumsV M G) (sums_read p.1 p.2 M G)

/-! ## The result's rows -/

theorem och_mem (i : grid2.Coords) (n : ℕ) (q : S32768x1024.Idx) :
    q ∈ (och (Memref.whole main_v7_scv) i n).view.set ↔ baseN i + 32 * (n % 32) ≤ (q 0).val ∧ (q 0).val < baseN i + 32 * (n % 32) + 32 := by
  have e : (och (Memref.whole main_v7_scv) i n).view.set = (Rect.unit (s := S32768x1024) ![baseN i + 32 * (n % 32), 0] S32x1024.size (och_inb i n)).set := by
    show ((View.whole (main_v7_scv : Ref sig .scVector)).slice _).set = _
    rw [View.set_slice]; exact Finset.map_refl
  rw [e, Rect.mem_set_unit, Fin.forall_fin_two]
  have h1 : (q 1).val < 1024 := (q 1).isLt
  show (baseN i + 32 * (n % 32) ≤ (q 0).val ∧ (q 0).val < baseN i + 32 * (n % 32) + 32) ∧ (0 ≤ (q 1).val ∧ (q 1).val < 0 + 1024) ↔ _
  omega

open scoped Classical in
/-- The whole result: the rows of `G` whose mask value is set, scaled by `Sc` and shifted by `Bi`, and the others as they were. -/
def normV (M : S32768.Idx → F .f32) (G : S32768x1024.Idx → F .f32) (Sc Bi : S1x1024.Idx → F .f32) : S32768x1024.Idx → F .f32 := fun p =>
  if hit (M (ix1 (p 0))) then FloatOps.addf (FloatOps.mulf (G p) (Sc (ix2 0 (p 1)))) (Bi (ix2 0 (p 1))) else G p

theorem norm_read (i : grid2.Coords) (n : ℕ) (hn : n < 32) (M : S32768.Idx → F .f32) (G : S32768x1024.Idx → F .f32) (Sc Bi : S1x1024.Idx → F .f32) :
    (och (Memref.whole main_v7_scv) i n).view.read (Elt F) (normV M G Sc Bi) = outN (mvN i M) (xsN i G) Sc Bi n := by
  funext p
  have hb := baseN_lt i
  have hp : (p 0).val < 32 := (p 0).isLt
  have e2 : (och (Memref.whole main_v7_scv) i n).view.read (Elt F) (normV M G Sc Bi) p
      = normV M G Sc Bi ((Rect.unit (s := S32768x1024) ![baseN i + 32 * (n % 32), 0] S32x1024.size (och_inb i n)).emb p) := rfl
  have e : ((Rect.unit (s := S32768x1024) ![baseN i + 32 * (n % 32), 0] S32x1024.size (och_inb i n)).emb p : S32768x1024.Idx)
      = ix2 (Fin.ofNat 32768 (baseN i + (32 * n + (p 0).val))) (p 1) := by
    funext a; apply Fin.ext
    match a with
    | 0 =>
      show baseN i + 32 * (n % 32) + 1 * (p 0).val = (baseN i + (32 * n + (p 0).val)) % 32768
      rw [Nat.mod_eq_of_lt hn, Nat.mod_eq_of_lt (by omega)]; omega
    | 1 => show 0 + 1 * (p 1).val = (p 1).val; omega
  rw [e2, e]
  rfl

/-- Chunk `n` of task `s` of core `c`. -/
abbrev ochSet (p : (Fin 2 × Fin 16) × ℕ) : Finset S32768x1024.Idx := (och (Memref.whole main_v7_scv) (co2 p.1.1 p.1.2) p.2).view.set

/-- All tasks' chunks. -/
def chunks : Finset ((Fin 2 × Fin 16) × ℕ) := Finset.univ ×ˢ Finset.range 32

theorem och_disjoint : ∀ p ∈ chunks, ∀ p' ∈ chunks, p ≠ p' → Disjoint (ochSet p) (ochSet p') := by
  intro p hp p' hp' h
  have hn : p.2 < 32 := Finset.mem_range.mp (Finset.mem_product.mp hp).2
  have hn' : p'.2 < 32 := Finset.mem_range.mp (Finset.mem_product.mp hp').2
  refine Finset.disjoint_left.mpr fun q h1 h2 => h ?_
  have a := (och_mem _ _ q).mp h1
  have b := (och_mem _ _ q).mp h2
  have ea : baseN (co2 p.1.1 p.1.2) = 2048 * p.1.2.val + 1024 * p.1.1.val := rfl
  have eb : baseN (co2 p'.1.1 p'.1.2) = 2048 * p'.1.2.val + 1024 * p'.1.1.val := rfl
  rw [ea, Nat.mod_eq_of_lt hn] at a
  rw [eb, Nat.mod_eq_of_lt hn'] at b
  have := p.1.1.isLt; have := p'.1.1.isLt
  exact Prod.ext (Prod.ext (Fin.ext (by omega)) (Fin.ext (by omega))) (by omega)

theorem och_cover : chunks.biUnion ochSet = Finset.univ := by
  refine Finset.eq_univ_of_forall fun q => ?_
  rw [Finset.mem_biUnion]
  have hq : (q 0).val < 32768 := idx2_lt0 (n0 := 32768) (n1 := 1024) q
  generalize hr : (q 0).val = r at hq
  refine ⟨((⟨r % 2048 / 1024, by omega⟩, ⟨r / 2048, by omega⟩), r % 1024 / 32),
    Finset.mem_product.mpr ⟨Finset.mem_univ _, Finset.mem_range.mpr (show r % 1024 / 32 < 32 by omega)⟩, (och_mem _ _ q).mpr ?_⟩
  rw [hr]
  show 2048 * (r / 2048) + 1024 * (r % 2048 / 1024) + 32 * (r % 1024 / 32 % 32) ≤ r
    ∧ r < 2048 * (r / 2048) + 1024 * (r % 2048 / 1024) + 32 * (r % 1024 / 32 % 32) + 32
  omega

theorem norm_pieces (d : Dev nD) (f : Buf (Elt F) ((T d : Thread nD τ).loc main_v7)) :
    ((T d : Thread nD τ).loc main_v7 ↦{fullShare} f : sProp 𝕄)
      = bigSep Finset.univ fun p : Fin 2 × Fin 16 => bigSep (Finset.range 32) fun n => (T d : Thread nD τ).loc main_v7 ↦[ochSet (p, n)]{fullShare} f := by
  rw [← SparseCore.bigSep_product Finset.univ (Finset.range 32) (fun x : (Fin 2 × Fin 16) × ℕ => ((T d : Thread nD τ).loc main_v7 ↦[ochSet x]{fullShare} f : sProp 𝕄))]
  rw [show (Finset.univ ×ˢ Finset.range 32 : Finset ((Fin 2 × Fin 16) × ℕ)) = chunks from rfl,
    ← pointsTo_biUnion chunks (ℓ := (T d : Thread nD τ).loc main_v7) ochSet och_disjoint, och_cover]; try rfl

/-- The result's array, handed out: each task gets its chunks. -/
theorem norm_out (d : Dev nD) (f : Buf (Elt F) ((T d : Thread nD τ).loc main_v7)) :
    ((T d : Thread nD τ).loc main_v7 ↦{fullShare} f : sProp 𝕄)
      ⊢ bigSep Finset.univ fun c : Fin 2 => bigSep Finset.univ fun s : Fin 16 =>
          (todoFrom d (co2 c s) (Memref.whole main_v7_scv) 0 : sProp 𝕄) := by
  rw [bigSep_pairs, norm_pieces]
  refine bigSep_mono fun p _ => ?_
  unfold todoFrom
  rw [← Finset.range_eq_Ico]
  refine bigSep_mono fun n _ => ?_
  unfold todo
  exact holds_some (V d (cW (co2 p.1 p.2)) (jW (co2 p.1 p.2))) (och (Memref.whole main_v7_scv) (co2 p.1 p.2) n) f

/-- The tasks' chunks, brought back: the result's array. -/
theorem norm_back (d : Dev nD) (M : S32768.Idx → F .f32) (G : S32768x1024.Idx → F .f32) (Sc Bi : S1x1024.Idx → F .f32) :
    (bigSep Finset.univ fun c : Fin 2 => bigSep Finset.univ fun s : Fin 16 =>
        (doneTo d (co2 c s) (Memref.whole main_v7_scv) (mvN (co2 c s) M) (xsN (co2 c s) G) Sc Bi 32 : sProp 𝕄))
      ⊢ ((T d : Thread nD τ).loc main_v7 ↦{fullShare} normV M G Sc Bi : sProp 𝕄) := by
  rw [bigSep_pairs, norm_pieces]
  refine bigSep_mono fun p _ => ?_
  unfold doneTo
  refine bigSep_mono fun n hn => ?_
  exact holds_at (V d (cW (co2 p.1 p.2)) (jW (co2 p.1 p.2))) (och (Memref.whole main_v7_scv) (co2 p.1 p.2) n) _ (normV M G Sc Bi)
    (norm_read (co2 p.1 p.2) n (Finset.mem_range.mp hn) M G Sc Bi)

end Cert.Proof.Bn

end
-- ==== Proof.Tiles.lean ====
/-
  The two calls' tasks, from what the launch hands each to what it brings back.
-/
module

public import proofs.«01_k».proof.Proof.Split

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

variable (X : Dev nD → S32768x1024.Idx → F .f32) (M : Dev nD → S32768.Idx → F .f32) (Sc Bi : Dev nD → S1x1024.Idx → F .f32)

/-! ## What a task is handed and brings back -/

/-- Task `s` of core `c`, before the first call: its shares of the rows and the mask, its block of the sums. -/
def go0 (d : Dev nD) (c : Fin 2) (s : Fin 16) : sProp 𝕄 :=
  iprop(((T d : Thread nD τ).loc main_v0 ↦{sh c s} X d) ∗ ((T d : Thread nD τ).loc main_v2 ↦{sh c s} M d)
      ∗ (∃ Y, holds (V d (cV (co0 c s)) (jV (co0 c s))) (blk (Memref.whole main_v3_scv) (co0 c s)) Y))

/-- After it: the block at the task's sums. -/
def td0 (d : Dev nD) (c : Fin 2) (s : Fin 16) : sProp 𝕄 :=
  iprop(((T d : Thread nD τ).loc main_v0 ↦{sh c s} X d) ∗ ((T d : Thread nD τ).loc main_v2 ↦{sh c s} M d)
      ∗ holds (V d (cV (co0 c s)) (jV (co0 c s))) (blk (Memref.whole main_v3_scv) (co0 c s)) (statsVal (co0 c s) (M d) (X d)))

/-- Task `s` of core `c`, before the second call: its shares of the rows, the mask, the scale and the shift, its chunks of the result. -/
def go1 (d : Dev nD) (c : Fin 2) (s : Fin 16) : sProp 𝕄 :=
  iprop(((T d : Thread nD τ).loc main_v0 ↦{sh c s} X d) ∗ ((T d : Thread nD τ).loc main_v2 ↦{sh c s} M d)
      ∗ ((T d : Thread nD τ).loc main_v6_0 ↦{sh c s} Sc d) ∗ ((T d : Thread nD τ).loc main_v6_1 ↦{sh c s} Bi d)
      ∗ todoFrom d (co2 c s) (Memref.whole main_v7_scv) 0)

/-- After it: the chunks normalised. -/
def td1 (d : Dev nD) (c : Fin 2) (s : Fin 16) : sProp 𝕄 :=
  iprop(((T d : Thread nD τ).loc main_v0 ↦{sh c s} X d) ∗ ((T d : Thread nD τ).loc main_v2 ↦{sh c s} M d)
      ∗ ((T d : Thread nD τ).loc main_v6_0 ↦{sh c s} Sc d) ∗ ((T d : Thread nD τ).loc main_v6_1 ↦{sh c s} Bi d)
      ∗ doneTo d (co2 c s) (Memref.whole main_v7_scv) (mvN (co2 c s) (M d)) (xsN (co2 c s) (X d)) (Sc d) (Bi d) 32)

instance holds_storable (t : Thread nD τ) {sp : Space} {s : Shape} {e : EltTy} (m : Memref sig t.2.kind sp s e) (X : s.Idx → Elt F e) :
    BI.Storable (upEmb : UEmb _ 𝕄) (holds t m X) := by unfold holds; infer_instance
instance some_storable (t : Thread nD τ) {sp : Space} {s : Shape} {e : EltTy} (m : Memref sig t.2.kind sp s e) :
    BI.Storable (upEmb : UEmb _ 𝕄) iprop(∃ Y : s.Idx → Elt F e, holds t m Y) := by unfold holds; infer_instance
instance go0_storable (d : Dev nD) (c : Fin 2) (s : Fin 16) : BI.Storable (upEmb : UEmb _ 𝕄) (go0 X M d c s) := by
  have := some_storable (F := F) (V d (cV (co0 c s)) (jV (co0 c s))) (blk (Memref.whole main_v3_scv) (co0 c s))
  unfold go0
  infer_instance
instance td0_storable (d : Dev nD) (c : Fin 2) (s : Fin 16) : BI.Storable (upEmb : UEmb _ 𝕄) (td0 X M d c s) := by unfold td0; infer_instance
instance todo_storable (d : Dev nD) (i : grid2.Coords) x n : BI.Storable (upEmb : UEmb _ 𝕄) (todo (F := F) d i x n) := by unfold todo; infer_instance
instance todoFrom_storable (d : Dev nD) (i : grid2.Coords) x n : BI.Storable (upEmb : UEmb _ 𝕄) (todoFrom (F := F) d i x n) := by unfold todoFrom; infer_instance
instance doneTo_storable (d : Dev nD) (i : grid2.Coords) x (Mv : ℕ → F .f32) Xs Sc Bi n : BI.Storable (upEmb : UEmb _ 𝕄) (doneTo d i x Mv Xs Sc Bi n) := by
  unfold doneTo; infer_instance
instance go1_storable (d : Dev nD) (c : Fin 2) (s : Fin 16) : BI.Storable (upEmb : UEmb _ 𝕄) (go1 X M Sc Bi d c s) := by unfold go1; infer_instance
instance td1_storable (d : Dev nD) (c : Fin 2) (s : Fin 16) : BI.Storable (upEmb : UEmb _ 𝕄) (td1 X M Sc Bi d c s) := by unfold td1; infer_instance

/-- What a task of a call is handed. -/
def goR (q : Fin 2) (d : Dev nD) (c : Fin 2) (s : Fin 16) : sProp 𝕄 :=
  match q with
  | 0 => go0 X M d c s
  | 1 => go1 X M Sc Bi d c s

/-- What a task of a call brings back. -/
def tdR (q : Fin 2) (d : Dev nD) (c : Fin 2) (s : Fin 16) : sProp 𝕄 :=
  match q with
  | 0 => td0 X M d c s
  | 1 => td1 X M Sc Bi d c s

instance goR_storable (q : Fin 2) (d : Dev nD) (c : Fin 2) (s : Fin 16) : BI.Storable (upEmb : UEmb _ 𝕄) (goR X M Sc Bi q d c s) :=
  match q with
  | 0 => go0_storable X M d c s
  | 1 => go1_storable X M Sc Bi d c s

instance tdR_storable (q : Fin 2) (d : Dev nD) (c : Fin 2) (s : Fin 16) : BI.Storable (upEmb : UEmb _ 𝕄) (tdR X M Sc Bi q d c s) :=
  match q with
  | 0 => td0_storable X M d c s
  | 1 => td1_storable X M Sc Bi d c s

/-! ## A subcore's own storage -/

theorem sepA (A B C : sProp 𝕄) : iprop((A ∗ B) ∗ C) = iprop(A ∗ B ∗ C) := BI.Entails.antisymm Idealize.SL.BI.sep_assoc Idealize.SL.BI.sep_assoc'

/-- The subcore's own buffers outside `L`. -/
def restBufs (d : Dev nD) (c : Fin τ.nSC) (j : Fin τ.nSub) (L : Finset (Ref sig .scVector)) : sProp 𝕄 :=
  bigSep (ownRefs (τ := τ) (.scVector c j) \ L.map ⟨(Proc.scVector c j).devRef, Proc.devRef_injective _⟩) fun b => iprop(∃ f, ((d, b) : Loc nD τ sig) ↦{fullShare} f)

/-- The subcore's own semaphores outside `L`. -/
def restSems (d : Dev nD) (c : Fin τ.nSC) (j : Fin τ.nSub) (L : Finset (SemLoc sig)) : sProp 𝕄 :=
  bigSep (ownCells (V d c j) \ L.map ⟨fun s => (V d c j, s), fun _ _ h => (Prod.ext_iff.mp h).2⟩) fun g => semVal g 0

theorem ownBufs_split (d : Dev nD) (c : Fin τ.nSC) (j : Fin τ.nSub) (L : Finset (Ref sig .scVector)) (h : ∀ r ∈ L, ((Proc.scVector c j).devRef r : DevRef τ sig).owner = .proc (.scVector c j)) :
    (ownBufs (V d c j) : sProp 𝕄) = iprop((bigSep L fun r => iprop(∃ f, (V d c j).loc r ↦{fullShare} f)) ∗ restBufs d c j L) := by
  unfold SparseCore.Cfg.ownBufs restBufs
  rw [SparseCore.bigSep_sdiff_split' (t := L.map ⟨(Proc.scVector c j).devRef, Proc.devRef_injective _⟩), bigSep_map]
  · rfl
  · intro b hb
    obtain ⟨r, hr, rfl⟩ := Finset.mem_map.mp hb
    exact SparseCore.Cfg.mem_ownRefs_of_owner (h r hr)

theorem ownSems_split (d : Dev nD) (c : Fin τ.nSC) (j : Fin τ.nSub) (L : Finset (SemLoc sig)) (h : ∀ s ∈ L, s.isScoped .scVector = true) :
    (ownSems0 (V d c j) : sProp 𝕄) = iprop((bigSep L fun s => semVal ((V d c j), s) 0) ∗ restSems d c j L) := by
  unfold SparseCore.Cfg.ownSems0 restSems
  rw [SparseCore.bigSep_sdiff_split' (t := L.map ⟨fun s => (V d c j, s), fun _ _ h => (Prod.ext_iff.mp h).2⟩), bigSep_map]
  · rfl
  · intro b hb
    obtain ⟨r, hr, rfl⟩ := Finset.mem_map.mp hb
    exact mem_ownCells.mpr ⟨rfl, h r hr⟩

/-- A whole buffer at some contents is held by its memref at some values. -/
theorem whole_some (t : Thread nD τ) (r : Ref sig t.2.kind) : (iprop(∃ f, t.loc r ↦{fullShare} f) : sProp 𝕄) ⊢ iprop(∃ Y, holds t (Memref.whole r) Y) := by
  iintro ⟨%f, H⟩
  iapply (holds_some t (Memref.whole r) f)
  iapply (Entails.of_eq (show ((Memref.whole r).view.loc t ↦{fullShare} f : sProp 𝕄) = (Memref.whole r).view.loc t ↦[(Memref.whole r).view.set]{fullShare} f by
    rw [show (Memref.whole r).view.set = Finset.univ from View.set_whole _]))
  iexact H

/-- And the converse. -/
theorem whole_any (t : Thread nD τ) (r : Ref sig t.2.kind) : (iprop(∃ Y, holds t (Memref.whole r) Y) : sProp 𝕄) ⊢ iprop(∃ f, t.loc r ↦{fullShare} f) := by
  iintro ⟨%Y, %f, -, H⟩
  iexists f
  iapply (Entails.of_eq (show ((Memref.whole r).view.loc t ↦[(Memref.whole r).view.set]{fullShare} f : sProp 𝕄) = (Memref.whole r).view.loc t ↦{fullShare} f by
    rw [show (Memref.whole r).view.set = Finset.univ from View.set_whole _]))
  iexact H

/-! ## The first call's tasks -/

/-- The buffers of a task of this call among its subcore's own, the rest aside. -/
theorem tileBufs0 (d : Dev nD) (c : Fin τ.nSC) (j : Fin τ.nSub) :
    (ownBufs (V d c j) : sProp 𝕄) = iprop((∃ f, (V d c j).loc cc0_scratch0 ↦{fullShare} f) ∗ (∃ f, (V d c j).loc cc0_scratch1 ↦{fullShare} f) ∗ (∃ f, (V d c j).loc cc0_scratch2 ↦{fullShare} f) ∗ (∃ f, (V d c j).loc cc0_scratch3 ↦{fullShare} f)
      ∗ restBufs d c j {cc0_scratch0, cc0_scratch1, cc0_scratch2, cc0_scratch3}) := by
  rw [ownBufs_split d c j {cc0_scratch0, cc0_scratch1, cc0_scratch2, cc0_scratch3} (fun r hr => by
    simp only [Finset.mem_insert, Finset.mem_singleton] at hr
    rcases hr with rfl | rfl | rfl | rfl <;> rfl)]
  rw [SparseCore.bigSep_insert' (by decide), SparseCore.bigSep_insert' (by decide), SparseCore.bigSep_insert' (by decide), bigSep_singleton]
  simp only [sepA]

/-- The semaphores of a task of this call among its subcore's own, the rest aside. -/
theorem tileSems0 (d : Dev nD) (c : Fin τ.nSC) (j : Fin τ.nSub) :
    (ownSems0 (V d c j) : sProp 𝕄) = iprop(semVal ((V d c j), .dma cc0_scratch4.sem) 0 ∗ semVal ((V d c j), .dma cc0_scratch5.sem) 0 ∗ semVal ((V d c j), .dma cc0_scoped0.sem) 0 ∗ semVal ((V d c j), .dma cc0_scoped1.sem) 0
      ∗ restSems d c j {.dma cc0_scratch4.sem, .dma cc0_scratch5.sem, .dma cc0_scoped0.sem, .dma cc0_scoped1.sem}) := by
  rw [ownSems_split d c j {.dma cc0_scratch4.sem, .dma cc0_scratch5.sem, .dma cc0_scoped0.sem, .dma cc0_scoped1.sem} (by decide)]
  rw [SparseCore.bigSep_insert' (by decide), SparseCore.bigSep_insert' (by decide), SparseCore.bigSep_insert' (by decide), bigSep_singleton]
  simp only [sepA]

/-- A task of this call: from its shares of the arrays it reads and its part of the one it writes, its own storage and semaphores
    at zero, to the same with its part written. -/
theorem tile0 (hF : (K (F := F)).Facts) (d : Dev nD) (c : Fin 2) (s : Fin 16) (O : CellTallies nD τ sig (HIx 2)) (W : Waits sig (HIx 2)) (hO : ∀ g, O g none = 0) :
    iprop(levAts (K (F := F)).L (K (F := F)).lev ∗ emp ∗ go0 X M d c s
        ∗ scopedBufs (V d (cV (co0 c s)) (jV (co0 c s))) ∗ scopedSems0 (V d (cV (co0 c s)) (jV (co0 c s))) ∗ owes (V d (cV (co0 c s)) (jV (co0 c s))) O W)
      ⊢ wp frame (wpE (defs₀ (F := F)) 𝒱₀ (V d (cV (co0 c s)) (jV (co0 c s))) none) Set.univ
          (cc0_stats (co0 c s) (Memref.whole main_v0_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1)
          fun _ => iprop(td0 X M d c s ∗ scopedBufs (V d (cV (co0 c s)) (jV (co0 c s))) ∗ scopedSems0 (V d (cV (co0 c s)) (jV (co0 c s)))
            ∗ ∃ W', ⌜∀ p ∈ W', p ∈ W ∨ p.2 = none⌝ ∗ owes (V d (cV (co0 c s)) (jV (co0 c s))) O W') := by
  rw [(K (F := F)).scopedBufs_V hF d (cV (co0 c s)) (jV (co0 c s)), SparseCore.Cfg.scopedSems0_V (Val := Elt F) d (cV (co0 c s)) (jV (co0 c s)), tileSems0, tileBufs0]
  unfold go0
  iintro ⟨#Hlv, -, ⟨HA0, HA1, Hout⟩, ⟨HB0, HB1, HB2, HB3, Hbufs⟩, ⟨HS0, HS1, HS2, HS3, Hsems⟩, HO⟩
  ihave Hmw := (show levAts (K (F := F)).L (K (F := F)).lev ⊢ MayWaits (V d (cV (co0 c s)) (jV (co0 c s))) (none : HIx 2) O from
    (K (F := F)).mayWaits_none (thr := (V d (cV (co0 c s)) (jV (co0 c s)))) hO) $$ Hlv
  ihave HB0 := (whole_some (V d (cV (co0 c s)) (jV (co0 c s))) cc0_scratch0) $$ HB0
  ihave HB1 := (whole_some (V d (cV (co0 c s)) (jV (co0 c s))) cc0_scratch1) $$ HB1
  ihave HB2 := (whole_some (V d (cV (co0 c s)) (jV (co0 c s))) cc0_scratch2) $$ HB2
  ihave HB3 := (whole_some (V d (cV (co0 c s)) (jV (co0 c s))) cc0_scratch3) $$ HB3
  iapply (wp_wand_r Idealize.ShloMosaic.frame (wpE (defs₀ (F := F)) 𝒱₀ (V d (cV (co0 c s)) (jV (co0 c s))) none) Set.univ)
  isplitl [Hmw HA0 HA1 Hout HB0 HB1 HB2 HB3 HS0 HS1 HS2 HS3 HO]
  · iapply (stats_wp d (co0 c s) (Memref.whole main_v0_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 (sh c s) (sh c s) (X d) (X d) rfl (M d) (M d) rfl O W)
    isplitl [Hmw]; · iexact Hmw
    isplitl [HA0]; · iexact HA0
    isplitl [HA1]; · iexact HA1
    isplitl [Hout]; · iexact Hout
    isplitl [HB0]; · iexact HB0
    isplitl [HB1]; · iexact HB1
    isplitl [HB2]; · iexact HB2
    isplitl [HB3]; · iexact HB3
    isplitl [HS0]; · iexact HS0
    isplitl [HS1]; · iexact HS1
    isplitl [HS2]; · iexact HS2
    isplitl [HS3]; · iexact HS3
    iexists W
    isplitr
    · ipureintro; exact fun p hp => .inl hp
    iexact HO
  iintro %_ ⟨HA0, HA1, Hout, HB0, HB1, HB2, HB3, HS0, HS1, HS2, HS3, HO⟩
  isplitl [HA0 HA1 Hout]
  · unfold td0
    isplitl [HA0]; · iexact HA0
    isplitl [HA1]; · iexact HA1
    iexact Hout
  isplitl [HB0 HB1 HB2 HB3 Hbufs]
  · isplitl [HB0]; · iapply (whole_any (V d (cV (co0 c s)) (jV (co0 c s))) cc0_scratch0) $$ HB0
    isplitl [HB1]; · iapply (whole_any (V d (cV (co0 c s)) (jV (co0 c s))) cc0_scratch1) $$ HB1
    isplitl [HB2]; · iapply (whole_any (V d (cV (co0 c s)) (jV (co0 c s))) cc0_scratch2) $$ HB2
    isplitl [HB3]; · iapply (whole_any (V d (cV (co0 c s)) (jV (co0 c s))) cc0_scratch3) $$ HB3
    iexact Hbufs
  isplitl [HS0 HS1 HS2 HS3 Hsems]
  · isplitl [HS0]; · iexact HS0
    isplitl [HS1]; · iexact HS1
    isplitl [HS2]; · iexact HS2
    isplitl [HS3]; · iexact HS3
    iexact Hsems
  iexact HO

/-! ## The second call's tasks -/

/-- The buffers of a task of this call among its subcore's own, the rest aside. -/
theorem tileBufs1 (d : Dev nD) (c : Fin τ.nSC) (j : Fin τ.nSub) :
    (ownBufs (V d c j) : sProp 𝕄) = iprop((∃ f, (V d c j).loc cc2_scratch0 ↦{fullShare} f) ∗ (∃ f, (V d c j).loc cc2_scratch1 ↦{fullShare} f) ∗ (∃ f, (V d c j).loc cc2_scratch2 ↦{fullShare} f) ∗ (∃ f, (V d c j).loc cc2_scratch3 ↦{fullShare} f) ∗ (∃ f, (V d c j).loc cc2_scratch4 ↦{fullShare} f)
      ∗ restBufs d c j {cc2_scratch0, cc2_scratch1, cc2_scratch2, cc2_scratch3, cc2_scratch4}) := by
  rw [ownBufs_split d c j {cc2_scratch0, cc2_scratch1, cc2_scratch2, cc2_scratch3, cc2_scratch4} (fun r hr => by
    simp only [Finset.mem_insert, Finset.mem_singleton] at hr
    rcases hr with rfl | rfl | rfl | rfl | rfl <;> rfl)]
  rw [SparseCore.bigSep_insert' (by decide), SparseCore.bigSep_insert' (by decide), SparseCore.bigSep_insert' (by decide), SparseCore.bigSep_insert' (by decide), bigSep_singleton]
  simp only [sepA]

/-- The semaphores of a task of this call among its subcore's own, the rest aside. -/
theorem tileSems1 (d : Dev nD) (c : Fin τ.nSC) (j : Fin τ.nSub) :
    (ownSems0 (V d c j) : sProp 𝕄) = iprop(semVal ((V d c j), .dma cc2_scratch5.sem) 0 ∗ semVal ((V d c j), .dma cc2_scratch6.sem) 0 ∗ semVal ((V d c j), .dma cc2_scratch7.sem) 0 ∗ semVal ((V d c j), .dma cc2_scratch8.sem) 0 ∗ semVal ((V d c j), .dma cc2_scoped0.sem) 0 ∗ semVal ((V d c j), .dma cc2_scoped1.sem) 0 ∗ semVal ((V d c j), .dma cc2_scoped2.sem) 0
      ∗ restSems d c j {.dma cc2_scratch5.sem, .dma cc2_scratch6.sem, .dma cc2_scratch7.sem, .dma cc2_scratch8.sem, .dma cc2_scoped0.sem, .dma cc2_scoped1.sem, .dma cc2_scoped2.sem}) := by
  rw [ownSems_split d c j {.dma cc2_scratch5.sem, .dma cc2_scratch6.sem, .dma cc2_scratch7.sem, .dma cc2_scratch8.sem, .dma cc2_scoped0.sem, .dma cc2_scoped1.sem, .dma cc2_scoped2.sem} (by decide)]
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  simp only [sepA]

/-- A task of this call: from its shares of the arrays it reads and its part of the one it writes, its own storage and semaphores
    at zero, to the same with its part written. -/
theorem tile1 (hF : (K (F := F)).Facts) (d : Dev nD) (c : Fin 2) (s : Fin 16) (O : CellTallies nD τ sig (HIx 2)) (W : Waits sig (HIx 2)) (hO : ∀ g, O g none = 0) :
    iprop(levAts (K (F := F)).L (K (F := F)).lev ∗ emp ∗ go1 X M Sc Bi d c s
        ∗ scopedBufs (V d (cW (co2 c s)) (jW (co2 c s))) ∗ scopedSems0 (V d (cW (co2 c s)) (jW (co2 c s))) ∗ owes (V d (cW (co2 c s)) (jW (co2 c s))) O W)
      ⊢ wp frame (wpE (defs₀ (F := F)) 𝒱₀ (V d (cW (co2 c s)) (jW (co2 c s))) none) Set.univ
          (cc2_norm (co2 c s) (Memref.whole main_v0_scv) (Memref.isWhole_whole _) (Memref.whole main_v2_scv) (Memref.isWhole_whole _) (Memref.whole main_v6_0_scv) (Memref.isWhole_whole _) (Memref.whole main_v6_1_scv) (Memref.isWhole_whole _) (Memref.whole main_v7_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scoped0 cc2_scoped1 cc2_scoped2)
          fun _ => iprop(td1 X M Sc Bi d c s ∗ scopedBufs (V d (cW (co2 c s)) (jW (co2 c s))) ∗ scopedSems0 (V d (cW (co2 c s)) (jW (co2 c s)))
            ∗ ∃ W', ⌜∀ p ∈ W', p ∈ W ∨ p.2 = none⌝ ∗ owes (V d (cW (co2 c s)) (jW (co2 c s))) O W') := by
  rw [(K (F := F)).scopedBufs_V hF d (cW (co2 c s)) (jW (co2 c s)), SparseCore.Cfg.scopedSems0_V (Val := Elt F) d (cW (co2 c s)) (jW (co2 c s)), tileSems1, tileBufs1]
  unfold go1
  iintro ⟨#Hlv, -, ⟨HA0, HA1, HA2, HA3, Hout⟩, ⟨HB0, HB1, HB2, HB3, HB4, Hbufs⟩, ⟨HS0, HS1, HS2, HS3, HS4, HS5, HS6, Hsems⟩, HO⟩
  ihave Hmw := (show levAts (K (F := F)).L (K (F := F)).lev ⊢ MayWaits (V d (cW (co2 c s)) (jW (co2 c s))) (none : HIx 2) O from
    (K (F := F)).mayWaits_none (thr := (V d (cW (co2 c s)) (jW (co2 c s)))) hO) $$ Hlv
  ihave HB0 := (whole_some (V d (cW (co2 c s)) (jW (co2 c s))) cc2_scratch0) $$ HB0
  ihave HB1 := (whole_some (V d (cW (co2 c s)) (jW (co2 c s))) cc2_scratch1) $$ HB1
  ihave HB2 := (whole_some (V d (cW (co2 c s)) (jW (co2 c s))) cc2_scratch2) $$ HB2
  ihave HB3 := (whole_some (V d (cW (co2 c s)) (jW (co2 c s))) cc2_scratch3) $$ HB3
  ihave HB4 := (whole_some (V d (cW (co2 c s)) (jW (co2 c s))) cc2_scratch4) $$ HB4
  iapply (wp_wand_r Idealize.ShloMosaic.frame (wpE (defs₀ (F := F)) 𝒱₀ (V d (cW (co2 c s)) (jW (co2 c s))) none) Set.univ)
  isplitl [Hmw HA0 HA1 HA2 HA3 Hout HB0 HB1 HB2 HB3 HB4 HS0 HS1 HS2 HS3 HS4 HS5 HS6 HO]
  · iapply (norm_wp d (co2 c s) (Memref.whole main_v0_scv) (Memref.isWhole_whole _) (Memref.whole main_v2_scv) (Memref.isWhole_whole _) (Memref.whole main_v6_0_scv) (Memref.isWhole_whole _) (Memref.whole main_v6_1_scv) (Memref.isWhole_whole _) (Memref.whole main_v7_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scoped0 cc2_scoped1 cc2_scoped2 (sh c s) (sh c s) (sh c s) (sh c s) (X d) (X d) rfl (M d) (M d) rfl (Sc d) (Sc d) rfl (Bi d) (Bi d) rfl O W)
    isplitl [Hmw]; · iexact Hmw
    isplitl [HA0]; · iexact HA0
    isplitl [HA1]; · iexact HA1
    isplitl [HA2]; · iexact HA2
    isplitl [HA3]; · iexact HA3
    isplitl [Hout]; · iexact Hout
    isplitl [HB0]; · iexact HB0
    isplitl [HB1]; · iexact HB1
    isplitl [HB2]; · iexact HB2
    isplitl [HB3]; · iexact HB3
    isplitl [HB4]; · iexact HB4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexists W
    isplitr
    · ipureintro; exact fun p hp => .inl hp
    iexact HO
  iintro %_ ⟨HA0, HA1, HA2, HA3, Hout, HB0, HB1, HB2, HB3, HB4, HS0, HS1, HS2, HS3, HS4, HS5, HS6, HO⟩
  isplitl [HA0 HA1 HA2 HA3 Hout]
  · unfold td1
    isplitl [HA0]; · iexact HA0
    isplitl [HA1]; · iexact HA1
    isplitl [HA2]; · iexact HA2
    isplitl [HA3]; · iexact HA3
    iexact Hout
  isplitl [HB0 HB1 HB2 HB3 HB4 Hbufs]
  · isplitl [HB0]; · iapply (whole_any (V d (cW (co2 c s)) (jW (co2 c s))) cc2_scratch0) $$ HB0
    isplitl [HB1]; · iapply (whole_any (V d (cW (co2 c s)) (jW (co2 c s))) cc2_scratch1) $$ HB1
    isplitl [HB2]; · iapply (whole_any (V d (cW (co2 c s)) (jW (co2 c s))) cc2_scratch2) $$ HB2
    isplitl [HB3]; · iapply (whole_any (V d (cW (co2 c s)) (jW (co2 c s))) cc2_scratch3) $$ HB3
    isplitl [HB4]; · iapply (whole_any (V d (cW (co2 c s)) (jW (co2 c s))) cc2_scratch4) $$ HB4
    iexact Hbufs
  isplitl [HS0 HS1 HS2 HS3 HS4 HS5 HS6 Hsems]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact Hsems
  iexact HO

end Cert.Proof.Bn

end
-- ==== Proof.Sb.lean ====
/-
  The TensorCore's small call between the two SparseCore calls: from the tiles' partial sums, and the two parameter rows, it leaves
  the row of scales and the row of shifts. Its body run once, and the call as one step of the main program, entered while the
  TensorCore still owes the second SparseCore call.
-/
module

public import proofs.«01_k».proof.Proof.Norm
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)
open Idealize.ShloMosaic.Pipeline (Dat Cfg Window BodyObligation cellOf)
variable {F : FTy → Type} [FloatOps F]

local notation "𝕄" => MT nD τ sig (HIx 2) (Elt F) ℕ UU ℕ
local notation "EC" => (countersEmb : UEmb Counters 𝕄)

/-! ## The body -/

/-- Plane `r` of the partial sums, as the body loads it. -/
def plane (r : Fin 3) (P : S32x3x1024.Idx → F .f32) : S32x1x1024.Idx → F .f32 := fun y => P (ix3 (y 0) r (y 2))

/-- The scales: the body's first stored row. -/
def scaleV (P : S32x3x1024.Idx → F .f32) (G : S1x1024.Idx → F .f32) : S1x1024.Idx → F .f32 :=
  k1_pay3 (plane 0 P) (plane 1 P) (plane 2 P) G

/-- The shifts: the body's second stored row. -/
def shiftV (P : S32x3x1024.Idx → F .f32) (G B : S1x1024.Idx → F .f32) : S1x1024.Idx → F .f32 :=
  k1_pay4 (plane 0 P) (plane 1 P) (plane 2 P) G B

theorem plane_window (r : Fin 3) (P : S32x3x1024.Idx → F .f32) (inb : ∀ a, (![0, r.val, 0] : Fin 3 → ℕ) a + S32x1x1024.size a ≤ S32x3x1024.size a) :
    VecWindow.window (s := S32x3x1024) P ![0, r.val, 0] S32x1x1024.size inb = plane r P := by
  funext y
  refine congrArg P (funext fun a => Fin.ext ?_)
  match a with
  | ⟨0, _⟩ => show 0 + 1 * (y 0).val = (y 0).val; omega
  | ⟨1, _⟩ =>
    have h := (y 1).isLt
    have e : (y 1).val = 0 := by have : (y 1).val < 1 := h; omega
    show r.val + 1 * (y 1).val = r.val; omega
  | ⟨2, _⟩ => show 0 + 1 * (y 2).val = (y 2).val; omega

/-- The body: the sums and the parameters stay, the two results hold the scales and the shifts. -/
theorem sb_wp (d : Dev nD) (arg0 : Memref sig .tc .vmem S32x3x1024 .f32) (harg0 : arg0.IsWhole) (arg1 : Memref sig .tc .vmem S1x1024 .f32) (harg1 : arg1.IsWhole)
    (arg2 : Memref sig .tc .vmem S1x1024 .f32) (harg2 : arg2.IsWhole) (arg3 : Memref sig .tc .vmem S1x1024 .f32) (harg3 : arg3.IsWhole)
    (arg4 : Memref sig .tc .vmem S1x1024 .f32) (harg4 : arg4.IsWhole) (P : S32x3x1024.Idx → F .f32) (G B : S1x1024.Idx → F .f32) :
    iprop((holds (T d) arg0 P : sProp 𝕄) ∗ holds (T d) arg1 G ∗ holds (T d) arg2 B ∗ (∃ Y, holds (T d) arg3 Y) ∗ (∃ Y, holds (T d) arg4 Y))
      ⊢ wp frame (wpE (defs₀ (F := F)) 𝒱₀ (T d) none) Set.univ (cc1__sb_body arg0 harg0 arg1 harg1 arg2 harg2 arg3 harg3 arg4 harg4) fun _ =>
          iprop((holds (T d) arg0 P : sProp 𝕄) ∗ holds (T d) arg1 G ∗ holds (T d) arg2 B ∗ holds (T d) arg3 (scaleV P G) ∗ holds (T d) arg4 (shiftV P G B)) := by
  have e (r : Fin 3) (inb : ∀ a, (![0, r.val, 0] : Fin 3 → ℕ) a + S32x1x1024.size a ≤ S32x3x1024.size a) (g : Buf (Elt F) (arg0.view.loc (T d : Thread nD τ))) (h : arg0.view.read (Elt F) g = P) :
      arg0.view.readAt (Elt F) (Rect.unit (s := S32x3x1024) ![0, r.val, 0] S32x1x1024.size inb).toLoadRect g = plane r P := by
    rw [View.readAt_unit arg0.view g inb rfl inb, h, plane_window]
  rw [cc1__sb_body_eq_skeleton]
  iintro ⟨⟨%g0, %h0, H0⟩, ⟨%g1, %h1, H1⟩, ⟨%g2, %h2, H2⟩, ⟨%y3, %g3, %h3, H3⟩, ⟨%y4, %g4, %h4, H4⟩⟩
  have e0 := e 0 inb_S32x3x1024_S32x1x1024_0_0_0 g0 h0
  have e1 := e 1 inb_S32x3x1024_S32x1x1024_0_1_0 g0 h0
  have e2 := e 2 inb_S32x3x1024_S32x1x1024_0_2_0 g0 h0
  have eg := (View.readAt_full arg1.view g1 inb_S1x1024_S1x1024_0_0).trans h1
  have eb := (View.readAt_full arg2.view g2 inb_S1x1024_S1x1024_0_0).trans h2
  sl_exec!
  sl_step
  isplitl [H0]
  · iapply (holds_intro (T d) arg0 P g0 h0); iexact H0
  isplitl [H1]
  · iapply (holds_intro (T d) arg1 G g1 h1); iexact H1
  isplitl [H2]
  · iapply (holds_intro (T d) arg2 B g2 h2); iexact H2
  isplitl [H3]
  · iapply (holds_intro (T d) arg3 (scaleV P G) _ ?_)
    rotate_left
    · iexact H3
    · unfold sb_wp.sl.H3_1
      refine (View.read_writes_full arg3.view _ _ _ _).trans ?_
      rfl
  · iapply (holds_intro (T d) arg4 (shiftV P G B) _ ?_)
    rotate_left
    · iexact H4
    · unfold sb_wp.sl.H4_1
      refine (View.read_writes_full arg4.view _ _ _ _).trans ?_
      rfl

/-! ## The call's proof data -/

section Region

variable (O : Dev nD → CellTallies nD τ sig (HIx 2)) (b : ℕ)
variable (P : Dev nD → S32x3x1024.Idx → F .f32) (G B Y3 Y4 : Dev nD → S1x1024.Idx → F .f32)

/-- The proof data: the three arrays read at `P`, `G`, `B`, the two written at anything before; after the body the staged inputs
    as they were and the two results at the scales and the shifts; the TensorCore owes `O` throughout, its recorded waits no higher than `b`. -/
def sbDat (c : Dev nD) : Dat τ (Elt F) (HIx 2) ℕ UU ℕ cfg1 c where
  A w := match w with
    | ⟨0, _⟩ => P c
    | ⟨1, _⟩ => G c
    | ⟨2, _⟩ => B c
    | ⟨3, _⟩ => Y3 c
    | ⟨4, _⟩ => Y4 c
  after w _ := match w with
    | ⟨0, _⟩ => P c
    | ⟨1, _⟩ => G c
    | ⟨2, _⟩ => B c
    | ⟨3, _⟩ => scaleV (P c) (G c)
    | ⟨4, _⟩ => shiftV (P c) (G c) (B c)
  Φ _ := Pipeline.scopedRest spec1 c
  q _ := fullShare
  owed _ := O c
  recorded _ := {p | (K (F := F)).lev (T c, p.1) p.2 ≤ b}

theorem blk_0 (X : S32x3x1024.Idx → F .f32) : ((cfg1.win 0).blk t1_0).view.read (Elt F) X = X :=
  funext fun y => congrArg X (funext fun a => Fin.ext (Window.rect_emb_val_of_index_zero (cfg1.win 0) t1_0 a rfl y))

theorem before_0 (c : Dev nD) (x) : (sbDat O b P G B Y3 Y4 c).before 0 t1_0 x = P c := by
  unfold Dat.before; rw [if_pos (fetch1_0 t1_0)]; exact blk_0 (P c)

theorem blk_1 (X : S1x1024.Idx → F .f32) : ((cfg1.win 1).blk t1_0).view.read (Elt F) X = X :=
  funext fun y => congrArg X (funext fun a => Fin.ext (Window.rect_emb_val_of_index_zero (cfg1.win 1) t1_0 a rfl y))
theorem blk_2 (X : S1x1024.Idx → F .f32) : ((cfg1.win 2).blk t1_0).view.read (Elt F) X = X := blk_1 X
theorem blk_3 (X : S1x1024.Idx → F .f32) : ((cfg1.win 3).blk t1_0).view.read (Elt F) X = X := blk_1 X
theorem blk_4 (X : S1x1024.Idx → F .f32) : ((cfg1.win 4).blk t1_0).view.read (Elt F) X = X := blk_1 X
theorem before_1 (c : Dev nD) (x) : (sbDat O b P G B Y3 Y4 c).before 1 t1_0 x = G c := by
  unfold Dat.before; rw [if_pos (fetch1_1 t1_0)]; exact blk_1 (G c)
theorem before_2 (c : Dev nD) (x) : (sbDat O b P G B Y3 Y4 c).before 2 t1_0 x = B c := by
  unfold Dat.before; rw [if_pos (fetch1_2 t1_0)]; exact blk_2 (B c)

theorem cov_3 (i : S1x1024.Idx) : i ∈ ((cfg1.win 3).blk t1_0).view.set := by
  have h : ((cfg1.win 3).blk t1_0).view.emb i = i := funext fun a => Fin.ext (Window.rect_emb_val_of_index_zero (cfg1.win 3) t1_0 a rfl i)
  rw [← h]; exact View.emb_mem_set _ _

theorem arr_3 (c : Dev nD) : (sbDat O b P G B Y3 Y4 c).arrAt 3 cfg1.N = scaleV (P c) (G c) :=
  Dat.arrAt_eq_of_cover _ 3 _ (fun t _ => by obtain rfl := fin_N1 t; exact (blk_3 _).symm) (fun i => ⟨t1_0, flush1_3 t1_0, cov_3 i⟩)
theorem arr_4 (c : Dev nD) : (sbDat O b P G B Y3 Y4 c).arrAt 4 cfg1.N = shiftV (P c) (G c) (B c) :=
  Dat.arrAt_eq_of_cover _ 4 _ (fun t _ => by obtain rfl := fin_N1 t; exact (blk_4 _).symm) (fun i => ⟨t1_0, flush1_4 t1_0, cov_3 i⟩)

/-- The body over the staging buffers, with what goes beside it. -/
theorem sb_stage (c : Dev nD) (A C : sProp 𝕄) :
    iprop(A ∗ C ∗ (∃ _x : S32x3x1024.Idx → F .f32, holds (T c) (stage1_0 0) (P c)) ∗ (∃ _x : S1x1024.Idx → F .f32, holds (T c) (stage1_1 0) (G c))
        ∗ (∃ _x : S1x1024.Idx → F .f32, holds (T c) (stage1_2 0) (B c)) ∗ (∃ x : S1x1024.Idx → F .f32, holds (T c) (stage1_3 0) ((sbDat O b P G B Y3 Y4 c).before 3 t1_0 x))
        ∗ (∃ x : S1x1024.Idx → F .f32, holds (T c) (stage1_4 0) ((sbDat O b P G B Y3 Y4 c).before 4 t1_0 x)))
      ⊢ wp Idealize.ShloMosaic.frame (wpE (defs₀ (F := F)) 𝒱₀ (T c) none) Set.univ
        (cc1__sb_body (stage1_0 0) (hstage1_0 0) (stage1_1 0) (hstage1_1 0) (stage1_2 0) (hstage1_2 0) (stage1_3 0) (hstage1_3 0) (stage1_4 0) (hstage1_4 0)) fun _ =>
          iprop(A ∗ C ∗ holds (T c) (stage1_0 0) (P c) ∗ holds (T c) (stage1_1 0) (G c) ∗ holds (T c) (stage1_2 0) (B c)
            ∗ holds (T c) (stage1_3 0) (scaleV (P c) (G c)) ∗ holds (T c) (stage1_4 0) (shiftV (P c) (G c) (B c))) := by
  iintro ⟨HA, HC, ⟨%d0, H0⟩, ⟨%d1, H1⟩, ⟨%d2, H2⟩, ⟨%d3, H3⟩, ⟨%d4, H4⟩⟩
  iapply (wp_wand_r Idealize.ShloMosaic.frame (wpE (defs₀ (F := F)) 𝒱₀ (T c) none) Set.univ)
  isplitl [H0 H1 H2 H3 H4]
  · iapply (sb_wp c (stage1_0 0) (hstage1_0 0) (stage1_1 0) (hstage1_1 0) (stage1_2 0) (hstage1_2 0) (stage1_3 0) (hstage1_3 0) (stage1_4 0) (hstage1_4 0) (P c) (G c) (B c))
    isplitl [H0]; · iexact H0
    isplitl [H1]; · iexact H1
    isplitl [H2]; · iexact H2
    isplitl [H3]; · iexists _; iexact H3
    iexists _; iexact H4
  iintro %_ ⟨H0, H1, H2, H3, H4⟩
  isplitl [HA]; · iexact HA
  isplitl [HC]; · iexact HC
  isplitl [H0]; · iexact H0
  isplitl [H1]; · iexact H1
  isplitl [H2]; · iexact H2
  isplitl [H3]; · iexact H3
  iexact H4

/-- The body at the call's one point, as the pipeline asks for it. -/
theorem sb_obligation (c : Dev nD) : BodyObligation (sbDat O b P G B Y3 Y4 c) (defs₀ (F := F)) 𝒱₀ (none : HIx 2) Set.univ := fun t => by
  obtain rfl := fin_N1 t
  rw [bigSep_W1, bigSep_W1]
  simp only [before_0, before_1, before_2]
  exact sb_stage O b P G B Y3 Y4 c _ _

variable (adm : (p : Fin 1) → (pcfgs (F := F) p).Adm)

def sbDats : (p : Fin 1) → (c : Dev nD) → Dat τ (Elt F) (HIx 2) ℕ UU ℕ (Pipeline.pin (pcfgs (F := F)) adm p) c
  | ⟨0, _⟩ => fun c => sbDat O b P G B Y3 Y4 c

/-- The five arrays of the call at the TensorCore's references. -/
abbrev sbArr (c : Dev nD) (P : S32x3x1024.Idx → F .f32) (G B Y3 Y4 : S1x1024.Idx → F .f32) : sProp 𝕄 :=
  iprop(((T c : Thread nD τ).loc main_v3 ↦{fullShare} P) ∗ ((T c : Thread nD τ).loc main_v4 ↦{fullShare} G) ∗ ((T c : Thread nD τ).loc main_v5 ↦{fullShare} B)
    ∗ ((T c : Thread nD τ).loc main_v6_0 ↦{fullShare} Y3) ∗ ((T c : Thread nD τ).loc main_v6_1 ↦{fullShare} Y4))

/-- The call's arrays, one by one. -/
theorem sb_arrays (c : Dev nD) (X : (w : Fin cfg1.W) → Buf (Elt F) ((cfg1.win w).arr.view.loc (T c : Thread nD τ)))
    (p : S32x3x1024.Idx → F .f32) (g b' y3 y4 : S1x1024.Idx → F .f32) (h0 : X 0 = p) (h1 : X 1 = g) (h2 : X 2 = b') (h3 : X 3 = y3) (h4 : X 4 = y4) :
    ((sbDat O b P G B Y3 Y4 c).arrays X : sProp 𝕄) ⊣⊢ sbArr c p g b' y3 y4 := by
  subst h0; subst h1; subst h2; subst h3; subst h4
  unfold Dat.arrays
  rw [bigSep_W1]
  simp only [(sbDat O b P G B Y3 Y4 c).share_full fun _ => rfl]
  have e {s : Shape} (m : Memref sig .tc .hbm s .f32) (hm : m.view.set = Finset.univ) (f : Buf (Elt F) (m.view.loc (T c : Thread nD τ))) :
      (m.view.loc (T c) ↦[m.view.set]{fullShare} f : sProp 𝕄) = (m.view.loc (T c) ↦{fullShare} f) := by rw [hm]
  have e' := congr (congrArg BIBase.sep (e (Memref.whole main_v3) (View.set_whole _) (X 0))) (congr (congrArg BIBase.sep (e (Memref.whole main_v4) (View.set_whole _) (X 1)))
    (congr (congrArg BIBase.sep (e (Memref.whole main_v5) (View.set_whole _) (X 2))) (congr (congrArg BIBase.sep (e (Memref.whole main_v6_0) (View.set_whole _) (X 3))) (e (Memref.whole main_v6_1) (View.set_whole _) (X 4)))))
  exact ⟨Entails.of_eq e', Entails.of_eq e'.symm⟩

set_option backward.isDefEq.respectTransparency.types false in
/-- The call as a step: from the arrays and what the TensorCore owes, to the arrays with the scales and the shifts written, owing the same. -/
def sbReg (hO : ∀ c g, O c g none = 0) : Pipeline.RegionSeg (pcfgs (F := F)) adm (sbDats O b P G B Y3 Y4 adm) (none : HIx 2) (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (sb_obligation O b P G B Y3 Y4 c).loose
  hwaits c := Pipeline.cellsWaits_intro _ _ _ _ _ fun w s t => (K (F := F)).mayWait_none (thr := T c) _ (hO c)
  pre c := iprop(sbArr c (P c) (G c) (B c) (Y3 c) (Y4 c) ∗ ∃ W, ⌜(K (F := F)).WBelow (T c) W b⌝ ∗ owes (T c) (O c) W)
  post c := iprop(sbArr c (P c) (G c) (B c) (scaleV (P c) (G c)) (shiftV (P c) (G c) (B c)) ∗ ∃ W, ⌜(K (F := F)).WBelow (T c) W b⌝ ∗ owes (T c) (O c) W)
  X _ := BI.emp
  Y _ := BI.emp
  Z _ := BI.emp
  hentry c := by
    rw [Pipeline.ownSems0_none]
    iintro ⟨⟨Ha, HO⟩, -, -⟩
    imodintro
    isplitl [Ha]
    · iapply (sb_arrays O b P G B Y3 Y4 c _ (P c) (G c) (B c) (Y3 c) (Y4 c) rfl rfl rfl rfl rfl).2; iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iempintro
  hin c := by
    rw [show (sbDats O b P G B Y3 Y4 adm 0 c).Φ 0 = Pipeline.scopedRest spec1 c from rfl]
    iintro ⟨-, -, Hr⟩; iexact Hr
  hout c := by
    rw [Pipeline.ownSems0_none, show (sbDats O b P G B Y3 Y4 adm 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]
    · iapply (sb_arrays O b P G B Y3 Y4 c ((sbDat O b P G B Y3 Y4 c).arrAt · cfg1.N) (P c) (G c) (B c) (scaleV (P c) (G c)) (shiftV (P c) (G c) (B c))
        ((sbDat O b P G B Y3 Y4 c).arrAt_in 0 rfl _) ((sbDat O b P G B Y3 Y4 c).arrAt_in 1 rfl _) ((sbDat O b P G B Y3 Y4 c).arrAt_in 2 rfl _)
        (arr_3 O b P G B Y3 Y4 c) (arr_4 O b P G B Y3 Y4 c)).1
      iexact Ha
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Region

end Cert.Proof.Bn

end
-- ==== Proof.Calls.lean ====
/-
  What the two SparseCore calls exchange with their tasks, and the obligations of their tasks.
-/
module

public import proofs.«01_k».proof.Proof.Tiles
public import proofs.«01_k».proof.Proof.Sb

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)

variable {F : FTy → Type} [FloatOps F]

local notation "𝕄" => MT nD τ sig (HIx 2) (Elt F) ℕ UU ℕ
local notation "EC" => (countersEmb : UEmb Counters 𝕄)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq : ∀ q, (K (F := F)).nCore q = 2
  | 0 => rfl
  | 1 => rfl

theorem nSub_eq : ∀ q, (K (F := F)).nSub q = 16
  | 0 => rfl
  | 1 => rfl

variable (X : Dev nD → S32768x1024.Idx → F .f32) (M : Dev nD → S32768.Idx → F .f32) (Sc Bi : Dev nD → S1x1024.Idx → F .f32)

/-- What a call's core is handed: what its sixteen tasks are. -/
def goC (q : Fin 2) (d : Dev nD) (c : Fin 2) : sProp 𝕄 := bigSep Finset.univ fun s : Fin 16 => goR X M Sc Bi q d c s

/-- What a call's core brings back: what its sixteen tasks do. -/
def tdC (q : Fin 2) (d : Dev nD) (c : Fin 2) : sProp 𝕄 := bigSep Finset.univ fun s : Fin 16 => tdR X M Sc Bi q d c s

instance goC_storable (q : Fin 2) (d : Dev nD) (c : Fin 2) : BI.Storable (upEmb : UEmb _ 𝕄) (goC X M Sc Bi q d c) := by unfold goC; infer_instance
instance tdC_storable (q : Fin 2) (d : Dev nD) (c : Fin 2) : BI.Storable (upEmb : UEmb _ 𝕄) (tdC X M Sc Bi q d c) := by unfold tdC; infer_instance

/-- The calls' exchanges. -/
def P : (K (F := F)).Pay (nD := nD) (Val := Elt F) (Name := ℕ) (U := UU) where
  st := fun q d c => goC X M Sc Bi q d (Fin.cast (nCore_eq q) c)
  dn := fun q d c => tdC X M Sc Bi q d (Fin.cast (nCore_eq q) c)
  go := fun q d c i => goR X M Sc Bi q d (Fin.cast (nCore_eq q) c) (Fin.cast (nSub_eq q) i)
  td := fun q d c i => tdR X M Sc Bi q d (Fin.cast (nCore_eq q) c) (Fin.cast (nSub_eq q) i)
  x := fun _ _ => iprop(emp)

instance P_storable : (P X M Sc Bi).IsStorable where
  st q d c := goC_storable X M Sc Bi q d _
  dn q d c := tdC_storable X M Sc Bi q d _
  go q d c i := goR_storable X M Sc Bi q d _ _
  td q d c i := tdR_storable X M Sc Bi q d _ _

/-- A core's tasks, counted as the call counts them. -/
theorem bigSep_tasks (q : Fin 2) (Φ : Fin 16 → sProp 𝕄) :
    (bigSep Finset.univ fun i : Fin ((K (F := F)).nSub q) => Φ (Fin.cast (nSub_eq q) i)) = bigSep Finset.univ Φ :=
  match q with
  | 0 => bigSep_congr fun _ _ => congrArg Φ (Fin.ext rfl)
  | 1 => bigSep_congr fun _ _ => congrArg Φ (Fin.ext rfl)

/-- A call's cores, counted as the call counts them. -/
theorem bigSep_cores (q : Fin 2) (Φ : Fin 2 → sProp 𝕄) :
    (bigSep Finset.univ fun c : Fin ((K (F := F)).nCore q) => Φ (Fin.cast (nCore_eq q) c)) = bigSep Finset.univ Φ :=
  match q with
  | 0 => bigSep_congr fun _ _ => congrArg Φ (Fin.ext rfl)
  | 1 => bigSep_congr fun _ _ => congrArg Φ (Fin.ext rfl)

/-- A core's exchange is its tasks'. -/
theorem vecSplit (q : Fin 2) : (K (F := F)).VecSplit' (P X M Sc Bi) q := by
  intro d c
  show goC X M Sc Bi q d (Fin.cast (nCore_eq q) c) ⊢ |={Set.univ}=> iprop(
      (bigSep Finset.univ fun i : Fin ((K (F := F)).nSub q) => goR X M Sc Bi q d (Fin.cast (nCore_eq q) c) (Fin.cast (nSub_eq q) i))
      ∗ ((bigSep Finset.univ fun i : Fin ((K (F := F)).nSub q) => tdR X M Sc Bi q d (Fin.cast (nCore_eq q) c) (Fin.cast (nSub_eq q) i))
          -∗ tdC X M Sc Bi q d (Fin.cast (nCore_eq q) c)))
  rw [bigSep_tasks q (fun s => goR X M Sc Bi q d (Fin.cast (nCore_eq q) c) s), bigSep_tasks q (fun s => tdR X M Sc Bi q d (Fin.cast (nCore_eq q) c) s)]
  unfold goC tdC
  iintro H; imodintro
  isplitl [H]; · iexact H
  iintro H; iexact H

/-! ## The tasks' obligations -/

theorem defs₀_stats (c : Fin τ.nSC) (s : Fin τ.nSub) :
    defs₀ (F := F) (.scVector c s) 0 ()
      = SparseCore.onTile hcore0 hsub0 (fun c s => cc0_stats (co0 c s) (Memref.whole main_v0_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1) ⟨⟩ c s := rfl

theorem defs₀_norm (c : Fin τ.nSC) (s : Fin τ.nSub) :
    defs₀ (F := F) (.scVector c s) 2 ()
      = SparseCore.onTile hcore2 hsub2 (fun c s => cc2_norm (co2 c s) (Memref.whole main_v0_scv) (Memref.isWhole_whole _) (Memref.whole main_v2_scv) (Memref.isWhole_whole _) (Memref.whole main_v6_0_scv) (Memref.isWhole_whole _) (Memref.whole main_v6_1_scv) (Memref.isWhole_whole _) (Memref.whole main_v7_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) cc2_scratch5 cc2_scratch6 cc2_scratch7 cc2_scratch8 cc2_scoped0 cc2_scoped1 cc2_scoped2) ⟨⟩ c s := rfl

/-- A task's waits, weakened to what its obligation asks. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The first call's tasks meet their obligation. -/
theorem tileObl0 : (K (F := F)).TileObl (D (F := F)) 𝒱 (P X M Sc Bi) v₀ 0 := by
  intro d c i O W hO _ _
  simp only [show (P X M Sc Bi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_stats]; simp only [SparseCore.onTile, hci, and_self, ↓reduceDIte]
  exact (tile0 X M facts d ⟨_, hci.1⟩ ⟨_, hci.2⟩ O W hO).trans (wp_mono Idealize.ShloMosaic.frame _ _ fun _ => obl_post)

set_option maxRecDepth 16384 in
/-- The second call's tasks meet theirs. -/
theorem tileObl1 : (K (F := F)).TileObl (D (F := F)) 𝒱 (P X M Sc Bi) v₀ 1 := by
  intro d c i O W hO _ _
  simp only [show (P X M Sc Bi).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_norm]; simp only [SparseCore.onTile, hci, and_self, ↓reduceDIte]
  exact (tile1 X M Sc Bi facts d ⟨_, hci.1⟩ ⟨_, hci.2⟩ O W hO).trans (wp_mono Idealize.ShloMosaic.frame _ _ fun _ => obl_post)

end Cert.Proof.Bn

end
-- ==== Proof.Launch.lean ====
/-
  The program's run: `@main` on each TensorCore, and the launch.
-/
module

public import proofs.«01_k».proof.Proof.Calls

@[expose] public section

noncomputable section

namespace Cert.Proof.Bn

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Transfers (Flight MayWaits)
open Idealize.ShloMosaic.StableHlo (held wp_hlo_within)

variable {F : FTy → Type} [FloatOps F]

local notation "𝕄" => MT nD τ sig (HIx 2) (Elt F) ℕ UU ℕ
local notation "EC" => (countersEmb : UEmb Counters 𝕄)

abbrev EH : Emb UH (MT nD τ sig (HIx 2) (Elt F) ℕ UU ℕ) := embL
abbrev EP : Emb UP (MT nD τ sig (HIx 2) (Elt F) ℕ UU ℕ) := (Emb.inl : Emb UP (UP × Counters)).trans embR
abbrev adm : (p : Fin 1) → (pcfgs (F := F) p).Adm := fun p => (cfgs p).toPCfg_adm

/-! ## The result as a function of the arguments -/

/-- The tokens' rows, one after the other. -/
def rowsV (a : S4x8192x1024.Idx → F .f32) : S32768x1024.Idx → F .f32 := shapeCast S32768x1024 a shapeCasts_S4x8192x1024_S32768x1024
/-- The tokens' mask, as floats. -/
def maskV (a : S4x8192.Idx → BitVec 1) : S32768.Idx → F .f32 := uitofp .f32 (shapeCast S32768 a shapeCasts_S4x8192_S32768)
/-- A parameter as one row. -/
def parV (a : S1024.Idx → F .f32) : S1x1024.Idx → F .f32 := shapeCast S1x1024 a shapeCasts_S1024_S1x1024
/-- The program's result. -/
def outV (a0 : S4x8192x1024.Idx → F .f32) (a1 : S4x8192.Idx → BitVec 1) (a2 a3 : S1024.Idx → F .f32) : S4x8192x1024.Idx → F .f32 :=
  shapeCast S4x8192x1024 (normV (maskV a1) (rowsV a0) (scaleV (sumsV (maskV a1) (rowsV a0)) (parV a2)) (shiftV (sumsV (maskV a1) (rowsV a0)) (parV a2) (parV a3)))
    shapeCasts_S32768x1024_S4x8192x1024

/-! ## What the calls take and give back, whole -/

section Exchange

variable (X : Dev nD → S32768x1024.Idx → F .f32) (M : Dev nD → S32768.Idx → F .f32) (Sc Bi : Dev nD → S1x1024.Idx → F .f32)

/-- The rows, the mask and the array of sums are what the first call takes. -/
theorem give0 (d : Dev nD) (f : S32x3x1024.Idx → F .f32) :
    iprop(((T d : Thread nD τ).loc main_v0 ↦{fullShare} X d : sProp 𝕄) ∗ ((T d : Thread nD τ).loc main_v2 ↦{fullShare} M d) ∗ ((T d : Thread nD τ).loc main_v3 ↦{fullShare} f))
      ⊢ bigSep Finset.univ fun c : Fin ((K (F := F)).nCore 0) => (P X M Sc Bi).st 0 d c := by
  rw [show (bigSep Finset.univ fun c : Fin ((K (F := F)).nCore 0) => (P X M Sc Bi).st 0 d c) = bigSep Finset.univ fun c : Fin 2 => bigSep Finset.univ fun s : Fin 16 => go0 X M d c s from
    bigSep_cores 0 fun c => goC X M Sc Bi 0 d c]
  unfold go0
  simp only [bigSep_sep']
  rw [← deal, ← deal]
  exact sep_mono_right (sep_mono_right (sums_out d f))

/-- What the first call gives back: the rows, the mask, and the sums. -/
theorem back0 (d : Dev nD) :
    (bigSep Finset.univ fun c : Fin ((K (F := F)).nCore 0) => (P X M Sc Bi).dn 0 d c)
      ⊢ iprop(((T d : Thread nD τ).loc main_v0 ↦{fullShare} X d : sProp 𝕄) ∗ ((T d : Thread nD τ).loc main_v2 ↦{fullShare} M d)
          ∗ ((T d : Thread nD τ).loc main_v3 ↦{fullShare} sumsV (M d) (X d))) := by
  rw [show (bigSep Finset.univ fun c : Fin ((K (F := F)).nCore 0) => (P X M Sc Bi).dn 0 d c) = bigSep Finset.univ fun c : Fin 2 => bigSep Finset.univ fun s : Fin 16 => td0 X M d c s from
    bigSep_cores 0 fun c => tdC X M Sc Bi 0 d c]
  unfold td0
  simp only [bigSep_sep']
  rw [← deal, ← deal]
  exact sep_mono_right (sep_mono_right (sums_back d (M d) (X d)))

/-- The rows, the mask, the scale, the shift and the result's array are what the second call takes. -/
theorem give1 (d : Dev nD) (f : S32768x1024.Idx → F .f32) :
    iprop(((T d : Thread nD τ).loc main_v0 ↦{fullShare} X d : sProp 𝕄) ∗ ((T d : Thread nD τ).loc main_v2 ↦{fullShare} M d)
        ∗ ((T d : Thread nD τ).loc main_v6_0 ↦{fullShare} Sc d) ∗ ((T d : Thread nD τ).loc main_v6_1 ↦{fullShare} Bi d) ∗ ((T d : Thread nD τ).loc main_v7 ↦{fullShare} f))
      ⊢ bigSep Finset.univ fun c : Fin ((K (F := F)).nCore 1) => (P X M Sc Bi).st 1 d c := by
  rw [show (bigSep Finset.univ fun c : Fin ((K (F := F)).nCore 1) => (P X M Sc Bi).st 1 d c) = bigSep Finset.univ fun c : Fin 2 => bigSep Finset.univ fun s : Fin 16 => go1 X M Sc Bi d c s from
    bigSep_cores 1 fun c => goC X M Sc Bi 1 d c]
  unfold go1
  simp only [bigSep_sep']
  rw [← deal, ← deal, ← deal, ← deal]
  exact sep_mono_right (sep_mono_right (sep_mono_right (sep_mono_right (norm_out d f))))

/-- What the second call gives back: what it took, the result normalised. -/
theorem back1 (d : Dev nD) :
    (bigSep Finset.univ fun c : Fin ((K (F := F)).nCore 1) => (P X M Sc Bi).dn 1 d c)
      ⊢ iprop(((T d : Thread nD τ).loc main_v0 ↦{fullShare} X d : sProp 𝕄) ∗ ((T d : Thread nD τ).loc main_v2 ↦{fullShare} M d)
          ∗ ((T d : Thread nD τ).loc main_v6_0 ↦{fullShare} Sc d) ∗ ((T d : Thread nD τ).loc main_v6_1 ↦{fullShare} Bi d)
          ∗ ((T d : Thread nD τ).loc main_v7 ↦{fullShare} normV (M d) (X d) (Sc d) (Bi d))) := by
  rw [show (bigSep Finset.univ fun c : Fin ((K (F := F)).nCore 1) => (P X M Sc Bi).dn 1 d c) = bigSep Finset.univ fun c : Fin 2 => bigSep Finset.univ fun s : Fin 16 => td1 X M Sc Bi d c s from
    bigSep_cores 1 fun c => tdC X M Sc Bi 1 d c]
  unfold td1
  simp only [bigSep_sep']
  rw [← deal, ← deal, ← deal, ← deal]
  exact sep_mono_right (sep_mono_right (sep_mono_right (sep_mono_right (norm_back d (M d) (X d) (Sc d) (Bi d)))))

end Exchange

/-! ## The TensorCore call -/

theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The TensorCore call, as the pipelines' table names it. -/
theorem lift_entry : (Prog.lift (.customCall (SparseCore.inner (Pipeline.entry 0)) ()) : Prog (TpuEff nD τ sig (Elt F) (SparseCore.Sig (ΛP (F := F)) 2) .tc) PUnit)
    = SparseCore.liftProg (.op (.customCall (Pipeline.entry 0) ()) .ret) := rfl

/-- What the TensorCore owes between the two SparseCore calls. -/
abbrev owes1 (d : Dev nD) : sProp 𝕄 := iprop(∃ W, ⌜(K (F := F)).WBelow (T d) W (8 * 1)⌝ ∗ owes (T d) ((K (F := F)).Otc d 1) W)

/-- The TensorCore call's step, over what it owes. -/
theorem region_step [∀ e, Nonempty (Elt F e)] (d : Dev nD) (p : S32x3x1024.Idx → F .f32) (g b y3 y4 : S1x1024.Idx → F .f32) (Φ : PUnit → sProp 𝕄) :
    iprop(((boundary (T d) ∗ sbArr d p g b (scaleV p g) (shiftV p g b) ∗ owes1 d)
          -∗ wp Idealize.ShloMosaic.frame (wpE (D (F := F)) 𝒱 (T d) none) Set.univ (.ret ⟨⟩) Φ)
        ∗ boundary (T d) ∗ (sbArr d p g b y3 y4 ∗ owes1 d) ∗ levAts (K (F := F)).L (K (F := F)).lev
        ∗ Pipeline.cellsGhost cfgs (EP (F := F)) 0 d ∗ Pipeline.toksInit cfgs (EP (F := F)) 0 d)
      ⊢ wp Idealize.ShloMosaic.frame (wpE ((K (F := F)).defs (D (F := F))) 𝒱 (T d) none) Set.univ (Prog.lift (.customCall (SparseCore.inner (Pipeline.entry 0)) ())) Φ := by
  rw [lift_entry]
  exact BI.Entails.trans (Pipeline.RegionSeg.wp (pcfgs (F := F)) adm
    (sbDats (fun d => (K (F := F)).Otc d 1) (8 * 1) (fun _ => p) (fun _ => g) (fun _ => b) (fun _ => y3) (fun _ => y4) adm)
    (none : HIx 2) cellOf_inj (EP (F := F)) (defs₀ (F := F)) 𝒱₀ (K (F := F)).L (K (F := F)).lev
    (sbReg (fun d => (K (F := F)).Otc d 1) (8 * 1) (fun _ => p) (fun _ => g) (fun _ => b) (fun _ => y3) (fun _ => y4) adm fun c g' => Otc_none c 1 g')
    d none (fun _ h => nomatch h) .ret Φ) ((K (F := F)).wp_liftProg (D (F := F)) 𝒱 (T d) Set.univ none _ Φ)

/-- The TensorCore call as a step of `@main`, between the two SparseCore calls. -/
theorem region_wp [∀ e, Nonempty (Elt F e)] (d : Dev nD) (p : S32x3x1024.Idx → F .f32) (g b y3 y4 : S1x1024.Idx → F .f32) (Φ : PUnit → sProp 𝕄) :
    iprop(levAts (K (F := F)).L (K (F := F)).lev ∗ (K (F := F)).tcSt EH d 1 ∗ boundary (T d) ∗ sbArr d p g b y3 y4
        ∗ Pipeline.cellsGhost cfgs (EP (F := F)) 0 d ∗ Pipeline.toksInit cfgs (EP (F := F)) 0 d
        ∗ (((K (F := F)).tcSt EH d 1 ∗ boundary (T d) ∗ sbArr d p g b (scaleV p g) (shiftV p g b)) -∗ Φ ⟨⟩))
      ⊢ wp Idealize.ShloMosaic.frame (wpE ((K (F := F)).defs (D (F := F))) 𝒱 (T d) none) Set.univ (Prog.lift (.customCall (SparseCore.inner (Pipeline.entry 0)) ())) Φ := by
  unfold SparseCore.Cfg.tcSt
  iintro ⟨#Hlv, ⟨HO, Hst⟩, Hb, Harr, Hg, Ht, Hk⟩
  iapply (region_step d p g b y3 y4 Φ)
  isplitl [Hst Hk]
  · iintro ⟨Hb, Harr, HO⟩
    rw [wp_ret]
    imodintro
    iapply Hk
    isplitl [HO Hst]
    · isplitl [HO]; · iexact HO
      iexact Hst
    isplitl [Hb]; · iexact Hb
    iexact Harr
  isplitl [Hb]; · iexact Hb
  isplitl [Harr HO]
  · isplitl [Harr]; · iexact Harr
    iexact HO
  isplitr; · iexact Hlv
  isplitl [Hg]; · iexact Hg
  iexact Ht

/-! ## The host operations -/

/-- A host operation of one operand: its result is written, its operand stays. -/
theorem wp_one (d : Dev nD) (V₀ : Valuation τ sig (Elt F)) {op : HloOp τ sig (Elt F)} {x y : Ref sig .tc} (hxy : x ≠ y)
    (hb : op.bufs = {Proc.devRef .tc x, Proc.devRef .tc y}) (hw : op.writes = {Proc.devRef .tc y}) (hf : op.fresh = ∅)
    (f : Buf (Elt F) ((T d : Thread nD τ).loc x)) (g R : Buf (Elt F) ((T d : Thread nD τ).loc y))
    (hR : ∀ V : Valuation τ sig (Elt F), V (Proc.devRef .tc x) = f → op.result V (Proc.devRef .tc y) = R) (Φ : PUnit → sProp 𝕄) :
    iprop(boundary (T d) ∗ ((T d : Thread nD τ).loc x ↦{fullShare} f) ∗ ((T d : Thread nD τ).loc y ↦{fullShare} g)
        ∗ ((boundary (T d) ∗ ((T d : Thread nD τ).loc x ↦{fullShare} f) ∗ ((T d : Thread nD τ).loc y ↦{fullShare} R)) -∗ Φ ⟨⟩))
      ⊢ wp Idealize.ShloMosaic.frame (wpE ((K (F := F)).defs (D (F := F))) 𝒱 (T d) none) Set.univ (hlo rfl op fun _ => .ret ⟨⟩) Φ := by
  have hne : (Proc.devRef .tc x : DevRef τ sig) ≠ Proc.devRef .tc y := StableHlo.devRef_ne_of_ne hxy
  have hV (W : Valuation τ sig (Elt F)) : (held (T d) {Proc.devRef .tc x, Proc.devRef .tc y} W : sProp 𝕄)
      = iprop(((T d : Thread nD τ).loc x ↦{fullShare} W (Proc.devRef .tc x)) ∗ ((T d : Thread nD τ).loc y ↦{fullShare} W (Proc.devRef .tc y))) := by
    unfold held
    rw [SparseCore.bigSep_insert' (by rw [Finset.mem_singleton]; exact hne), bigSep_singleton]
  have e1 : Function.update (Function.update V₀ (Proc.devRef .tc x) f) (Proc.devRef .tc y) g (Proc.devRef .tc x) = f := by
    rw [Function.update_of_ne hne, Function.update_self]
  have e2 : Function.update (Function.update V₀ (Proc.devRef .tc x) f) (Proc.devRef .tc y) g (Proc.devRef .tc y) = g := Function.update_self _ _ _
  have e3 : op.result (Function.update (Function.update V₀ (Proc.devRef .tc x) f) (Proc.devRef .tc y) g) (Proc.devRef .tc x) = f := by
    rw [op.result_of_not_mem _ (b := Proc.devRef .tc x) (by rw [hw, Finset.mem_singleton]; exact hne), e1]
  iintro ⟨Hb, Hx, Hy, Hk⟩
  iapply (wp_hlo_within 𝒱 (T d) none Set.univ (op := op) (S := {Proc.devRef .tc x, Proc.devRef .tc y}) (by rw [hb])
    (V := Function.update (Function.update V₀ (Proc.devRef .tc x) f) (Proc.devRef .tc y) g) (hf := hf)) $$ [Hb Hx Hy]
  · isplitl [Hb]; · iexact Hb
    rw [hV, e1, e2]
    isplitl [Hx]; · iexact Hx
    iexact Hy
  rw [hV, e3, hR _ e1]
  iintro ⟨Hb, Hx, Hy⟩
  rw [wp_ret]
  imodintro
  iapply Hk
  isplitl [Hb]; · iexact Hb
  isplitl [Hx]; · iexact Hx
  iexact Hy

/-! ## `@main` on the TensorCore -/

variable (m : (ℓ : Loc nD τ sig) → Buf (Elt F) ℓ) (ρ : Dev nD → PrngReg)

abbrev gX (d : Dev nD) : S32768x1024.Idx → F .f32 := rowsV (m ((T d : Thread nD τ).loc main_arg0))
abbrev gM (d : Dev nD) : S32768.Idx → F .f32 := maskV (m ((T d : Thread nD τ).loc main_arg1))
abbrev gG (d : Dev nD) : S1x1024.Idx → F .f32 := parV (m ((T d : Thread nD τ).loc main_arg2))
abbrev gB (d : Dev nD) : S1x1024.Idx → F .f32 := parV (m ((T d : Thread nD τ).loc main_arg3))
abbrev gS (d : Dev nD) : S1x1024.Idx → F .f32 := scaleV (sumsV (gM m d) (gX m d)) (gG m d)
abbrev gT (d : Dev nD) : S1x1024.Idx → F .f32 := shiftV (sumsV (gM m d) (gX m d)) (gG m d) (gB m d)
/-- The program's result on device `d`. -/
abbrev gO (d : Dev nD) : S4x8192x1024.Idx → F .f32 :=
  outV (m ((T d : Thread nD τ).loc main_arg0)) (m ((T d : Thread nD τ).loc main_arg1)) (m ((T d : Thread nD τ).loc main_arg2)) (m ((T d : Thread nD τ).loc main_arg3))
abbrev PP : (K (F := F)).Pay (nD := nD) (Val := Elt F) (Name := ℕ) (U := UU) := P (gX m) (gM m) (gS m) (gT m)

theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1) ∗ ((T d : Thread nD τ).loc main_arg2 ↦{fullShare} W main_arg2) ∗ ((T d : Thread nD τ).loc main_arg3 ↦{fullShare} W main_arg3) ∗ ((T d : Thread nD τ).loc main_v0 ↦{fullShare} W main_v0) ∗ ((T d : Thread nD τ).loc main_v1 ↦{fullShare} W main_v1) ∗ ((T d : Thread nD τ).loc main_v2 ↦{fullShare} W main_v2) ∗ ((T d : Thread nD τ).loc main_v3 ↦{fullShare} W main_v3) ∗ ((T d : Thread nD τ).loc main_v4 ↦{fullShare} W main_v4) ∗ ((T d : Thread nD τ).loc main_v5 ↦{fullShare} W main_v5) ∗ ((T d : Thread nD τ).loc main_v6_0 ↦{fullShare} W main_v6_0) ∗ ((T d : Thread nD τ).loc main_v6_1 ↦{fullShare} W main_v6_1) ∗ ((T d : Thread nD τ).loc main_v7 ↦{fullShare} W main_v7) ∗ ((T d : Thread nD τ).loc main_v8 ↦{fullShare} W main_v8)) := by
  unfold unscopedBufs
  rw [show (Finset.univ.filter fun b : Ref sig .tc => ¬ b.isScoped) = {main_arg0, main_arg1, main_arg2, main_arg3, main_v0, main_v1, main_v2, main_v3, main_v4, main_v5, main_v6_0, main_v6_1, main_v7, main_v8} by decide]
  repeat rw [SparseCore.bigSep_insert' (by decide)]
  rw [bigSep_singleton]

/-- What the launch's ghost state gives `@main` on a device: the TensorCore call's. -/
def Gd (d : Dev nD) : sProp 𝕄 := iprop(Pipeline.cellsGhost cfgs (EP (F := F)) 0 d ∗ Pipeline.toksInit cfgs (EP (F := F)) 0 d)

/-- What `@main` leaves the claims: the arguments as they were, the result. -/
abbrev FIN (d : Dev nD) : sProp 𝕄 :=
  iprop(((T d : Thread nD τ).loc main_arg0 ↦{fullShare} m ((T d : Thread nD τ).loc main_arg0)) ∗ ((T d : Thread nD τ).loc main_arg1 ↦{fullShare} m ((T d : Thread nD τ).loc main_arg1))
    ∗ ((T d : Thread nD τ).loc main_arg2 ↦{fullShare} m ((T d : Thread nD τ).loc main_arg2)) ∗ ((T d : Thread nD τ).loc main_arg3 ↦{fullShare} m ((T d : Thread nD τ).loc main_arg3))
    ∗ ((T d : Thread nD τ).loc main_v8 ↦{fullShare} gO m d))

set_option maxRecDepth 8192 in
/-- `@main` on device `d`'s TensorCore. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ Gd d)
      ⊢ wp Idealize.ShloMosaic.frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd Gd
  rw [unscopedBufs_eq]
  simp only [main, wp_bind, wp_pure]
  iintro ⟨#Hctx, Hst, ⟨Hb, ⟨Ha0, Ha1, Ha2, Ha3, Hv0, Hv1, Hv2, Hv3, Hv4, Hv5, Hv60, Hv61, Hv7, Hv8⟩, Hts, -⟩, Hg, Ht⟩
  ihave #Hlv := ((K (F := F)).ctx_levAts (EH := EH) (P := PP m) κ) $$ Hctx
  iapply (wp_one d (fun b => m (d, b)) (x := main_arg0) (y := main_v0) (by decide) rfl rfl rfl _ _ (gX m d) (fun V h => by rw [StableHlo.reshape_result', h]; rfl) _)
  isplitl [Hb]; · iexact Hb
  isplitl [Ha0]; · iexact Ha0
  isplitl [Hv0]; · iexact Hv0
  iintro ⟨Hb, Ha0, Hv0⟩
  iapply (wp_one d (fun b => m (d, b)) (x := main_arg1) (y := main_v1) (by decide) rfl rfl rfl _ _ (shapeCast S32768 (m ((T d : Thread nD τ).loc main_arg1)) shapeCasts_S4x8192_S32768) (fun V h => by rw [StableHlo.reshape_result', h]; rfl) _)
  isplitl [Hb]; · iexact Hb
  isplitl [Ha1]; · iexact Ha1
  isplitl [Hv1]; · iexact Hv1
  iintro ⟨Hb, Ha1, Hv1⟩
  iapply (wp_one d (fun b => m (d, b)) (x := main_v1) (y := main_v2) (by decide) rfl rfl rfl _ _ (gM m d) (fun V h => by rw [StableHlo.unary_result', h]; rfl) _)
  isplitl [Hb]; · iexact Hb
  isplitl [Hv1]; · iexact Hv1
  isplitl [Hv2]; · iexact Hv2
  iintro ⟨Hb, Hv1, Hv2⟩
  iapply ((K (F := F)).wp_run (D (F := F)) 𝒱 (EH := EH) (P := PP m) κ d 0)
  isplitr; · iexact Hctx
  isplitl [Hst]; · iexact Hst
  isplitl [Hv0 Hv2 Hv3]
  · iapply (give0 (gX m) (gM m) (gS m) (gT m) d _)
    isplitl [Hv0]; · iexact Hv0
    isplitl [Hv2]; · iexact Hv2
    iexact Hv3
  iintro ⟨Hst, Hdn⟩
  ihave Hdn' := (back0 (gX m) (gM m) (gS m) (gT m) d) $$ Hdn
  icases Hdn' with ⟨Hv0, Hv2, Hv3⟩
  iapply (wp_one d (fun b => m (d, b)) (x := main_arg2) (y := main_v4) (by decide) rfl rfl rfl _ _ (gG m d) (fun V h => by rw [StableHlo.reshape_result', h]; rfl) _)
  isplitl [Hb]; · iexact Hb
  isplitl [Ha2]; · iexact Ha2
  isplitl [Hv4]; · iexact Hv4
  iintro ⟨Hb, Ha2, Hv4⟩
  iapply (wp_one d (fun b => m (d, b)) (x := main_arg3) (y := main_v5) (by decide) rfl rfl rfl _ _ (gB m d) (fun V h => by rw [StableHlo.reshape_result', h]; rfl) _)
  isplitl [Hb]; · iexact Hb
  isplitl [Ha3]; · iexact Ha3
  isplitl [Hv5]; · iexact Hv5
  iintro ⟨Hb, Ha3, Hv5⟩
  iapply (region_wp d (sumsV (gM m d) (gX m d)) (gG m d) (gB m d) _ _ _)
  isplitr; · iexact Hlv
  isplitl [Hst]; · iexact Hst
  isplitl [Hb]; · iexact Hb
  isplitl [Hv3 Hv4 Hv5 Hv60 Hv61]
  · unfold sbArr
    isplitl [Hv3]; · iexact Hv3
    isplitl [Hv4]; · iexact Hv4
    isplitl [Hv5]; · iexact Hv5
    isplitl [Hv60]; · iexact Hv60
    iexact Hv61
  isplitl [Hg]; · iexact Hg
  isplitl [Ht]; · iexact Ht
  unfold sbArr
  iintro ⟨Hst, Hb, Hv3, Hv4, Hv5, Hv60, Hv61⟩
  iapply ((K (F := F)).wp_run (D (F := F)) 𝒱 (EH := EH) (P := PP m) κ d 1)
  isplitr; · iexact Hctx
  isplitl [Hst]; · iexact Hst
  isplitl [Hv0 Hv2 Hv60 Hv61 Hv7]
  · iapply (give1 (gX m) (gM m) (gS m) (gT m) d _)
    isplitl [Hv0]; · iexact Hv0
    isplitl [Hv2]; · iexact Hv2
    isplitl [Hv60]; · iexact Hv60
    isplitl [Hv61]; · iexact Hv61
    iexact Hv7
  iintro ⟨Hst, Hdn⟩
  ihave Hdn' := (back1 (gX m) (gM m) (gS m) (gT m) d) $$ Hdn
  icases Hdn' with ⟨Hv0, Hv2, Hv60, Hv61, Hv7⟩
  iapply (wp_one d (fun b => m (d, b)) (x := main_v7) (y := main_v8) (by decide) rfl rfl rfl _ _ (gO m d) (fun V h => by rw [StableHlo.reshape_result', h]; rfl) _)
  isplitl [Hb]; · iexact Hb
  isplitl [Hv7]; · iexact Hv7
  isplitl [Hv8]; · iexact Hv8
  iintro ⟨Hb, Hv7, Hv8⟩
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    iexact Hv8
  isplitl [Hb] <;> iassumption

/-! ## The launch -/

/-- The launch's element of the ghost state. -/
def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => Gd d)
        ∗ bigSep Finset.univ fun thr : Thread nD τ => bigSep Finset.univ fun q : Fin 2 => (PP m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave HR' := (own_pair_emb (embR : Emb (UP × Counters) 𝕄) (initOf (Pipeline.cells cfgs cellOf_inj) (Pipeline.launchToks cfgs cellOf_inj)) (1 : Counters)) $$ HR
  icases HR' with ⟨HP, -⟩
  ihave HF := (Pipeline.fund_ghost (Ix := HIx 2) (Val := Elt F) (Name := ℕ) (Lvl := ℕ) cfgs (EP (F := F)) cellOf_inj) $$ HP
  imod HF with ⟨Hg, Ht⟩
  imodintro
  isplitl [HH]; · iexact HH
  isplitl [Hg Ht]
  · iapply (Entails.of_eq (show iprop((bigSep Finset.univ fun c : Dev nD => bigSep Finset.univ fun p : Fin 1 => (Pipeline.cellsGhost cfgs (EP (F := F)) p c : sProp 𝕄))
        ∗ (bigSep Finset.univ fun c : Dev nD => bigSep Finset.univ fun p : Fin 1 => (Pipeline.toksInit cfgs (EP (F := F)) p c : sProp 𝕄))) = bigSep Finset.univ fun d : Dev nD => Gd d from by
      unfold Gd
      rw [bigSep_sep']
      congr 1 <;> exact bigSep_congr fun _ _ => bigSep_univ_of_subsingleton (0 : Fin 1)))
    isplitl [Hg]; · iexact Hg
    iexact Ht
  rw [show (bigSep Finset.univ fun thr : Thread nD τ => bigSep Finset.univ fun q : Fin 2 => (PP m).x q thr) = (iprop(emp) : sProp 𝕄) from
    (bigSep_congr fun _ _ => bigSep_emp_const _).trans (bigSep_emp_const _)]
  iempintro

/-- What the end of the run says of the memory, on device `d`. -/
def fq (d : Dev nD) (s' : Phys nD τ sig (Elt F)) : Prop :=
  s'.mem.mem ((T d : Thread nD τ).loc main_arg0) = m ((T d : Thread nD τ).loc main_arg0) ∧ s'.mem.mem ((T d : Thread nD τ).loc main_arg1) = m ((T d : Thread nD τ).loc main_arg1)
    ∧ s'.mem.mem ((T d : Thread nD τ).loc main_arg2) = m ((T d : Thread nD τ).loc main_arg2) ∧ s'.mem.mem ((T d : Thread nD τ).loc main_arg3) = m ((T d : Thread nD τ).loc main_arg3)
    ∧ s'.mem.mem ((T d : Thread nD τ).loc main_v8) = gO m d

/-- A buffer held whole reads as held. -/
theorem agree (s' : Phys nD τ sig (Elt F)) (ℓ : Loc nD τ sig) (f : Buf (Elt F) ℓ) :
    iprop(SI s' ∗ (ℓ ↦{fullShare} f : sProp 𝕄)) ⊢ iprop(⌜s'.mem.mem ℓ = f⌝ ∗ SI s' ∗ (ℓ ↦{fullShare} f)) := by
  iintro H
  ihave H := (persistent_entails_right (SI_pointsTo_agree (st := s') (ℓ := ℓ) (I := Finset.univ) (q := fullShare) (f := f))) $$ H
  icases H with ⟨%h, HS, Hf⟩
  isplitr; · ipureintro; exact funext fun i => h i (Finset.mem_univ i)
  isplitl [HS]; · iexact HS
  iexact Hf

theorem hfin (d : Dev nD) (s' : Phys nD τ sig (Elt F)) : iprop(FIN m d ∗ SI s') ⊢ (⌜fq m d s'⌝ : sProp 𝕄) := by
  iintro ⟨⟨H0, H1, H2, H3, H8⟩, HS⟩
  ihave HA := (agree s' _ _) $$ [HS H0]
  · isplitl [HS]; · iexact HS
    iexact H0
  icases HA with ⟨%h0, HS, -⟩
  ihave HA := (agree s' _ _) $$ [HS H1]
  · isplitl [HS]; · iexact HS
    iexact H1
  icases HA with ⟨%h1, HS, -⟩
  ihave HA := (agree s' _ _) $$ [HS H2]
  · isplitl [HS]; · iexact HS
    iexact H2
  icases HA with ⟨%h2, HS, -⟩
  ihave HA := (agree s' _ _) $$ [HS H3]
  · isplitl [HS]; · iexact HS
    iexact H3
  icases HA with ⟨%h3, HS, -⟩
  ihave HA := (agree s' _ _) $$ [HS H8]
  · isplitl [HS]; · iexact HS
    iexact H8
  icases HA with ⟨%h4, HS, -⟩
  ipureintro; exact ⟨h0, h1, h2, h3, h4⟩

/-- What a run of the program ends in: the arguments as they were and the result, on every device, every counter at zero. -/
def QC : PUnit × MemSt nD τ sig (Elt F) → Prop := fun r =>
  (∀ d : Dev nD, r.2.mem ((T d : Thread nD τ).loc main_arg0) = m ((T d : Thread nD τ).loc main_arg0) ∧ r.2.mem ((T d : Thread nD τ).loc main_arg1) = m ((T d : Thread nD τ).loc main_arg1)
    ∧ r.2.mem ((T d : Thread nD τ).loc main_arg2) = m ((T d : Thread nD τ).loc main_arg2) ∧ r.2.mem ((T d : Thread nD τ).loc main_arg3) = m ((T d : Thread nD τ).loc main_arg3)
    ∧ r.2.mem ((T d : Thread nD τ).loc main_v8) = gO m d) ∧ r.2.sem = fun _ => 0

/-- The program runs. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 _ _ _ _ | 1 => tileObl1 _ _ _ _)
    (fun q _ => SparseCore.Cfg.VecSplit.of_plain (vecSplit _ _ _ _ q))
    m ρ main (fun d => Gd d) (FIN m) (u₀ (F := F)) (sep_elim_left.trans (hu₀ m)) (hmain m ρ) (fq m) (hfin m) (QC m) (fun _ h hz => ⟨h, hz⟩)

end Cert.Proof.Bn

end
-- ==== Proof.Frames.lean ====
/-
  The frames: each program runs to its end, leaves its arguments as they were, and leaves every semaphore at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof.Bn

open Idealize.ShloMosaic Idealize.SL.Sem

/-- The two printings of the kernel have the same kernels under the same labels. -/
theorem defs₀_eq : Cert.Kernel.defs₀ (F := Bits) = Cert.KernelIdeal.defs₀ (F := Bits) := by
  funext p l a
  fin_cases l <;> cases p <;> rfl

/-- So they have the same body table. -/
theorem defs_eq : Cert.Kernel.defs (F := Bits) = Cert.KernelIdeal.defs (F := Bits) :=
  congrArg (fun D => Cert.KernelIdeal.sc.defs (Pipeline.defs Cert.KernelIdeal.pcfgs D)) defs₀_eq

/-- The kernel, on its float words: the run `run_main` read at the arguments and the semaphores. -/
theorem frame_kernel : Cert.quiescent_Kernel := by
  intro m ρ _
  rw [defs_eq]
  exact (θ_run Cert.KernelIdeal.defs _ _).mono
    (fun _ h => ⟨fun c => ⟨(h.1 c).1, (h.1 c).2.1, (h.1 c).2.2.1, (h.1 c).2.2.2.1⟩, h.2⟩) (run_main (F := Bits) m ρ)

/-- The idealized kernel: the same run over the extended reals. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (run_main (F := Ideal) m ρ)

/-- The idealized reference: host operations only, and no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Bn

end
-- ==== Proof.Sums.lean ====
/-
  The kernel's sums over the extended reals: what the tasks' running sums come to when the rows and the mask are real.
-/
module

public import proofs.«01_k».proof.Proof.Launch
public import Idealize.ShloMosaic.Lib.IdealHost

@[expose] public section

noncomputable section

namespace Cert.Proof.Bn

open Cert.KernelIdeal Cert.KernelIdeal.Gen
open Idealize.ShloMosaic Idealize.ShloMosaic.ValueIdx

/-! ## Sums of reals -/

/-- A finite sum of reals, read as extended reals, is the sum of what each is read as. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum taken block by block is the sum over all. -/
theorem sum_blocks {A : Type} [AddCommMonoid A] (b : ℕ) (f : ℕ → A) :
    ∀ a, ∑ w ∈ Finset.range a, ∑ t ∈ Finset.range b, f (b * w + t) = ∑ n ∈ Finset.range (b * a), f n
  | 0 => by simp
  | a + 1 => by rw [Finset.sum_range_succ, sum_blocks b f a, Nat.mul_succ, Finset.sum_range_add]

/-- The same over finite index types. -/
theorem sum_blocks_fin {A : Type} [AddCommMonoid A] (a b : ℕ) (f : ℕ → A) :
    ∑ w : Fin a, ∑ t : Fin b, f (b * w.val + t.val) = ∑ n ∈ Finset.range (b * a), f n := by
  rw [← sum_blocks b f a, Finset.sum_range]
  exact Finset.sum_congr rfl fun w _ => (Finset.sum_range (fun t => f (b * w.val + t))).symm

/-! ## The mask's test, and zero -/

theorem ofBits_zero : Ideal.ofBits .f32 0x00000000#32 = ((0 : ℝ) : EReal) := by simp [Ideal.ofBits, Ideal.ieee]

/-- A mask value of one is taken as set. -/
theorem hit_one : hit (F := Ideal) (((1 : ℝ) : EReal) : Ideal .f32) := by
  have e : (Scalar.cmpf (F := Ideal) (φ := .f32) .ogt ((1 : ℝ) : EReal) (Scalar.ofBits .f32 0x00000000#32)) = 1#1 := by
    show Ideal.cmp .ogt ((1 : ℝ) : EReal) (Ideal.ofBits .f32 0x00000000#32) = 1#1
    rw [ofBits_zero]
    have : ((0 : ℝ) : EReal) < ((1 : ℝ) : EReal) := EReal.coe_lt_coe_iff.mpr one_pos
    simp only [Ideal.cmp, decide_eq_true this]
    rfl
  unfold hit
  rw [e]
  decide

/-- A mask value of zero is not. -/
theorem not_hit_zero : ¬ hit (F := Ideal) (((0 : ℝ) : EReal) : Ideal .f32) := by
  have e : (Scalar.cmpf (F := Ideal) (φ := .f32) .ogt ((0 : ℝ) : EReal) (Scalar.ofBits .f32 0x00000000#32)) = 0#1 := by
    show Ideal.cmp .ogt ((0 : ℝ) : EReal) (Ideal.ofBits .f32 0x00000000#32) = 0#1
    rw [ofBits_zero]
    simp [Ideal.cmp]
  unfold hit
  rw [e]
  decide

/-! ## The running sums -/

section Acc

variable (Mv : ℕ → Ideal .f32) (Xs : ℕ → Fin 1024 → Ideal .f32) (μ : ℕ → ℝ) (ξ : ℕ → Fin 1024 → ℝ)
  (A : S3x1024.Idx → Ideal .f32)

theorem addRow_row0 (x : Fin 1024 → Ideal .f32) (B : S3x1024.Idx → Ideal .f32) (l : Fin 1024) :
    addRow 64 x B (ix2 0 l) = (B (ix2 0 l) + x l : EReal) := by
  have h : l.val < 16 * 64 := l.isLt
  show (if l.val < 16 * 64 then _ else _) = _
  rw [if_pos h]; rfl

theorem addRow_row1 (x : Fin 1024 → Ideal .f32) (B : S3x1024.Idx → Ideal .f32) (l : Fin 1024) :
    addRow 64 x B (ix2 1 l) = (B (ix2 1 l) + x l * x l : EReal) := by
  have h : l.val < 16 * 64 := l.isLt
  show (if l.val < 16 * 64 then _ else _) = _
  rw [if_pos h]; rfl

theorem addRow_row2 (x : Fin 1024 → Ideal .f32) (B : S3x1024.Idx → Ideal .f32) (l : Fin 1024) :
    addRow 64 x B (ix2 2 l) = B (ix2 2 l) := by
  have h : l.val < 16 * 64 := l.isLt
  show (if l.val < 16 * 64 then _ else _) = _
  rw [if_pos h]; rfl

variable (hM : ∀ n, Mv n = ((μ n : ℝ) : EReal)) (h01 : ∀ n, μ n = 0 ∨ μ n = 1) (hX : ∀ n l, Xs n l = ((ξ n l : ℝ) : EReal))

include hM h01 hX

/-- The first row of sums is the sum of the rows whose mask is set. -/
theorem accN_row0 (l : Fin 1024) (hA : A (ix2 0 l) = ((0 : ℝ) : EReal)) :
    ∀ n, accN A Mv Xs n (ix2 0 l) = ((∑ t ∈ Finset.range n, ξ t l * μ t : ℝ) : EReal)
  | 0 => by rw [Finset.sum_range_zero]; exact hA
  | n + 1 => by
    have ih := accN_row0 l hA n
    rw [Finset.sum_range_succ]
    rcases h01 n with h | h
    · have hn : ¬ hit (Mv n) := by rw [hM, h]; exact not_hit_zero
      simp only [accN, if_neg hn]
      rw [ih, h, mul_zero, add_zero]
    · have hn : hit (Mv n) := by rw [hM, h]; exact hit_one
      simp only [accN, if_pos hn]
      rw [addRow_row0, ih, hX, h, mul_one, EReal.coe_add]

/-- The second row of sums is the sum of their squares. -/
theorem accN_row1 (l : Fin 1024) (hA : A (ix2 1 l) = ((0 : ℝ) : EReal)) :
    ∀ n, accN A Mv Xs n (ix2 1 l) = ((∑ t ∈ Finset.range n, ξ t l * ξ t l * μ t : ℝ) : EReal)
  | 0 => by rw [Finset.sum_range_zero]; exact hA
  | n + 1 => by
    have ih := accN_row1 l hA n
    rw [Finset.sum_range_succ]
    rcases h01 n with h | h
    · have hn : ¬ hit (Mv n) := by rw [hM, h]; exact not_hit_zero
      simp only [accN, if_neg hn]
      rw [ih, h, mul_zero, add_zero]
    · have hn : hit (Mv n) := by rw [hM, h]; exact hit_one
      simp only [accN, if_pos hn]
      rw [addRow_row1, ih, hX, h, mul_one, EReal.coe_add, EReal.coe_mul]

omit hM h01 hX in
/-- The third row stays. -/
theorem accN_row2 (l : Fin 1024) : ∀ n, accN A Mv Xs n (ix2 2 l) = A (ix2 2 l)
  | 0 => rfl
  | n + 1 => by
    have ih := accN_row2 l n
    by_cases hn : hit (Mv n)
    · simp only [accN, if_pos hn]; rw [addRow_row2, ih]
    · simp only [accN, if_neg hn]; exact ih

omit h01 hX in
/-- A lane's count is the sum of its mask values. -/
theorem cnt_real (l : ℕ) : ∀ k, cnt Mv k l = ((∑ j ∈ Finset.range k, μ (16 * j + l) : ℝ) : EReal)
  | 0 => by rw [Finset.sum_range_zero]; exact ofBits_zero
  | k + 1 => by
    have ih := cnt_real l k
    rw [Finset.sum_range_succ, EReal.coe_add, ← ih, ← hM]
    rfl

omit h01 hX in
/-- The third row's lanes together count the set tokens. -/
theorem cntN_total : ∑ l : Fin 1024, (cntN Mv 64 (ix2 2 l) : EReal) = ((∑ t ∈ Finset.range 1024, μ t : ℝ) : EReal) := by
  have e : ∀ l : Fin 1024, (cntN Mv 64 (ix2 2 l) : EReal) = ((if l.val < 16 then ∑ j ∈ Finset.range 64, μ (16 * j + l.val) else 0 : ℝ) : EReal) := by
    intro l
    show (if (2 : ℕ) = 2 ∧ l.val < 16 then cnt Mv 64 l.val else zf) = _
    by_cases h : l.val < 16
    · rw [if_pos ⟨rfl, h⟩, if_pos h]; exact cnt_real Mv μ hM l.val 64
    · rw [if_neg (fun h' => h h'.2), if_neg h]; exact ofBits_zero
  rw [Finset.sum_congr rfl fun l _ => e l, ← coe_sum]
  congr 1
  rw [← Finset.sum_range (fun l => if l < 16 then ∑ j ∈ Finset.range 64, μ (16 * j + l) else 0), ← Finset.sum_filter]
  have ef : (Finset.range 1024).filter (fun l => l < 16) = Finset.range 16 := by
    ext l; simp only [Finset.mem_filter, Finset.mem_range]; omega
  rw [ef, Finset.sum_comm]
  exact sum_blocks 16 μ 64

end Acc

end Cert.Proof.Bn

end
-- ==== Proof.Total.lean ====
/-
  The kernel's result over the extended reals, as sums over all tokens.
-/
module

public import proofs.«01_k».proof.Proof.Sums

@[expose] public section

noncomputable section

namespace Cert.Proof.Bn

open Cert.KernelIdeal Cert.KernelIdeal.Gen
open Idealize.ShloMosaic Idealize.ShloMosaic.ValueIdx

/-! ## Tokens by number -/

/-- Token `n`'s batch and place in it. -/
def tb (n : ℕ) : Fin 4 := Fin.ofNat 4 (n / 8192)
def ts (n : ℕ) : Fin 8192 := Fin.ofNat 8192 n

theorem tb_val {n : ℕ} (h : n < 32768) : (tb n).val = n / 8192 := by
  show n / 8192 % 4 = _; omega
theorem ts_val (n : ℕ) : (ts n).val = n % 8192 := rfl

/-- Token `n`'s mask as a number, and its row. -/
def mu (b : S4x8192.Idx → BitVec 1) (n : ℕ) : ℝ := if b (ix2 (tb n) (ts n)) = 1#1 then 1 else 0
def xi (x : S4x8192x1024.Idx → ℝ) (n : ℕ) (l : Fin 1024) : ℝ := x (ix3 (tb n) (ts n) l)

theorem mu_01 (b : S4x8192.Idx → BitVec 1) (n : ℕ) : mu b n = 0 ∨ mu b n = 1 := by
  unfold mu; split
  · right; rfl
  · left; rfl

/-- A mask bit read as a float. -/
theorem bit_real (c : BitVec 1) : ((c.toNat : ℝ) : EReal) = ((if c = 1#1 then 1 else 0 : ℝ) : EReal) := by
  rcases BitVec.eq_zero_or_eq_one c with h | h <;> subst h <;> simp

theorem maskV_apply (b : S4x8192.Idx → BitVec 1) (k : Fin 32768) : maskV (F := Ideal) b (ix1 k) = ((mu b k.val : ℝ) : EReal) := by
  have e : shapeCast S32768 b shapeCasts_S4x8192_S32768 (ix1 k) = b (ix2 (tb k.val) (ts k.val)) := by
    refine shapeCast_apply b _ (ix1 k) (ix2 (tb k.val) (ts k.val)) ?_
    refine (Shape.rowMajor_val_two (d := S4x8192.size) _).trans (Eq.trans ?_ (Shape.rowMajor_val_one (d := S32768.size) _).symm)
    show (tb k.val).val * 8192 + (ts k.val).val = k.val
    rw [tb_val k.isLt, ts_val]; omega
  show (((shapeCast S32768 b shapeCasts_S4x8192_S32768 (ix1 k)).toNat : ℝ) : EReal) = _
  rw [e, bit_real]; rfl

theorem rowsV_apply (a : S4x8192x1024.Idx → Ideal .f32) (k : Fin 32768) (l : Fin 1024) :
    rowsV a (ix2 k l) = a (ix3 (tb k.val) (ts k.val) l) := by
  refine shapeCast_apply a _ (ix2 k l) (ix3 (tb k.val) (ts k.val) l) ?_
  refine (Shape.rowMajor_val_three (d := S4x8192x1024.size) _).trans (Eq.trans ?_ (Shape.rowMajor_val_two (d := S32768x1024.size) _).symm)
  show ((tb k.val).val * 8192 + (ts k.val).val) * 1024 + l.val = k.val * 1024 + l.val
  rw [tb_val k.isLt, ts_val]; omega

theorem parV_apply (a : S1024.Idx → Ideal .f32) (l : Fin 1024) : parV a (ix2 0 l) = a (ix1 l) := by
  refine shapeCast_apply a _ (ix2 0 l) (ix1 l) ?_
  refine (Shape.rowMajor_val_one (d := S1024.size) _).trans (Eq.trans ?_ (Shape.rowMajor_val_two (d := S1x1024.size) _).symm)
  show l.val = 0 * 1024 + l.val
  omega

/-! ## A task's sums -/

section Sums

variable (b : S4x8192.Idx → BitVec 1) (a : S4x8192x1024.Idx → Ideal .f32) (x : S4x8192x1024.Idx → ℝ) (ha : ∀ p, a p = ((x p : ℝ) : EReal))

theorem base_coOf (w : Fin 32) : base (coOf w) = 1024 * w.val := by
  show 2048 * (w.val / 2) + 1024 * (w.val % 2) = _
  omega

theorem ofNat_token (w : Fin 32) (t : ℕ) (h : t < 1024) : (Fin.ofNat 32768 (base (coOf w) + t)).val = 1024 * w.val + t := by
  have := w.isLt
  rw [base_coOf]
  show (1024 * w.val + t) % 32768 = _
  omega

theorem mvOf_real (w : Fin 32) (t : ℕ) : mvOf (coOf w) (maskV (F := Ideal) b) t = ((mu b (Fin.ofNat 32768 (base (coOf w) + t)).val : ℝ) : EReal) :=
  maskV_apply b _

include ha in
theorem xsOf_real (w : Fin 32) (t : ℕ) (l : Fin 1024) :
    xsOf (coOf w) (rowsV a) t l = ((xi x (Fin.ofNat 32768 (base (coOf w) + t)).val l : ℝ) : EReal) := by
  show rowsV a (ix2 _ l) = _
  rw [rowsV_apply, ha]; rfl

include ha in
/-- Task `w`'s sum of its set rows. -/
theorem sums0 (w : Fin 32) (l : Fin 1024) : sumsV (maskV b) (rowsV a) (ix3 w 0 l)
    = ((∑ t : Fin 1024, xi x (1024 * w.val + t.val) l * mu b (1024 * w.val + t.val) : ℝ) : EReal) := by
  refine (accN_row0 _ _ (fun t => mu b (Fin.ofNat 32768 (base (coOf w) + t)).val) (fun t l => xi x (Fin.ofNat 32768 (base (coOf w) + t)).val l) _
    (mvOf_real b w) (fun t => mu_01 b _) (xsOf_real a x ha w) l ofBits_zero 1024).trans ?_
  rw [Finset.sum_range]
  exact congrArg _ (Finset.sum_congr rfl fun t _ => by rw [ofNat_token w t.val t.isLt])

include ha in
/-- Task `w`'s sum of their squares. -/
theorem sums1 (w : Fin 32) (l : Fin 1024) : sumsV (maskV b) (rowsV a) (ix3 w 1 l)
    = ((∑ t : Fin 1024, xi x (1024 * w.val + t.val) l * xi x (1024 * w.val + t.val) l * mu b (1024 * w.val + t.val) : ℝ) : EReal) := by
  refine (accN_row1 _ _ (fun t => mu b (Fin.ofNat 32768 (base (coOf w) + t)).val) (fun t l => xi x (Fin.ofNat 32768 (base (coOf w) + t)).val l) _
    (mvOf_real b w) (fun t => mu_01 b _) (xsOf_real a x ha w) l ofBits_zero 1024).trans ?_
  rw [Finset.sum_range]
  exact congrArg _ (Finset.sum_congr rfl fun t _ => by rw [ofNat_token w t.val t.isLt])

/-- Task `w`'s count, over its lanes. -/
theorem sums2 (w : Fin 32) : ∑ l : Fin 1024, (sumsV (maskV b) (rowsV a) (ix3 w 2 l) : EReal)
    = ((∑ t : Fin 1024, mu b (1024 * w.val + t.val) : ℝ) : EReal) := by
  have e : ∀ l : Fin 1024, (sumsV (maskV b) (rowsV a) (ix3 w 2 l) : EReal) = cntN (mvOf (coOf w) (maskV b)) 64 (ix2 2 l) :=
    fun l => accN_row2 _ _ _ l 1024
  rw [Finset.sum_congr rfl fun l _ => e l]
  refine (cntN_total _ (fun t => mu b (Fin.ofNat 32768 (base (coOf w) + t)).val) (mvOf_real b w)).trans ?_
  rw [Finset.sum_range]
  exact congrArg _ (Finset.sum_congr rfl fun t _ => by rw [ofNat_token w t.val t.isLt])

/-! ## The sums over all tasks -/

/-- How many tokens are set, and over these the lanes' sums and sums of squares. -/
def cN : ℝ := ∑ n ∈ Finset.range 32768, mu b n
def cS (l : Fin 1024) : ℝ := ∑ n ∈ Finset.range 32768, xi x n l * mu b n
def cQ (l : Fin 1024) : ℝ := ∑ n ∈ Finset.range 32768, xi x n l * xi x n l * mu b n

include ha in
theorem total0 (l : Fin 1024) : ∑ w : Fin 32, (sumsV (maskV b) (rowsV a) (ix3 w 0 l) : EReal) = ((cS b x l : ℝ) : EReal) := by
  rw [Finset.sum_congr rfl fun w _ => sums0 b a x ha w l, ← coe_sum]
  exact congrArg _ (sum_blocks_fin 32 1024 fun n => xi x n l * mu b n)

include ha in
theorem total1 (l : Fin 1024) : ∑ w : Fin 32, (sumsV (maskV b) (rowsV a) (ix3 w 1 l) : EReal) = ((cQ b x l : ℝ) : EReal) := by
  rw [Finset.sum_congr rfl fun w _ => sums1 b a x ha w l, ← coe_sum]
  exact congrArg _ (sum_blocks_fin 32 1024 fun n => xi x n l * xi x n l * mu b n)

theorem total2 : ∑ w : Fin 32, ∑ l : Fin 1024, (sumsV (maskV b) (rowsV a) (ix3 w 2 l) : EReal) = ((cN b : ℝ) : EReal) := by
  rw [Finset.sum_congr rfl fun w _ => sums2 b a w, ← coe_sum]
  exact congrArg _ (sum_blocks_fin 32 1024 fun n => mu b n)

end Sums

/-! ## The TensorCore call -/

theorem drop_row (v : S32x1x1024.Idx → Ideal .f32) (w : Fin 32) (l : Fin 1024) :
    shapeCast S32x1024 v shapeCasts_S32x1x1024_S32x1024 (ix2 w l) = v (ix3 w 0 l) := by
  refine shapeCast_apply v _ (ix2 w l) (ix3 w 0 l) ?_
  refine (Shape.rowMajor_val_three (d := S32x1x1024.size) _).trans (Eq.trans ?_ (Shape.rowMajor_val_two (d := S32x1024.size) _).symm)
  show (w.val * 1 + 0) * 1024 + l.val = w.val * 1024 + l.val
  omega

/-- A lane's sum over the tasks. -/
theorem colSum (v : S32x1x1024.Idx → Ideal .f32) (l : Fin 1024) :
    shapeCast S1x1024 (multiReduction .add [0] S1024 (shapeCast S32x1024 v shapeCasts_S32x1x1024_S32x1024) 0x00000000#32 reduces_S32x1024_S1024 (.inl rfl) rfl)
      shapeCasts_S1024_S1x1024 (ix2 0 l) = (∑ w : Fin 32, v (ix3 w 0 l) : EReal) := by
  refine (parV_apply _ l).trans ?_
  show (∑ i ∈ Finset.univ.filter (fun i => (reduces_S32x1024_S1024 : S32x1024.Reduces [0] S1024).drop i = ix1 l), shapeCast S32x1024 v shapeCasts_S32x1x1024_S32x1024 i : EReal) = _
  have hd : ∀ i : S32x1024.Idx, (reduces_S32x1024_S1024 : S32x1024.Reduces [0] S1024).drop i = ix1 (i 1) := fun i => by
    funext c
    match c with | ⟨0, _⟩ => exact Fin.ext (Shape.Reduces.drop_val _ i 0)
  refine Finset.sum_nbij' (fun i => i 0) (fun w => ix2 w l) ?_ ?_ ?_ ?_ ?_
  · intro i _; exact Finset.mem_univ _
  · intro w _; exact Finset.mem_filter.mpr ⟨Finset.mem_univ _, hd _⟩
  · intro i hi
    have h := (hd i).symm.trans (Finset.mem_filter.mp hi).2
    have h1 : i 1 = l := congrFun h 0
    rw [← h1]; exact (eq_ix2 i).symm
  · intro w _; rfl
  · intro i hi
    have h := (hd i).symm.trans (Finset.mem_filter.mp hi).2
    have h1 : i 1 = l := congrFun h 0
    rw [← h1]; exact (congrArg _ (eq_ix2 i)).trans (drop_row v (i 0) (i 1))

/-- The sum over the tasks and the lanes. -/
theorem pay1_eq (v : S32x1x1024.Idx → Ideal .f32) : k1_pay1 (F := Ideal) v = (∑ w : Fin 32, ∑ l : Fin 1024, v (ix3 w 0 l) : EReal) := by
  have e : ∀ (u : S1.Idx → Ideal .f32), extractAt ![0, 0, 0] (shapeCast S1x1x1 u shapeCasts_S1_S1x1x1) inpos_S1x1x1_p0_0_0 = u (ix1 0) := fun u => by
    refine shapeCast_apply u _ _ (ix1 0) ?_
    have n1 : S1.numel = 1 := by decide
    have n2 : S1x1x1.numel = 1 := by decide
    refine (Nat.lt_one_iff.mp (lt_of_lt_of_eq (Fin.isLt _) n1)).trans (Nat.lt_one_iff.mp (lt_of_lt_of_eq (Fin.isLt _) n2)).symm
  refine (e _).trans ?_
  have es : ∀ (w : Fin 32) (l : Fin 1024), shapeCast S1x32x1024 (shapeCast S32x1024 v shapeCasts_S32x1x1024_S32x1024) shapeCasts_S32x1024_S1x32x1024 (ix3 0 w l)
      = v (ix3 w 0 l) := fun w l => by
    refine (shapeCast_apply _ _ (ix3 0 w l) (ix2 w l) ?_).trans (drop_row v w l)
    refine (Shape.rowMajor_val_two (d := S32x1024.size) _).trans (Eq.trans ?_ (Shape.rowMajor_val_three (d := S1x32x1024.size) _).symm)
    show w.val * 1024 + l.val = (0 * 32 + w.val) * 1024 + l.val
    omega
  show (∑ i ∈ Finset.univ.filter (fun i => (reduces_S1x32x1024_S1 : S1x32x1024.Reduces [1, 2] S1).drop i = ix1 0),
      shapeCast S1x32x1024 (shapeCast S32x1024 v shapeCasts_S32x1x1024_S32x1024) shapeCasts_S32x1024_S1x32x1024 i : EReal) = _
  have hd : ∀ i : S1x32x1024.Idx, (reduces_S1x32x1024_S1 : S1x32x1024.Reduces [1, 2] S1).drop i = ix1 0 := fun i => by
    funext c
    match c with | ⟨0, _⟩ => exact Subsingleton.elim (α := Fin 1) _ _
  have h0 : ∀ i : S1x32x1024.Idx, ix3 0 (i 1) (i 2) = i := fun i => by
    have e0 : i 0 = (0 : Fin 1) := Subsingleton.elim (α := Fin 1) _ _
    exact (congrArg (fun z => ix3 z (i 1) (i 2)) e0.symm).trans (eq_ix3 i).symm
  rw [← Fintype.sum_prod_type']
  refine Finset.sum_nbij' (fun i => (i 1, i 2)) (fun q => ix3 0 q.1 q.2) ?_ ?_ ?_ ?_ ?_
  · intro i _; exact Finset.mem_univ _
  · intro q _; exact Finset.mem_filter.mpr ⟨Finset.mem_univ _, hd _⟩
  · intro i _; exact h0 i
  · intro q _; rfl
  · intro i _
    exact (congrArg _ (h0 i).symm).trans (es (i 1) (i 2))

/-- The mean the call forms. -/
theorem pay2_apply (v0 v8 : S32x1x1024.Idx → Ideal .f32) (l : Fin 1024) :
    k1_pay2 (F := Ideal) v0 v8 (ix2 0 l) = Ideal.div (∑ w : Fin 32, v0 (ix3 w 0 l) : EReal) (∑ w : Fin 32, ∑ l : Fin 1024, v8 (ix3 w 0 l) : EReal) := by
  rw [← colSum v0 l, ← pay1_eq v8]
  rfl

/-- The scale. -/
theorem pay3_apply (v0 v4 v8 : S32x1x1024.Idx → Ideal .f32) (g : S1x1024.Idx → Ideal .f32) (l : Fin 1024) :
    k1_pay3 (F := Ideal) v0 v4 v8 g (ix2 0 l) = (g (ix2 0 l) * Ideal.rsqrt (Ideal.div (∑ w : Fin 32, v4 (ix3 w 0 l) : EReal) (∑ w : Fin 32, ∑ l : Fin 1024, v8 (ix3 w 0 l) : EReal)
      - k1_pay2 (F := Ideal) v0 v8 (ix2 0 l) * k1_pay2 (F := Ideal) v0 v8 (ix2 0 l) + Ideal.ofBits .f32 0x3727C5AC#32) : EReal) := by
  rw [← colSum v4 l, ← pay1_eq v8]
  have e : shapeCast S1x1024 g shapeCasts_S1x1024_S1x1024 = g := shapeCast_self _ _
  conv_rhs => rw [← e]
  rfl

/-- The shift. -/
theorem pay4_apply (v0 v4 v8 : S32x1x1024.Idx → Ideal .f32) (g h : S1x1024.Idx → Ideal .f32) (l : Fin 1024) :
    k1_pay4 (F := Ideal) v0 v4 v8 g h (ix2 0 l) = (h (ix2 0 l) - k1_pay2 (F := Ideal) v0 v8 (ix2 0 l) * k1_pay3 (F := Ideal) v0 v4 v8 g (ix2 0 l) : EReal) := by
  have e : shapeCast S1x1024 h shapeCasts_S1x1024_S1x1024 = h := shapeCast_self _ _
  conv_rhs => rw [← e]
  rfl

/-! ## The whole result -/

/-- The mean, and the scale, of a lane. -/
def meanE (b : S4x8192.Idx → BitVec 1) (x : S4x8192x1024.Idx → ℝ) (l : Fin 1024) : EReal :=
  Ideal.div ((cS b x l : ℝ) : EReal) ((cN b : ℝ) : EReal)
def scaleE (b : S4x8192.Idx → BitVec 1) (x : S4x8192x1024.Idx → ℝ) (g : EReal) (l : Fin 1024) : EReal :=
  g * Ideal.rsqrt (Ideal.div ((cQ b x l : ℝ) : EReal) ((cN b : ℝ) : EReal) - meanE b x l * meanE b x l + Ideal.ofBits .f32 0x3727C5AC#32)

/-- What the kernel leaves: a set token's row is scaled and shifted, another's stays. -/
theorem outV_apply (a0 : S4x8192x1024.Idx → Ideal .f32) (b : S4x8192.Idx → BitVec 1) (a2 a3 : S1024.Idx → Ideal .f32)
    (x : S4x8192x1024.Idx → ℝ) (ha : ∀ p, a0 p = ((x p : ℝ) : EReal)) (q : Fin 4) (s : Fin 8192) (l : Fin 1024) :
    outV a0 b a2 a3 (ix3 q s l)
      = if b (ix2 q s) = 1#1 then (a0 (ix3 q s l) * scaleE b x (a2 (ix1 l)) l + (a3 (ix1 l) - meanE b x l * scaleE b x (a2 (ix1 l)) l) : EReal)
        else a0 (ix3 q s l) := by
  have hq := q.isLt
  have hs := s.isLt
  have hk : 8192 * q.val + s.val < 32768 := by omega
  have etb : tb (8192 * q.val + s.val) = q := Fin.ext (by rw [tb_val hk]; omega)
  have ets : ts (8192 * q.val + s.val) = s := Fin.ext (by rw [ts_val]; omega)
  have e : outV a0 b a2 a3 (ix3 q s l) = normV (maskV b) (rowsV a0) (scaleV (sumsV (maskV b) (rowsV a0)) (parV a2))
      (shiftV (sumsV (maskV b) (rowsV a0)) (parV a2) (parV a3)) (ix2 ⟨8192 * q.val + s.val, hk⟩ l) := by
    refine shapeCast_apply _ _ (ix3 q s l) (ix2 ⟨8192 * q.val + s.val, hk⟩ l) ?_
    refine (Shape.rowMajor_val_two (d := S32768x1024.size) _).trans (Eq.trans ?_ (Shape.rowMajor_val_three (d := S4x8192x1024.size) _).symm)
    show (8192 * q.val + s.val) * 1024 + l.val = (q.val * 8192 + s.val) * 1024 + l.val
    omega
  have em : k1_pay2 (F := Ideal) (plane 0 (sumsV (maskV b) (rowsV a0))) (plane 2 (sumsV (maskV b) (rowsV a0))) (ix2 0 l) = meanE b x l := by
    rw [pay2_apply]
    exact congrArg₂ Ideal.div (total0 b a0 x ha l) (total2 b a0)
  have esc : scaleV (sumsV (maskV b) (rowsV a0)) (parV a2) (ix2 0 l) = scaleE b x (a2 (ix1 l)) l := by
    unfold scaleV
    rw [pay3_apply, em, parV_apply]
    exact congrArg (fun z => a2 (ix1 l) * Ideal.rsqrt (z - meanE b x l * meanE b x l + Ideal.ofBits .f32 0x3727C5AC#32))
      (congrArg₂ Ideal.div (total1 b a0 x ha l) (total2 b a0))
  have esh : shiftV (sumsV (maskV b) (rowsV a0)) (parV a2) (parV a3) (ix2 0 l) = (a3 (ix1 l) - meanE b x l * scaleE b x (a2 (ix1 l)) l : EReal) := by
    unfold shiftV
    rw [pay4_apply, em, parV_apply]
    exact congrArg (fun z => a3 (ix1 l) - meanE b x l * z) esc
  have er : rowsV a0 (ix2 ⟨8192 * q.val + s.val, hk⟩ l) = a0 (ix3 q s l) := by
    rw [rowsV_apply, etb, ets]
  have eh : maskV (F := Ideal) b (ix1 ⟨8192 * q.val + s.val, hk⟩) = ((if b (ix2 q s) = 1#1 then 1 else 0 : ℝ) : EReal) := by
    rw [maskV_apply]; unfold mu; rw [etb, ets]
  rw [e]
  by_cases h : b (ix2 q s) = 1#1
  · have hh : hit (maskV (F := Ideal) b (ix1 ⟨8192 * q.val + s.val, hk⟩)) := by rw [eh, if_pos h]; exact hit_one
    rw [if_pos h]
    refine (if_pos hh).trans ?_
    show (rowsV a0 (ix2 ⟨8192 * q.val + s.val, hk⟩ l) * scaleV (sumsV (maskV b) (rowsV a0)) (parV a2) (ix2 0 l)
      + shiftV (sumsV (maskV b) (rowsV a0)) (parV a2) (parV a3) (ix2 0 l) : EReal) = _
    rw [er, esc, esh]
  · have hh : ¬ hit (maskV (F := Ideal) b (ix1 ⟨8192 * q.val + s.val, hk⟩)) := by rw [eh, if_neg h]; exact not_hit_zero
    rw [if_neg h]
    exact (if_neg hh).trans er

end Cert.Proof.Bn

end
-- ==== Proof.RefVal.lean ====
/-
  The reference's result over the extended reals, element by element.
-/
module

public import proofs.«01_k».proof.Proof.Total
public import proofs.«01_k».proof.Proof.Gen.ReferenceIdeal
public import proofs.«01_k».proof.Proof.Gen.ReferenceIdeal.Run

@[expose] public section

noncomputable section

namespace Cert.Proof.Bn

open Cert.ReferenceIdeal Cert.ReferenceIdeal.Gen
open Idealize.ShloMosaic Idealize.ShloMosaic.ValueIdx

/-! ## The reference's parts -/

/-- A per-token array, spread over the lanes. -/
def tokB {A : Type} (v : S4x8192.Idx → A) : S4x8192x1024.Idx → A :=
  broadcastInDim S4x8192x1024 ![0, 1, 2] bcast_S4x8192x1_S4x8192x1024_0_1_2 (broadcastInDim S4x8192x1 ![0, 1] bcast_S4x8192_S4x8192x1_0_1 v)

/-- A per-lane array, spread over the tokens. -/
def laneB {A : Type} (v : S1024.Idx → A) : S4x8192x1024.Idx → A :=
  broadcastInDim S4x8192x1024 ![0, 1, 2] bcast_S1x1x1024_S4x8192x1024_0_1_2 (broadcastInDim S1x1x1024 ![2] bcast_S1024_S1x1x1024_2 v)

/-- The count, spread over the lanes. -/
def rN (b : S4x8192.Idx → BitVec 1) : FVec Ideal S1024 .f32 :=
  broadcastInDim S1024 ![] bcast_S_S1024 (Host.reduceAdd (broadcastInDim S4x8192x1 ![0, 1] bcast_S4x8192_S4x8192x1_0_1 (uitofp .f32 b))
    (constant S_ .f32 0x00000000#32) reducesTo_S4x8192x1_S_d0_1_2 h_S_)

/-- A sum over the tokens. -/
def rSum (v : FVec Ideal S4x8192x1024 .f32) : FVec Ideal S1024 .f32 :=
  Host.reduceAdd v (constant S_ .f32 0x00000000#32) reducesTo_S4x8192x1024_S1024_d0_1 h_S_

/-- The mean. -/
def rMean (a : FVec Ideal S4x8192x1024 .f32) (b : S4x8192.Idx → BitVec 1) : FVec Ideal S1024 .f32 :=
  Host.divf (rSum (mulf a (tokB (uitofp .f32 b)))) (rN b)

/-- The deviations from it. -/
def rDev (a : FVec Ideal S4x8192x1024 .f32) (b : S4x8192.Idx → BitVec 1) : FVec Ideal S4x8192x1024 .f32 :=
  subf a (laneB (rMean a b))

/-- The variance. -/
def rVar (a : FVec Ideal S4x8192x1024 .f32) (b : S4x8192.Idx → BitVec 1) : FVec Ideal S1024 .f32 :=
  Host.divf (rSum (mulf (mulf (rDev a b) (rDev a b)) (tokB (uitofp .f32 b)))) (rN b)

/-- The reference's result. -/
def rOut (a : FVec Ideal S4x8192x1024 .f32) (b : S4x8192.Idx → BitVec 1) (g h : FVec Ideal S1024 .f32) : FVec Ideal S4x8192x1024 .f32 :=
  select (tokB b) (addf (mulf (Host.divf (rDev a b) (laneB (Host.sqrt (addf (rVar a b) (broadcastInDim S1024 ![] bcast_S_S1024 (constant S_ .f32 0x3727C5AC#32))))))
    (laneB g)) (laneB h)) a

/-! ## Each at an index -/

theorem tokB_apply {A : Type} (v : S4x8192.Idx → A) (q : Fin 4) (s : Fin 8192) (l : Fin 1024) : tokB v (ix3 q s l) = v (ix2 q s) := by
  unfold tokB
  refine (broadcastInDim_apply _ _ _ (ix3 q s l) (ix3 q s 0) ?_).trans (broadcastInDim_apply _ _ _ (ix3 q s 0) (ix2 q s) ?_)
  · intro c
    match c with | ⟨0, _⟩ => rfl | ⟨1, _⟩ => rfl | ⟨2, _⟩ => rfl
  · intro c
    match c with | ⟨0, _⟩ => rfl | ⟨1, _⟩ => rfl

theorem laneB_apply {A : Type} (v : S1024.Idx → A) (q : Fin 4) (s : Fin 8192) (l : Fin 1024) : laneB v (ix3 q s l) = v (ix1 l) := by
  unfold laneB
  refine (broadcastInDim_apply _ _ _ (ix3 q s l) (ix3 0 0 l) ?_).trans (broadcastInDim_apply _ _ _ (ix3 0 0 l) (ix1 l) ?_)
  · intro c
    match c with | ⟨0, _⟩ => rfl | ⟨1, _⟩ => rfl | ⟨2, _⟩ => rfl
  · intro c
    match c with | ⟨0, _⟩ => rfl

/-- A sum over the tokens, as a sum over the batches and their places. -/
theorem rSum_apply (v : FVec Ideal S4x8192x1024 .f32) (l : Fin 1024) :
    rSum v (ix1 l) = (∑ q : Fin 4, ∑ s : Fin 8192, v (ix3 q s l) : EReal) := by
  show (Ideal.ofBits .f32 0x00000000#32 + ∑ i ∈ Finset.univ.filter (fun i => (reducesTo_S4x8192x1024_S1024_d0_1 : S4x8192x1024.ReducesTo [0, 1] S1024).drop i = ix1 l), v i : EReal) = _
  rw [ofBits_zero, EReal.coe_zero, zero_add]
  have hd : ∀ i : S4x8192x1024.Idx, (reducesTo_S4x8192x1024_S1024_d0_1 : S4x8192x1024.ReducesTo [0, 1] S1024).drop i = ix1 (i 2) := fun i => by
    funext c
    match c with | ⟨0, _⟩ => exact Fin.ext (Shape.ReducesTo.drop_apply_val_of_eq _ i 0 2)
  have hl : ∀ i ∈ Finset.univ.filter (fun i => (reducesTo_S4x8192x1024_S1024_d0_1 : S4x8192x1024.ReducesTo [0, 1] S1024).drop i = ix1 l), ix3 (i 0) (i 1) l = i := fun i hi => by
    have h1 : i 2 = l := congrFun ((hd i).symm.trans (Finset.mem_filter.mp hi).2) 0
    exact (congrArg (fun z => ix3 (i 0) (i 1) z) h1.symm).trans (eq_ix3 i).symm
  rw [← Fintype.sum_prod_type']
  refine Finset.sum_nbij' (fun i => (i 0, i 1)) (fun p => ix3 p.1 p.2 l) ?_ ?_ ?_ ?_ ?_
  · intro i _; exact Finset.mem_univ _
  · intro p _; exact Finset.mem_filter.mpr ⟨Finset.mem_univ _, hd _⟩
  · exact hl
  · intro p _; rfl
  · intro i hi
    exact congrArg v (hl i hi).symm

/-- A sum over the tokens, by number. -/
theorem tokSum (f : ℕ → ℝ) (u : Fin 4 → Fin 8192 → EReal) (h : ∀ q s, u q s = ((f (8192 * q.val + s.val) : ℝ) : EReal)) :
    ∑ q : Fin 4, ∑ s : Fin 8192, u q s = ((∑ n ∈ Finset.range 32768, f n : ℝ) : EReal) := by
  have e : ∀ q : Fin 4, ∑ s : Fin 8192, u q s = ((∑ s : Fin 8192, f (8192 * q.val + s.val) : ℝ) : EReal) := fun q => by
    rw [coe_sum]; exact Finset.sum_congr rfl fun s _ => h q s
  rw [Finset.sum_congr rfl fun q _ => e q, ← coe_sum]
  exact congrArg _ (sum_blocks_fin 4 8192 f)

theorem tb_tok (q : Fin 4) (s : Fin 8192) : tb (8192 * q.val + s.val) = q :=
  Fin.ext (by have := q.isLt; have := s.isLt; rw [tb_val (by omega)]; omega)
theorem ts_tok (q : Fin 4) (s : Fin 8192) : ts (8192 * q.val + s.val) = s :=
  Fin.ext (by have := s.isLt; rw [ts_val]; omega)

/-- The mask as a float at a token. -/
theorem uitofp_tok (b : S4x8192.Idx → BitVec 1) (q : Fin 4) (s : Fin 8192) :
    (uitofp .f32 b : FVec Ideal S4x8192 .f32) (ix2 q s) = ((mu b (8192 * q.val + s.val) : ℝ) : EReal) := by
  refine (bit_real (b (ix2 q s))).trans ?_
  unfold mu; rw [tb_tok, ts_tok]

/-- The reference's count is the number of tokens set. -/
theorem rN_apply (b : S4x8192.Idx → BitVec 1) (l : Fin 1024) : rN b (ix1 l) = ((cN b : ℝ) : EReal) := by
  refine (broadcastInDim_scalar_apply _ _ (ix1 l)).trans ?_
  show (Ideal.ofBits .f32 0x00000000#32 + ∑ i ∈ Finset.univ.filter (fun i => (reducesTo_S4x8192x1_S_d0_1_2 : S4x8192x1.ReducesTo [0, 1, 2] S_).drop i = ix0),
    broadcastInDim S4x8192x1 ![0, 1] bcast_S4x8192_S4x8192x1_0_1 (uitofp .f32 b : FVec Ideal S4x8192 .f32) i : EReal) = _
  rw [ofBits_zero, EReal.coe_zero, zero_add]
  have h0 : ∀ i : S4x8192x1.Idx, ix3 (i 0) (i 1) 0 = i := fun i => by
    have e0 : i 2 = (0 : Fin 1) := Subsingleton.elim (α := Fin 1) _ _
    exact (congrArg (fun z => ix3 (i 0) (i 1) z) e0.symm).trans (eq_ix3 i).symm
  refine Eq.trans ?_ (tokSum (mu b) _ (uitofp_tok b))
  rw [← Fintype.sum_prod_type']
  refine Finset.sum_nbij' (fun i => (i 0, i 1)) (fun p => ix3 p.1 p.2 0) ?_ ?_ ?_ ?_ ?_
  · intro i _; exact Finset.mem_univ _
  · intro p _; exact Finset.mem_filter.mpr ⟨Finset.mem_univ _, funext fun c => c.elim0⟩
  · intro i _; exact h0 i
  · intro p _; rfl
  · intro i _
    refine broadcastInDim_apply _ _ _ i (ix2 (i 0) (i 1)) ?_
    intro c
    match c with | ⟨0, _⟩ => rfl | ⟨1, _⟩ => rfl

section Real

variable (a : FVec Ideal S4x8192x1024 .f32) (b : S4x8192.Idx → BitVec 1) (x : S4x8192x1024.Idx → ℝ) (ha : ∀ p, a p = ((x p : ℝ) : EReal))

include ha in
/-- An input element, by its token's number. -/
theorem a_tok (q : Fin 4) (s : Fin 8192) (l : Fin 1024) : a (ix3 q s l) = ((xi x (8192 * q.val + s.val) l : ℝ) : EReal) := by
  rw [ha]; unfold xi; rw [tb_tok, ts_tok]

include ha in
/-- The reference's mean is the kernel's. -/
theorem rMean_apply (l : Fin 1024) : rMean a b (ix1 l) = meanE b x l := by
  unfold rMean
  rw [hostDivf_apply, rN_apply, rSum_apply]
  refine congrArg (fun z => Ideal.div z ((cN b : ℝ) : EReal)) (tokSum (fun n => xi x n l * mu b n) _ fun q s => ?_)
  show (a (ix3 q s l) * tokB (uitofp .f32 b : FVec Ideal S4x8192 .f32) (ix3 q s l) : EReal) = _
  rw [tokB_apply, uitofp_tok, a_tok a x ha, EReal.coe_mul]

include ha in
/-- A deviation, where the mean is real. -/
theorem rDev_apply (l : Fin 1024) (m : ℝ) (hm : meanE b x l = (m : EReal)) (q : Fin 4) (s : Fin 8192) :
    rDev a b (ix3 q s l) = ((xi x (8192 * q.val + s.val) l - m : ℝ) : EReal) := by
  show (a (ix3 q s l) - laneB (rMean a b) (ix3 q s l) : EReal) = _
  rw [laneB_apply, rMean_apply a b x ha, hm, a_tok a x ha, EReal.coe_sub]

include ha in
/-- The reference's variance, where the mean is real. -/
theorem rVar_apply (l : Fin 1024) (m : ℝ) (hm : meanE b x l = (m : EReal)) :
    rVar a b (ix1 l) = Ideal.div ((∑ n ∈ Finset.range 32768, (xi x n l - m) * (xi x n l - m) * mu b n : ℝ) : EReal) ((cN b : ℝ) : EReal) := by
  unfold rVar
  rw [hostDivf_apply, rN_apply, rSum_apply]
  refine congrArg (fun z => Ideal.div z ((cN b : ℝ) : EReal)) (tokSum (fun n => (xi x n l - m) * (xi x n l - m) * mu b n) _ fun q s => ?_)
  show (rDev a b (ix3 q s l) * rDev a b (ix3 q s l) * tokB (uitofp .f32 b : FVec Ideal S4x8192 .f32) (ix3 q s l) : EReal) = _
  rw [tokB_apply, uitofp_tok, rDev_apply a b x ha l m hm, EReal.coe_mul, EReal.coe_mul]

end Real

/-- An unset token's row stays. -/
theorem rOut_unset (a : FVec Ideal S4x8192x1024 .f32) (b : S4x8192.Idx → BitVec 1) (g h : FVec Ideal S1024 .f32) (q : Fin 4) (s : Fin 8192) (l : Fin 1024)
    (hb : b (ix2 q s) ≠ 1#1) : rOut a b g h (ix3 q s l) = a (ix3 q s l) := by
  have e : tokB b (ix3 q s l) = 0#1 := by
    rw [tokB_apply]; exact (BitVec.eq_zero_or_eq_one _).resolve_right hb
  unfold rOut
  rw [select_apply, e, select_zero]

/-- A set token's row is normalized. -/
theorem rOut_set (a : FVec Ideal S4x8192x1024 .f32) (b : S4x8192.Idx → BitVec 1) (g h : FVec Ideal S1024 .f32) (q : Fin 4) (s : Fin 8192) (l : Fin 1024)
    (hb : b (ix2 q s) = 1#1) : rOut a b g h (ix3 q s l)
      = (Ideal.div (rDev a b (ix3 q s l)) (Ideal.sqrt (rVar a b (ix1 l) + Ideal.ofBits .f32 0x3727C5AC#32)) * g (ix1 l) + h (ix1 l) : EReal) := by
  have e : tokB b (ix3 q s l) = 1#1 := by rw [tokB_apply, hb]
  have es : ∀ (v : FVec Ideal S1024 .f32) (i : S1024.Idx), Host.sqrt v i = Ideal.sqrt (v i) := fun _ _ => rfl
  unfold rOut
  rw [select_apply, e, select_one, addf_apply, mulf_apply, hostDivf_apply, laneB_apply, laneB_apply, laneB_apply, es, addf_apply, broadcastInDim_scalar_apply]
  rfl

end Cert.Proof.Bn

end
-- ==== Proof.Algebraic.lean ====
/-
  The kernel and the reference agree over the extended reals, where the input and gamma are finite.
-/
module

public import proofs.«01_k».proof.Proof.RefVal
public import proofs.«01_k».proof.Proof.Frames
public import proofs.«01_k».proof.Proof.Gen.Pre_finite
public import Idealize.ShloMosaic.Lib.ReduceAll

@[expose] public section

noncomputable section

namespace Cert.Proof.Bn

open Idealize.ShloMosaic Idealize.ShloMosaic.ValueIdx Idealize.SL.Sem

/-! ## What the precondition says -/

theorem ofBits_inf : Ideal.ofBits .f32 0x7F800000#32 = ⊤ := by simp [Ideal.ofBits, Ideal.ieee]

/-- The constant added to the variance is a positive real. -/
theorem eps_real : ∃ e : ℝ, 0 < e ∧ Ideal.ofBits .f32 0x3727C5AC#32 = (e : EReal) := by
  refine ⟨_, ?_, by simp [Ideal.ofBits, Ideal.ieee]; rfl⟩
  norm_num

/-- An extended real whose absolute value is below infinity is real. -/
theorem real_of_abs (z : EReal) (h : Ideal.cmp .olt (max z (-z)) (Ideal.ofBits .f32 0x7F800000#32) = 1#1) : ∃ r : ℝ, z = (r : EReal) := by
  rw [ofBits_inf] at h
  have h2 : max z (-z) < ⊤ := by
    by_contra hn
    simp only [Ideal.cmp, decide_eq_false hn] at h
    exact absurd h (by decide)
  have h3 := (max_lt_iff.mp h2)
  refine ⟨z.toReal, (EReal.coe_toReal (ne_of_lt h3.1) ?_).symm⟩
  rintro rfl
  exact absurd h3.2 (by simp)

instance : Subsingleton Cert.Pre_finite.S_.Idx := ⟨fun _ _ => funext fun c => c.elim0⟩

/-- Under the precondition the input and gamma are real. -/
theorem pre_real (a : Cert.Pre_finite.S4x8192x1024.Idx → Ideal .f32) (b : IVec Cert.Pre_finite.S4x8192 1) (g h : Cert.Pre_finite.S1024.Idx → Ideal .f32)
    (hp : Cert.Pre_finite.fn (F := Ideal) a b g h = fun _ => 1#1) :
    (∃ x : Cert.Pre_finite.S4x8192x1024.Idx → ℝ, ∀ p, a p = ((x p : ℝ) : EReal)) ∧ ∃ y : Cert.Pre_finite.S1024.Idx → ℝ, ∀ p, g p = ((y p : ℝ) : EReal) := by
  have h0 := IntOp.andi_eq_one.mp (congrFun hp ix0)
  have hx : ∀ p, ∃ r : ℝ, a p = (r : EReal) := fun p => by
    have h1 := Host.reduce_andi_all _ _ _ _ ix0 h0.1 p
    rw [cmpf_apply, broadcastInDim_scalar_apply] at h1
    exact real_of_abs _ h1
  have hy : ∀ p, ∃ r : ℝ, g p = (r : EReal) := fun p => by
    have h1 := Host.reduce_andi_all _ _ _ _ ix0 h0.2 p
    rw [cmpf_apply, broadcastInDim_scalar_apply] at h1
    exact real_of_abs _ h1
  exact ⟨⟨fun p => (hx p).choose, fun p => (hx p).choose_spec⟩, ⟨fun p => (hy p).choose, fun p => (hy p).choose_spec⟩⟩

/-! ## The arithmetic -/

/-- The sum of squared deviations, multiplied out. -/
theorem dev_sum (s : Finset ℕ) (f μ : ℕ → ℝ) (m : ℝ) :
    ∑ n ∈ s, (f n - m) * (f n - m) * μ n = ∑ n ∈ s, f n * f n * μ n - 2 * m * ∑ n ∈ s, f n * μ n + m * m * ∑ n ∈ s, μ n := by
  rw [Finset.mul_sum, Finset.mul_sum, ← Finset.sum_sub_distrib, ← Finset.sum_add_distrib]
  exact Finset.sum_congr rfl fun n _ => by ring

/-- Scaling and shifting is subtracting the mean, dividing by the deviation, scaling by gamma and adding beta. -/
theorem affine_eq (x m v g : ℝ) (h : EReal) (hv : 0 < v) :
    ((x : EReal) * ((g : EReal) * Ideal.rsqrt (v : EReal)) + (h - (m : EReal) * ((g : EReal) * Ideal.rsqrt (v : EReal))) : EReal)
      = Ideal.div ((x - m : ℝ) : EReal) (Ideal.sqrt (v : EReal)) * (g : EReal) + h := by
  have hs : Real.sqrt v ≠ 0 := (Real.sqrt_pos.mpr hv).ne'
  rw [Ideal.rsqrt_coe, Ideal.sqrt_coe, if_neg (not_lt.mpr hv.le), if_neg hv.ne', if_neg (not_lt.mpr hv.le), Ideal.div_coe hs,
    ← EReal.coe_mul, ← EReal.coe_mul, ← EReal.coe_mul, ← EReal.coe_mul, ← EReal.coe_mul, sub_eq_add_neg, ← EReal.coe_neg,
    add_comm h, ← add_assoc, ← EReal.coe_add]
  refine congrArg (fun z : ℝ => (z : EReal) + h) ?_
  rw [one_div]; ring

/-- A set token makes the count positive. -/
theorem cN_pos (b : Cert.KernelIdeal.S4x8192.Idx → BitVec 1) (q : Fin 4) (s : Fin 8192) (hb : b (ix2 q s) = 1#1) : 0 < cN b := by
  have hq := q.isLt
  have hs := s.isLt
  refine Finset.sum_pos' (fun n _ => ?_) ⟨8192 * q.val + s.val, Finset.mem_range.mpr (by omega), ?_⟩
  · rcases mu_01 b n with e | e <;> rw [e] <;> norm_num
  · unfold mu; rw [tb_tok, ts_tok, if_pos hb]; exact one_pos

/-- The kernel's result is the reference's, where the input and gamma are real. -/
theorem outV_eq (a : Cert.KernelIdeal.S4x8192x1024.Idx → Ideal .f32) (b : Cert.KernelIdeal.S4x8192.Idx → BitVec 1) (g h : Cert.KernelIdeal.S1024.Idx → Ideal .f32)
    (x : Cert.KernelIdeal.S4x8192x1024.Idx → ℝ) (ha : ∀ p, a p = ((x p : ℝ) : EReal)) (y : Cert.KernelIdeal.S1024.Idx → ℝ) (hg : ∀ p, g p = ((y p : ℝ) : EReal)) :
    outV a b g h = rOut a b g h := by
  have key : ∀ (q : Fin 4) (s : Fin 8192) (l : Fin 1024), outV a b g h (ix3 q s l) = rOut a b g h (ix3 q s l) := fun q s l => by
    rw [outV_apply a b g h x ha]
    by_cases hb : b (ix2 q s) = 1#1
    · rw [if_pos hb, rOut_set a b g h q s l hb]
      have hN := cN_pos b q s hb
      obtain ⟨e, he, hE⟩ := eps_real
      have hm : meanE b x l = ((cS b x l * (1 / cN b) : ℝ) : EReal) := by
        unfold meanE; rw [Ideal.div_coe hN.ne', EReal.coe_mul]
      have hV : (∑ n ∈ Finset.range 32768, (xi x n l - cS b x l * (1 / cN b)) * (xi x n l - cS b x l * (1 / cN b)) * mu b n) * (1 / cN b)
          = cQ b x l * (1 / cN b) - cS b x l * (1 / cN b) * (cS b x l * (1 / cN b)) := by
        rw [dev_sum]
        show (cQ b x l - 2 * (cS b x l * (1 / cN b)) * cS b x l + cS b x l * (1 / cN b) * (cS b x l * (1 / cN b)) * cN b) * (1 / cN b) = _
        field_simp
        ring
      have hV0 : 0 ≤ cQ b x l * (1 / cN b) - cS b x l * (1 / cN b) * (cS b x l * (1 / cN b)) := by
        rw [← hV]
        refine mul_nonneg (Finset.sum_nonneg fun n _ => mul_nonneg (mul_self_nonneg _) ?_) (one_div_pos.mpr hN).le
        rcases mu_01 b n with e | e <;> rw [e] <;> norm_num
      rw [rDev_apply a b x ha l _ hm, rVar_apply a b x ha l _ hm, Ideal.div_coe hN.ne', ← EReal.coe_mul, hV, hE, ← EReal.coe_add]
      unfold scaleE
      rw [hm, Ideal.div_coe hN.ne', ← EReal.coe_mul, ← EReal.coe_mul, ← EReal.coe_sub, hE, ← EReal.coe_add, a_tok a x ha, hg]
      exact affine_eq _ _ _ _ _ (add_pos_of_nonneg_of_pos hV0 he)
    · rw [if_neg hb, rOut_unset a b g h q s l hb]
  funext p
  exact (congrArg (outV a b g h) (eq_ix3 p)).trans ((key (p 0) (p 1) (p 2)).trans (congrArg (rOut a b g h) (eq_ix3 p)).symm)

/-! ## The claims under the precondition -/

/-- The idealized kernel's frame, under the precondition. -/
theorem frame_kernelIdeal_finite : Cert.quiescent_KernelIdeal_pre_finite := fun m ρ _ =>
  frame_kernelIdeal m ρ trivial

/-- The idealized reference's. -/
theorem frame_referenceIdeal_finite : Cert.quiescent_ReferenceIdeal_pre_finite := fun m ρ _ =>
  frame_referenceIdeal m ρ trivial

/-- From the same finite arguments the kernel and the reference leave the same result. -/
theorem algebraic : Cert.algebraic_KernelIdeal_ReferenceIdeal_pre_finite := by
  intro m ρ m' ρ' hp hm
  refine ⟨fun c => gO m c, (θ_run Cert.KernelIdeal.defs _ _).mono
    (fun _ h c => ⟨(h.1 c).2.2.2.2, (h.1 c).1, (h.1 c).2.1, (h.1 c).2.2.1, (h.1 c).2.2.2.1⟩) (run_main (F := Ideal) m ρ),
    (θ_run Cert.ReferenceIdeal.defs _ _).mono (fun r h c => ⟨(h c).1.trans ?_, (h c).2⟩) (Cert.ReferenceIdeal.Value.run (F := Ideal) m' ρ')⟩
  obtain ⟨⟨x, hx⟩, ⟨y, hy⟩⟩ := pre_real _ _ _ _ (hp c)
  rw [(hm c).1, (hm c).2.1, (hm c).2.2.1, (hm c).2.2.2]
  exact (outV_eq _ _ _ _ x hx y hy).symm

end Cert.Proof.Bn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  Bn.frame_kernel, Bn.frame_kernelIdeal, Bn.frame_kernelIdeal_finite, Bn.frame_referenceIdeal, Bn.frame_referenceIdeal_finite, trivial, Bn.algebraic⟩

end Cert.Proof

end
